-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 [hPre_experts : Cert.Pre_experts.Facts] (m : (ℓ : Loc Cert.Kernel2.nD Cert.Kernel2.τ Cert.Kernel2.sig) → Buf (Elt Bits) ℓ) : Prop :=
  ∀ c : Dev Cert.Kernel2.nD,
    (Cert.Pre_experts.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_experts : Cert.Pre_experts.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Kernel2Ideal_routed [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2 = (fun _ => 1#1)

def Pre_Kernel2Ideal_dispatched [hPre_dispatched : Cert.Pre_dispatched.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_dispatched.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_dispatched.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_dispatched.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_dispatched [hPre_dispatched : Cert.Pre_dispatched.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_dispatched.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_dispatched.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_dispatched.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_experts : Cert.Pre_experts.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_experts : Cert.Pre_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_routed [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_routed m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_dispatched [hKernel2Ideal : Cert.Kernel2Ideal.Facts] [hPre_dispatched : Cert.Pre_dispatched.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_dispatched m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_dispatched [hReference3Ideal : Cert.Reference3Ideal.Facts] [hPre_dispatched : Cert.Pre_dispatched.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_dispatched m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "scale_log2e" .f32 0x3E38AA3B#32 (((8 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_routed [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_routed m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def algebraic_Kernel2Ideal_Reference3Ideal_pre_dispatched [hKernel2Ideal : Cert.Kernel2Ideal.Facts] [hReference3Ideal : Cert.Reference3Ideal.Facts] [hPre_dispatched : Cert.Pre_dispatched.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel2Ideal_dispatched m →
    (∀ c : Dev Cert.Kernel2Ideal.nD,
      m' ((c.tc : Thread Cert.Reference3Ideal.nD Cert.Reference3Ideal.τ).loc Cert.Reference3Ideal.main_arg0) = m ((c.tc : Thread Cert.Kernel2Ideal.nD Cert.Kernel2Ideal.τ).loc Cert.Kernel2Ideal.main_arg0)
      ∧ m' ((c.tc : Thread Cert.Reference3Ideal.nD Cert.Reference3Ideal.τ).loc Cert.Reference3Ideal.main_arg1) = m ((c.tc : Thread Cert.Kernel2Ideal.nD Cert.Kernel2Ideal.τ).loc Cert.Kernel2Ideal.main_arg1)
      ∧ m' ((c.tc : Thread Cert.Reference3Ideal.nD Cert.Reference3Ideal.τ).loc Cert.Reference3Ideal.main_arg2) = m ((c.tc : Thread Cert.Kernel2Ideal.nD Cert.Kernel2Ideal.τ).loc Cert.Kernel2Ideal.main_arg2)
      ∧ m' ((c.tc : Thread Cert.Reference3Ideal.nD Cert.Reference3Ideal.τ).loc Cert.Reference3Ideal.main_arg3) = m ((c.tc : Thread Cert.Kernel2Ideal.nD Cert.Kernel2Ideal.τ).loc Cert.Kernel2Ideal.main_arg3)
      ∧ m' ((c.tc : Thread Cert.Reference3Ideal.nD Cert.Reference3Ideal.τ).loc Cert.Reference3Ideal.main_arg4) = m ((c.tc : Thread Cert.Kernel2Ideal.nD Cert.Kernel2Ideal.τ).loc Cert.Kernel2Ideal.main_arg4)
      ∧ m' ((c.tc : Thread Cert.Reference3Ideal.nD Cert.Reference3Ideal.τ).loc Cert.Reference3Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hReference3Ideal : Cert.Reference3Ideal.Facts) (hPre_finite : Cert.Pre_finite.Facts) (hPre_experts : Cert.Pre_experts.Facts) (hPre_routed : Cert.Pre_routed.Facts) (hPre_dispatched : Cert.Pre_dispatched.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_experts := hPre_experts)
    ∧ quiescent_Kernel2Ideal (hKernel2Ideal := hKernel2Ideal) (hPre_experts := hPre_experts)
    ∧ quiescent_Kernel2Ideal_pre_routed (hKernel2Ideal := hKernel2Ideal) (hPre_routed := hPre_routed)
    ∧ quiescent_Kernel2Ideal_pre_dispatched (hKernel2Ideal := hKernel2Ideal) (hPre_dispatched := hPre_dispatched)
    ∧ quiescent_Reference2Ideal (hReference2Ideal := hReference2Ideal)
    ∧ quiescent_Reference2Ideal_pre_routed (hReference2Ideal := hReference2Ideal) (hPre_routed := hPre_routed)
    ∧ quiescent_Reference3Ideal (hReference3Ideal := hReference3Ideal)
    ∧ quiescent_Reference3Ideal_pre_dispatched (hReference3Ideal := hReference3Ideal) (hPre_dispatched := hPre_dispatched)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_routed (hKernel2Ideal := hKernel2Ideal) (hReference2Ideal := hReference2Ideal) (hPre_routed := hPre_routed)
    ∧ algebraic_Kernel2Ideal_Reference3Ideal_pre_dispatched (hKernel2Ideal := hKernel2Ideal) (hReference3Ideal := hReference3Ideal) (hPre_dispatched := hPre_dispatched)
-- ==== Pre_dispatched.lean ====
abbrev S25 : Shape := ⟨1, ![25]⟩
abbrev S51200x1024 : Shape := ⟨2, ![51200, 1024]⟩
abbrev S8x1024x2816 : Shape := ⟨3, ![8, 1024, 2816]⟩
abbrev S8x2816x1024 : Shape := ⟨3, ![8, 2816, 1024]⟩
abbrev S2048 : Shape := ⟨1, ![2048]⟩
abbrev S1x2048x1 : Shape := ⟨3, ![1, 2048, 1]⟩
abbrev S25x1x1 : Shape := ⟨3, ![25, 1, 1]⟩
abbrev S25x2048x1 : Shape := ⟨3, ![25, 2048, 1]⟩
abbrev S_ : Shape := ⟨0, ![]⟩
abbrev S25x2048x1024 : Shape := ⟨3, ![25, 2048, 1024]⟩

class Facts : Prop where
  bcast_S2048_S1x2048x1_1 : S2048.BroadcastsInDim S1x2048x1 (![1] : Fin 1 → Fin S1x2048x1.rank)
  bcast_S25_S25x1x1_0 : S25.BroadcastsInDim S25x1x1 (![0] : Fin 1 → Fin S25x1x1.rank)
  bcast_S1x2048x1_S25x2048x1_0_1_2 : S1x2048x1.BroadcastsInDim S25x2048x1 (![0, 1, 2] : Fin 3 → Fin S25x2048x1.rank)
  bcast_S25x1x1_S25x2048x1_0_1_2 : S25x1x1.BroadcastsInDim S25x2048x1 (![0, 1, 2] : Fin 3 → Fin S25x2048x1.rank)
  bcast_S_S25 : S_.BroadcastsInDim S25 (![] : Fin 0 → Fin S25.rank)
  shapeCasts_S51200x1024_S25x2048x1024 : S51200x1024.ShapeCasts S25x2048x1024
  bcast_S_S25x2048x1024 : S_.BroadcastsInDim S25x2048x1024 (![] : Fin 0 → Fin S25x2048x1024.rank)
  bcast_S25x2048x1_S25x2048x1024_0_1_2 : S25x2048x1.BroadcastsInDim S25x2048x1024 (![0, 1, 2] : Fin 3 → Fin S25x2048x1024.rank)

variable [Facts]

def fn {F : FTy → Type} [FloatOps F] (main_arg0 : IVec S25 32) (main_arg1 : IVec S25 32) (main_arg2 : FVec F S51200x1024 .f32) (main_arg3 : FVec F S8x1024x2816 .f32) (main_arg4 : FVec F S8x1024x2816 .f32) (main_arg5 : FVec F S8x2816x1024 .f32) : IVec S25 1 × IVec S25 1 × IVec S25x2048x1024 1 :=
  let main_v0 : IVec S2048 32 := iotaInDim S2048 32 0
  let main_v1 : IVec S1x2048x1 32 := broadcastInDim S1x2048x1 ![1] bcast_S2048_S1x2048x1_1 main_v0
  let main_v2 : IVec S25x1x1 32 := broadcastInDim S25x1x1 ![0] bcast_S25_S25x1x1_0 main_arg1
  let main_v3 : IVec S25x2048x1 32 := broadcastInDim S25x2048x1 ![0, 1, 2] bcast_S1x2048x1_S25x2048x1_0_1_2 main_v1
  let main_v4 : IVec S25x2048x1 32 := broadcastInDim S25x2048x1 ![0, 1, 2] bcast_S25x1x1_S25x2048x1_0_1_2 main_v2
  let main_v5 : IVec S25x2048x1 1 := cmpi .slt main_v3 main_v4
  let main_c : IVec S_ 32 := constantI S_ 32 0#32
  let main_v6 : IVec S25 32 := broadcastInDim S25 ![] bcast_S_S25 main_c
  let main_v7 : IVec S25 1 := cmpi .sge main_arg0 main_v6
  let main_c_0 : IVec S_ 32 := constantI S_ 32 8#32
  let main_v8 : IVec S25 32 := broadcastInDim S25 ![] bcast_S_S25 main_c_0
  let main_v9 : IVec S25 1 := cmpi .slt main_arg0 main_v8
  let main_v10 : IVec S25 1 := andi main_v7 main_v9
  let main_c_1 : IVec S_ 32 := constantI S_ 32 2048#32
  let main_v11 : IVec S25 32 := broadcastInDim S25 ![] bcast_S_S25 main_c_1
  let main_v12 : IVec S25 1 := cmpi .sle main_arg1 main_v11
  let main_v13 : FVec F S25x2048x1024 .f32 := shapeCast S25x2048x1024 main_arg2 shapeCasts_S51200x1024_S25x2048x1024
  let main_cst : FVec F S_ .f32 := constant S_ .f32 0x00000000#32
  let main_v14 : FVec F S25x2048x1024 .f32 := broadcastInDim S25x2048x1024 ![] bcast_S_S25x2048x1024 main_cst
  let main_v15 : IVec S25x2048x1024 1 := cmpf .oeq main_v13 main_v14
  let main_v16 : IVec S25x2048x1024 1 := broadcastInDim S25x2048x1024 ![0, 1, 2] bcast_S25x2048x1_S25x2048x1024_0_1_2 main_v5
  let main_v17 : IVec S25x2048x1024 1 := ori main_v16 main_v15
  (main_v10, main_v12, main_v17)
-- ==== Pre_experts.lean ====
abbrev S25 : Shape := ⟨1, ![25]⟩
abbrev S51200x1024 : Shape := ⟨2, ![51200, 1024]⟩
abbrev S8x1024x2816 : Shape := ⟨3, ![8, 1024, 2816]⟩
abbrev S8x2816x1024 : Shape := ⟨3, ![8, 2816, 1024]⟩
abbrev S_ : Shape := ⟨0, ![]⟩

class Facts : Prop where
  bcast_S_S25 : S_.BroadcastsInDim S25 (![] : Fin 0 → Fin S25.rank)

variable [Facts]

def fn {F : FTy → Type} [FloatOps F] (main_arg0 : IVec S25 32) (main_arg1 : IVec S25 32) (main_arg2 : FVec F S51200x1024 .f32) (main_arg3 : FVec F S8x1024x2816 .f32) (main_arg4 : FVec F S8x1024x2816 .f32) (main_arg5 : FVec F S8x2816x1024 .f32) : IVec S25 1 :=
  let main_c : IVec S_ 32 := constantI S_ 32 0#32
  let main_v0 : IVec S25 32 := broadcastInDim S25 ![] bcast_S_S25 main_c
  let main_v1 : IVec S25 1 := cmpi .sge main_arg0 main_v0
  let main_c_0 : IVec S_ 32 := constantI S_ 32 8#32
  let main_v2 : IVec S25 32 := broadcastInDim S25 ![] bcast_S_S25 main_c_0
  let main_v3 : IVec S25 1 := cmpi .slt main_arg0 main_v2
  let main_v4 : IVec S25 1 := andi main_v1 main_v3
  main_v4
-- ==== Pre_finite.lean ====
abbrev S17408x512 : Shape := ⟨2, ![17408, 512]⟩
abbrev S8x257 : Shape := ⟨2, ![8, 257]⟩
abbrev S512 : Shape := ⟨1, ![512]⟩
abbrev S16384x512 : Shape := ⟨2, ![16384, 512]⟩
abbrev S_ : Shape := ⟨0, ![]⟩

class Facts : Prop where
  slices_S17408x512_S16384x512_0_0 : S17408x512.Slices ![0, 0] S16384x512
  bcast_S_S16384x512 : S_.BroadcastsInDim S16384x512 (![] : Fin 0 → Fin S16384x512.rank)
  bcast_S_S8x257 : S_.BroadcastsInDim S8x257 (![] : Fin 0 → Fin S8x257.rank)

variable [Facts]

def fn {F : FTy → Type} [FloatOps F] (main_arg0 : FVec F S17408x512 .f32) (main_arg1 : FVec F S17408x512 .f32) (main_arg2 : FVec F S17408x512 .f32) (main_arg3 : FVec F S8x257 .f32) (main_arg4 : FVec F S512 .f32) : IVec S16384x512 1 × IVec S16384x512 1 × IVec S8x257 1 :=
  let main_v0 : FVec F S16384x512 .f32 := (extractStridedSlice S16384x512 ![0, 0] · slices_S17408x512_S16384x512_0_0) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_v4 : FVec F S16384x512 .f32 := (extractStridedSlice S16384x512 ![0, 0] · slices_S17408x512_S16384x512_0_0) main_arg1
  let main_v5 : FVec F S16384x512 .f32 := Host.absf main_v4
  let main_cst_0 : FVec F S_ .f32 := constant S_ .f32 0x7F800000#32
  let main_v6 : FVec F S16384x512 .f32 := broadcastInDim S16384x512 ![] bcast_S_S16384x512 main_cst_0
  let main_v7 : IVec S16384x512 1 := cmpf .olt main_v5 main_v6
  let main_v8 : FVec F S8x257 .f32 := Host.absf main_arg3
  let main_cst_1 : FVec F S_ .f32 := constant S_ .f32 0x7F800000#32
  let main_v9 : FVec F S8x257 .f32 := broadcastInDim S8x257 ![] bcast_S_S8x257 main_cst_1
  let main_v10 : IVec S8x257 1 := cmpf .olt main_v8 main_v9
  (main_v3, main_v7, main_v10)
-- ==== Pre_routed.lean ====
abbrev S25 : Shape := ⟨1, ![25]⟩
abbrev S51200x1024 : Shape := ⟨2, ![51200, 1024]⟩
abbrev S8x1024x2816 : Shape := ⟨3, ![8, 1024, 2816]⟩
abbrev S8x2816x1024 : Shape := ⟨3, ![8, 2816, 1024]⟩
abbrev S_ : Shape := ⟨0, ![]⟩

class Facts : Prop where
  bcast_S_S25 : S_.BroadcastsInDim S25 (![] : Fin 0 → Fin S25.rank)

variable [Facts]

def fn {F : FTy → Type} [FloatOps F] (main_arg0 : IVec S25 32) (main_arg1 : IVec S25 32) (main_arg2 : FVec F S51200x1024 .f32) (main_arg3 : FVec F S8x1024x2816 .f32) (main_arg4 : FVec F S8x1024x2816 .f32) (main_arg5 : FVec F S8x2816x1024 .f32) : IVec S25 1 × IVec S25 1 :=
  let main_c : IVec S_ 32 := constantI S_ 32 0#32
  let main_v0 : IVec S25 32 := broadcastInDim S25 ![] bcast_S_S25 main_c
  let main_v1 : IVec S25 1 := cmpi .sge main_arg0 main_v0
  let main_c_0 : IVec S_ 32 := constantI S_ 32 8#32
  let main_v2 : IVec S25 32 := broadcastInDim S25 ![] bcast_S_S25 main_c_0
  let main_v3 : IVec S25 1 := cmpi .slt main_arg0 main_v2
  let main_v4 : IVec S25 1 := andi main_v1 main_v3
  let main_c_1 : IVec S_ 32 := constantI S_ 32 2048#32
  let main_v5 : IVec S25 32 := broadcastInDim S25 ![] bcast_S_S25 main_c_1
  let main_v6 : IVec S25 1 := cmpi .sle main_arg1 main_v5
  (main_v4, main_v6)
-- ==== Kernel.lean ====
abbrev S17408x512 : Shape := ⟨2, ![17408, 512]⟩
abbrev S8x257 : Shape := ⟨2, ![8, 257]⟩
abbrev S512 : Shape := ⟨1, ![512]⟩
abbrev S1023 : Shape := ⟨1, ![1023]⟩
abbrev S_ : Shape := ⟨0, ![]⟩
abbrev S1023x1 : Shape := ⟨2, ![1023, 1]⟩
abbrev S8x1023 : Shape := ⟨2, ![8, 1023]⟩
abbrev S8x1024 : Shape := ⟨2, ![8, 1024]⟩
abbrev S1x512 : Shape := ⟨2, ![1, 512]⟩
abbrev S16384x512 : Shape := ⟨2, ![16384, 512]⟩
abbrev S1024x512 : Shape := ⟨2, ![1024, 512]⟩
abbrev S256x512 : Shape := ⟨2, ![256, 512]⟩
abbrev S8x256x768 : Shape := ⟨3, ![8, 256, 768]⟩
abbrev S256x768 : Shape := ⟨2, ![256, 768]⟩
abbrev S1x1024 : Shape := ⟨2, ![1, 1024]⟩
abbrev S256x1024 : Shape := ⟨2, ![256, 1024]⟩
abbrev S1x256x768 : Shape := ⟨3, ![1, 256, 768]⟩
abbrev S1x128 : Shape := ⟨2, ![1, 128]⟩
abbrev S256x128 : Shape := ⟨2, ![256, 128]⟩
abbrev S1024x128 : Shape := ⟨2, ![1024, 128]⟩
abbrev S256x256 : Shape := ⟨2, ![256, 256]⟩
abbrev S1x256x256 : Shape := ⟨3, ![1, 256, 256]⟩
abbrev S512x128 : Shape := ⟨2, ![512, 128]⟩
abbrev S512x256 : Shape := ⟨2, ![512, 256]⟩
abbrev S768x128 : Shape := ⟨2, ![768, 128]⟩
abbrev S768x256 : Shape := ⟨2, ![768, 256]⟩
abbrev S256 : Shape := ⟨1, ![256]⟩
abbrev S256x1 : Shape := ⟨2, ![256, 1]⟩
abbrev S512x1 : Shape := ⟨2, ![512, 1]⟩
abbrev S768x1 : Shape := ⟨2, ![768, 1]⟩
abbrev S1024 : Shape := ⟨1, ![1024]⟩
abbrev S1024x1 : Shape := ⟨2, ![1024, 1]⟩

abbrev nBuf : Space → Nat
  | .hbm => 36
  | .vmem => 31
  | .smem => 0
  | _ => 0

abbrev bufTy : (tb : Table) → Fin (tcTables nBuf tb) → BufTy
  | .hbm, ⟨0, _⟩ => ⟨S17408x512, .f32⟩
  | .hbm, ⟨1, _⟩ => ⟨S17408x512, .f32⟩
  | .hbm, ⟨2, _⟩ => ⟨S17408x512, .f32⟩
  | .hbm, ⟨3, _⟩ => ⟨S8x257, .f32⟩
  | .hbm, ⟨4, _⟩ => ⟨S512, .f32⟩
  | .hbm, ⟨5, _⟩ => ⟨S1023, .i32⟩
  | .hbm, ⟨6, _⟩ => ⟨S_, .i32⟩
  | .hbm, ⟨7, _⟩ => ⟨S1023, .i32⟩
  | .hbm, ⟨8, _⟩ => ⟨S1023, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S1023, .i32⟩
  | .hbm, ⟨13, _⟩ => ⟨S1023, .i32⟩
  | .hbm, ⟨14, _⟩ => ⟨S_, .i32⟩
  | .hbm, ⟨15, _⟩ => ⟨S1023, .i32⟩
  | .hbm, ⟨16, _⟩ => ⟨S1023, .i32⟩
  | .hbm, ⟨17, _⟩ => ⟨S_, .i32⟩
  | .hbm, ⟨18, _⟩ => ⟨S1023, .i32⟩
  | .hbm, ⟨19, _⟩ => ⟨S1023, .i32⟩
  | .hbm, ⟨20, _⟩ => ⟨S_, .i32⟩
  | .hbm, ⟨21, _⟩ => ⟨S1023, .i32⟩
  | .hbm, ⟨22, _⟩ => ⟨S1023, .i1⟩
  | .hbm, ⟨23, _⟩ => ⟨S_, .i32⟩
  | .hbm, ⟨24, _⟩ => ⟨S1023, .i32⟩
  | .hbm, ⟨25, _⟩ => ⟨S1023, .i32⟩
  | .hbm, ⟨26, _⟩ => ⟨S1023, .i32⟩
  | .hbm, ⟨27, _⟩ => ⟨S1023x1, .i32⟩
  | .hbm, ⟨28, _⟩ => ⟨S8x1023, .f32⟩
  | .hbm, ⟨29, _⟩ => ⟨S_, .i32⟩
  | .hbm, ⟨30, _⟩ => ⟨S_, .f32⟩
  | .hbm, ⟨31, _⟩ => ⟨S8x1024, .f32⟩
  | .hbm, ⟨32, _⟩ => ⟨S17408x512, .bf16⟩
  | .hbm, ⟨33, _⟩ => ⟨S17408x512, .bf16⟩
  | .hbm, ⟨34, _⟩ => ⟨S1x512, .f32⟩
  | .hbm, ⟨35, _⟩ => ⟨S16384x512, .bf16⟩
  | .local _ .vmem, ⟨0, _⟩ => ⟨S1024x512, .f32⟩
  | .local _ .vmem, ⟨1, _⟩ => ⟨S1024x512, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S8x1024, .f32⟩
  | .local _ .vmem, ⟨27, _⟩ => ⟨S1x512, .f32⟩
  | .local _ .vmem, ⟨28, _⟩ => ⟨S1024x512, .bf16⟩
  | .local _ .vmem, ⟨29, _⟩ => ⟨S1024x512, .bf16⟩
  | .local _ .vmem, ⟨30, _⟩ => ⟨S8x256x768, .f32⟩
  | _, _ => ⟨S17408x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v3 : Ref sig .tc := ⟨.hbm, 16, rfl⟩
abbrev main_c_2 : Ref sig .tc := ⟨.hbm, 17, rfl⟩
abbrev main_v4 : Ref sig .tc := ⟨.hbm, 18, rfl⟩
abbrev main_v5 : Ref sig .tc := ⟨.hbm, 19, rfl⟩
abbrev main_c_3 : Ref sig .tc := ⟨.hbm, 20, rfl⟩
abbrev main_v6 : Ref sig .tc := ⟨.hbm, 21, rfl⟩
abbrev main_v7 : Ref sig .tc := ⟨.hbm, 22, rfl⟩
abbrev main_c_4 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c_5 : Ref sig .tc := ⟨.hbm, 29, rfl⟩
abbrev main_call1_v0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg15_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c1_i32 : BitVec 32 := 1#32
  let v5 : BitVec 1 := Scalar.cmpi .sge arg1 c1_i32
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c1_i32_3 : BitVec 32 := 1#32
  let v8 : BitVec 1 := Scalar.cmpi .slt arg1 c1_i32_3
  let v11 : BitVec 32 := Scalar.extui v8
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli c4_i32 arg1
  let c2_i32 : BitVec 32 := 2#32
  let v2 : BitVec 32 := Scalar.subi v1 c2_i32
  let c0_i32 : BitVec 32 := 0#32
  let v3 : BitVec 32 := Scalar.addi v2 c0_i32
  let c0_i32_0 : BitVec 32 := 0#32
  let v4 : BitVec 32 := Scalar.maxsi v3 c0_i32_0
  let v5 : BitVec 32 := Scalar.addi v0 v4
  let c0_i32_1 : BitVec 32 := 0#32
  let c0_i32_2 : BitVec 32 := 0#32
  ![v5.toNat, c0_i32_1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli c4_i32 arg1
  let c2_i32 : BitVec 32 := 2#32
  let v2 : BitVec 32 := Scalar.subi v1 c2_i32
  let c1_i32 : BitVec 32 := 1#32
  let v3 : BitVec 32 := Scalar.addi v2 c1_i32
  let c0_i32 : BitVec 32 := 0#32
  let v4 : BitVec 32 := Scalar.maxsi v3 c0_i32
  let v5 : BitVec 32 := Scalar.addi v0 v4
  let c0_i32_0 : BitVec 32 := 0#32
  let c0_i32_1 : BitVec 32 := 0#32
  ![v5.toNat, c0_i32_0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli c4_i32 arg1
  let c2_i32 : BitVec 32 := 2#32
  let v2 : BitVec 32 := Scalar.subi v1 c2_i32
  let c2_i32_0 : BitVec 32 := 2#32
  let v3 : BitVec 32 := Scalar.addi v2 c2_i32_0
  let c0_i32 : BitVec 32 := 0#32
  let v4 : BitVec 32 := Scalar.maxsi v3 c0_i32
  let v5 : BitVec 32 := Scalar.addi v0 v4
  let c0_i32_1 : BitVec 32 := 0#32
  let c0_i32_2 : BitVec 32 := 0#32
  ![v5.toNat, c0_i32_1.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli c4_i32 arg1
  let c2_i32 : BitVec 32 := 2#32
  let v2 : BitVec 32 := Scalar.subi v1 c2_i32
  let c3_i32 : BitVec 32 := 3#32
  let v3 : BitVec 32 := Scalar.addi v2 c3_i32
  let c0_i32 : BitVec 32 := 0#32
  let v4 : BitVec 32 := Scalar.maxsi v3 c0_i32
  let v5 : BitVec 32 := Scalar.addi v0 v4
  let c0_i32_0 : BitVec 32 := 0#32
  let c0_i32_1 : BitVec 32 := 0#32
  ![v5.toNat, c0_i32_0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli c4_i32 arg1
  let c2_i32 : BitVec 32 := 2#32
  let v2 : BitVec 32 := Scalar.subi v1 c2_i32
  let c4_i32_0 : BitVec 32 := 4#32
  let v3 : BitVec 32 := Scalar.addi v2 c4_i32_0
  let c0_i32 : BitVec 32 := 0#32
  let v4 : BitVec 32 := Scalar.maxsi v3 c0_i32
  let v5 : BitVec 32 := Scalar.addi v0 v4
  let c0_i32_1 : BitVec 32 := 0#32
  let c0_i32_2 : BitVec 32 := 0#32
  ![v5.toNat, c0_i32_1.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli c4_i32 arg1
  let c2_i32 : BitVec 32 := 2#32
  let v2 : BitVec 32 := Scalar.subi v1 c2_i32
  let c5_i32 : BitVec 32 := 5#32
  let v3 : BitVec 32 := Scalar.addi v2 c5_i32
  let c0_i32 : BitVec 32 := 0#32
  let v4 : BitVec 32 := Scalar.maxsi v3 c0_i32
  let v5 : BitVec 32 := Scalar.addi v0 v4
  let c0_i32_0 : BitVec 32 := 0#32
  let c0_i32_1 : BitVec 32 := 0#32
  ![v5.toNat, c0_i32_0.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli c4_i32 arg1
  let c2_i32 : BitVec 32 := 2#32
  let v2 : BitVec 32 := Scalar.subi v1 c2_i32
  let c0_i32 : BitVec 32 := 0#32
  let v3 : BitVec 32 := Scalar.addi v2 c0_i32
  let c0_i32_0 : BitVec 32 := 0#32
  let v4 : BitVec 32 := Scalar.maxsi v3 c0_i32_0
  let v5 : BitVec 32 := Scalar.addi v0 v4
  let c0_i32_1 : BitVec 32 := 0#32
  let c0_i32_2 : BitVec 32 := 0#32
  ![v5.toNat, c0_i32_1.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli c4_i32 arg1
  let c2_i32 : BitVec 32 := 2#32
  let v2 : BitVec 32 := Scalar.subi v1 c2_i32
  let c1_i32 : BitVec 32 := 1#32
  let v3 : BitVec 32 := Scalar.addi v2 c1_i32
  let c0_i32 : BitVec 32 := 0#32
  let v4 : BitVec 32 := Scalar.maxsi v3 c0_i32
  let v5 : BitVec 32 := Scalar.addi v0 v4
  let c0_i32_0 : BitVec 32 := 0#32
  let c0_i32_1 : BitVec 32 := 0#32
  ![v5.toNat, c0_i32_0.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli c4_i32 arg1
  let c2_i32 : BitVec 32 := 2#32
  let v2 : BitVec 32 := Scalar.subi v1 c2_i32
  let c2_i32_0 : BitVec 32 := 2#32
  let v3 : BitVec 32 := Scalar.addi v2 c2_i32_0
  let c0_i32 : BitVec 32 := 0#32
  let v4 : BitVec 32 := Scalar.maxsi v3 c0_i32
  let v5 : BitVec 32 := Scalar.addi v0 v4
  let c0_i32_1 : BitVec 32 := 0#32
  let c0_i32_2 : BitVec 32 := 0#32
  ![v5.toNat, c0_i32_1.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli c4_i32 arg1
  let c2_i32 : BitVec 32 := 2#32
  let v2 : BitVec 32 := Scalar.subi v1 c2_i32
  let c3_i32 : BitVec 32 := 3#32
  let v3 : BitVec 32 := Scalar.addi v2 c3_i32
  let c0_i32 : BitVec 32 := 0#32
  let v4 : BitVec 32 := Scalar.maxsi v3 c0_i32
  let v5 : BitVec 32 := Scalar.addi v0 v4
  let c0_i32_0 : BitVec 32 := 0#32
  let c0_i32_1 : BitVec 32 := 0#32
  ![v5.toNat, c0_i32_0.toNat]

def cc0_transform_11 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli c4_i32 arg1
  let c2_i32 : BitVec 32 := 2#32
  let v2 : BitVec 32 := Scalar.subi v1 c2_i32
  let c4_i32_0 : BitVec 32 := 4#32
  let v3 : BitVec 32 := Scalar.addi v2 c4_i32_0
  let c0_i32 : BitVec 32 := 0#32
  let v4 : BitVec 32 := Scalar.maxsi v3 c0_i32
  let v5 : BitVec 32 := Scalar.addi v0 v4
  let c0_i32_1 : BitVec 32 := 0#32
  let c0_i32_2 : BitVec 32 := 0#32
  ![v5.toNat, c0_i32_1.toNat]

def cc0_transform_12 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli c4_i32 arg1
  let c2_i32 : BitVec 32 := 2#32
  let v2 : BitVec 32 := Scalar.subi v1 c2_i32
  let c5_i32 : BitVec 32 := 5#32
  let v3 : BitVec 32 := Scalar.addi v2 c5_i32
  let c0_i32 : BitVec 32 := 0#32
  let v4 : BitVec 32 := Scalar.maxsi v3 c0_i32
  let v5 : BitVec 32 := Scalar.addi v0 v4
  let c0_i32_0 : BitVec 32 := 0#32
  let c0_i32_1 : BitVec 32 := 0#32
  ![v5.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "scale_log2e" => some (((8 * (Real.log 2))⁻¹ : ℝ) : EReal)
  | _ => none
-- ==== ReferenceIdeal.lean ====
abbrev S17408x512 : Shape := ⟨2, ![17408, 512]⟩
abbrev S8x257 : Shape := ⟨2, ![8, 257]⟩
abbrev S512 : Shape := ⟨1, ![512]⟩
abbrev S16384x512 : Shape := ⟨2, ![16384, 512]⟩
abbrev S2x8192x8x64 : Shape := ⟨4, ![2, 8192, 8, 64]⟩
abbrev S2x128x64x8x64 : Shape := ⟨5, ![2, 128, 64, 8, 64]⟩
abbrev S_ : Shape := ⟨0, ![]⟩
abbrev S2x512x8x64 : Shape := ⟨4, ![2, 512, 8, 64]⟩
abbrev S2x8704x8x64 : Shape := ⟨4, ![2, 8704, 8, 64]⟩
abbrev S2x136x64x8x64 : Shape := ⟨5, ![2, 136, 64, 8, 64]⟩
abbrev S2x128x576x8x64 : Shape := ⟨5, ![2, 128, 576, 8, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S128 : Shape := ⟨1, ![128]⟩
abbrev S128x1 : Shape := ⟨2, ![128, 1]⟩
abbrev S128x576 : Shape := ⟨2, ![128, 576]⟩
abbrev S2x128x8x64x576 : Shape := ⟨5, ![2, 128, 8, 64, 576]⟩
abbrev S1x1x8x64x576 : Shape := ⟨5, ![1, 1, 8, 64, 576]⟩
abbrev S1x128x1x1x576 : Shape := ⟨5, ![1, 128, 1, 1, 576]⟩
abbrev S2x128x8x64 : Shape := ⟨4, ![2, 128, 8, 64]⟩
abbrev S2x128x8x64x1 : Shape := ⟨5, ![2, 128, 8, 64, 1]⟩
abbrev S2x128x8x64x64 : Shape := ⟨5, ![2, 128, 8, 64, 64]⟩
abbrev S16384 : Shape := ⟨1, ![16384]⟩
abbrev S16384x1 : Shape := ⟨2, ![16384, 1]⟩
abbrev S1x512 : Shape := ⟨2, ![1, 512]⟩

abbrev nBuf : Space → Nat
  | .hbm => 146
  | .vmem => 0
  | .smem => 0
  | _ => 0

abbrev hbmTy0_0 (i : Nat) : BufTy := match i % 128 with
  | 0 => ⟨S17408x512, .f32⟩
  | 1 => ⟨S17408x512, .f32⟩
  | 2 => ⟨S17408x512, .f32⟩
  | 3 => ⟨S8x257, .f32⟩
  | 4 => ⟨S512, .f32⟩
  | 5 => ⟨S16384x512, .f32⟩
  | 6 => ⟨S2x8192x8x64, .f32⟩
  | 7 => ⟨S16384x512, .f32⟩
  | 8 => ⟨S2x8192x8x64, .f32⟩
  | 9 => ⟨S16384x512, .f32⟩
  | 10 => ⟨S2x8192x8x64, .f32⟩
  | 11 => ⟨S2x128x64x8x64, .f32⟩
  | 12 => ⟨S_, .f32⟩
  | 13 => ⟨S2x512x8x64, .f32⟩
  | 14 => ⟨S2x8704x8x64, .f32⟩
  | 15 => ⟨S2x136x64x8x64, .f32⟩
  | 16 => ⟨S2x8704x8x64, .f32⟩
  | 17 => ⟨S2x136x64x8x64, .f32⟩
  | 18 => ⟨S2x128x64x8x64, .f32⟩
  | 19 => ⟨S2x128x64x8x64, .f32⟩
  | 20 => ⟨S2x128x64x8x64, .f32⟩
  | 21 => ⟨S2x128x64x8x64, .f32⟩
  | 22 => ⟨S2x128x64x8x64, .f32⟩
  | 23 => ⟨S2x128x64x8x64, .f32⟩
  | 24 => ⟨S2x128x64x8x64, .f32⟩
  | 25 => ⟨S2x128x64x8x64, .f32⟩
  | 26 => ⟨S2x128x64x8x64, .f32⟩
  | 27 => ⟨S2x128x576x8x64, .f32⟩
  | 28 => ⟨S2x128x64x8x64, .f32⟩
  | 29 => ⟨S2x128x64x8x64, .f32⟩
  | 30 => ⟨S2x128x64x8x64, .f32⟩
  | 31 => ⟨S2x128x64x8x64, .f32⟩
  | 32 => ⟨S2x128x64x8x64, .f32⟩
  | 33 => ⟨S2x128x64x8x64, .f32⟩
  | 34 => ⟨S2x128x64x8x64, .f32⟩
  | 35 => ⟨S2x128x64x8x64, .f32⟩
  | 36 => ⟨S2x128x64x8x64, .f32⟩
  | 37 => ⟨S2x128x576x8x64, .f32⟩
  | 38 => ⟨S64, .i32⟩
  | 39 => ⟨S64x1, .i32⟩
  | 40 => ⟨S_, .i32⟩
  | 41 => ⟨S64x1, .i32⟩
  | 42 => ⟨S64x1, .i32⟩
  | 43 => ⟨S576, .i32⟩
  | 44 => ⟨S1x576, .i32⟩
  | 45 => ⟨S64x576, .i32⟩
  | 46 => ⟨S64x576, .i32⟩
  | 47 => ⟨S64x576, .i32⟩
  | 48 => ⟨S_, .i32⟩
  | 49 => ⟨S_, .i32⟩
  | 50 => ⟨S_, .i32⟩
  | 51 => ⟨S64x576, .i32⟩
  | 52 => ⟨S64x576, .i32⟩
  | 53 => ⟨S_, .i32⟩
  | 54 => ⟨S64x576, .i32⟩
  | 55 => ⟨S64x576, .i32⟩
  | 56 => ⟨S_, .i32⟩
  | 57 => ⟨S64x576, .i32⟩
  | 58 => ⟨S64x576, .i32⟩
  | 59 => ⟨S_, .i32⟩
  | 60 => ⟨S64x576, .i32⟩
  | 61 => ⟨S64x576, .i1⟩
  | 62 => ⟨S_, .i32⟩
  | 63 => ⟨S64x576, .i32⟩
  | 64 => ⟨S64x576, .i32⟩
  | 65 => ⟨S64x576, .i32⟩
  | 66 => ⟨S64x576x1, .i32⟩
  | 67 => ⟨S8x64x576, .f32⟩
  | 68 => ⟨S128, .i32⟩
  | 69 => ⟨S128x1, .i32⟩
  | 70 => ⟨S_, .i32⟩
  | 71 => ⟨S128x1, .i32⟩
  | 72 => ⟨S128x1, .i32⟩
  | 73 => ⟨S576, .i32⟩
  | 74 => ⟨S1x576, .i32⟩
  | 75 => ⟨S_, .i32⟩
  | 76 => ⟨S_, .i32⟩
  | 77 => ⟨S1x576, .i32⟩
  | 78 => ⟨S1x576, .i32⟩
  | 79 => ⟨S1x576, .i32⟩
  | 80 => ⟨S_, .i32⟩
  | 81 => ⟨S1x576, .i32⟩
  | 82 => ⟨S1x576, .i1⟩
  | 83 => ⟨S1x576, .i32⟩
  | 84 => ⟨S1x576, .i32⟩
  | 85 => ⟨S_, .i32⟩
  | 86 => ⟨S1x576, .i32⟩
  | 87 => ⟨S1x576, .i1⟩
  | 88 => ⟨S1x576, .i1⟩
  | 89 => ⟨S_, .i32⟩
  | 90 => ⟨S1x576, .i32⟩
  | 91 => ⟨S1x576, .i32⟩
  | 92 => ⟨S1x576, .i32⟩
  | 93 => ⟨S128x576, .i32⟩
  | 94 => ⟨S128x576, .i32⟩
  | 95 => ⟨S128x576, .i32⟩
  | 96 => ⟨S_, .i32⟩
  | 97 => ⟨S128x576, .i32⟩
  | 98 => ⟨S128x576, .i1⟩
  | 99 => ⟨S2x128x8x64x576, .f32⟩
  | 100 => ⟨S_, .f32⟩
  | 101 => ⟨S2x128x8x64x576, .f32⟩
  | 102 => ⟨S2x128x8x64x576, .f32⟩
  | 103 => ⟨S1x1x8x64x576, .f32⟩
  | 104 => ⟨S2x128x8x64x576, .f32⟩
  | 105 => ⟨S2x128x8x64x576, .f32⟩
  | 106 => ⟨S1x128x1x1x576, .i1⟩
  | 107 => ⟨S_, .f32⟩
  | 108 => ⟨S_, .f32⟩
  | 109 => ⟨S2x128x8x64x576, .i1⟩
  | 110 => ⟨S2x128x8x64x576, .f32⟩
  | 111 => ⟨S2x128x8x64x576, .f32⟩
  | 112 => ⟨S_, .f32⟩
  | 113 => ⟨S2x128x8x64, .f32⟩
  | 114 => ⟨S_, .f32⟩
  | 115 => ⟨S2x128x8x64, .f32⟩
  | 116 => ⟨S2x128x8x64, .f32⟩
  | 117 => ⟨S2x128x8x64x1, .f32⟩
  | 118 => ⟨S2x128x8x64x576, .f32⟩
  | 119 => ⟨S2x128x8x64x576, .f32⟩
  | 120 => ⟨S2x128x8x64x576, .f32⟩
  | 121 => ⟨S_, .f32⟩
  | 122 => ⟨S2x128x8x64, .f32⟩
  | 123 => ⟨S2x128x8x64x1, .f32⟩
  | 124 => ⟨S2x128x8x64x576, .f32⟩
  | 125 => ⟨S2x128x8x64x576, .f32⟩
  | 126 => ⟨S2x128x8x64x64, .f32⟩
  | 127 => ⟨S2x128x64x8x64, .f32⟩
  | _ => ⟨S17408x512, .f32⟩

abbrev hbmTy0_1 (i : Nat) : BufTy := match i % 128 with
  | 0 => ⟨S16384x512, .f32⟩
  | 1 => ⟨S16384x512, .f32⟩
  | 2 => ⟨S_, .f32⟩
  | 3 => ⟨S16384, .f32⟩
  | 4 => ⟨S16384x1, .f32⟩
  | 5 => ⟨S_, .f32⟩
  | 6 => ⟨S16384x1, .f32⟩
  | 7 => ⟨S16384x1, .f32⟩
  | 8 => ⟨S_, .f32⟩
  | 9 => ⟨S16384x1, .f32⟩
  | 10 => ⟨S16384x1, .f32⟩
  | 11 => ⟨S16384x1, .f32⟩
  | 12 => ⟨S16384x512, .f32⟩
  | 13 => ⟨S16384x512, .f32⟩
  | 14 => ⟨S1x512, .f32⟩
  | 15 => ⟨S16384x512, .f32⟩
  | 16 => ⟨S16384x512, .f32⟩
  | 17 => ⟨S16384x512, .bf16⟩
  | _ => ⟨S17408x512, .f32⟩

abbrev hbmTy (i : Nat) : BufTy := match i / 128 with
  | 0 => hbmTy0_0 i
  | 1 => hbmTy0_1 i
  | _ => ⟨S17408x512, .f32⟩

abbrev bufTy : (tb : Table) → Fin (tcTables nBuf tb) → BufTy
  | .hbm, ⟨i, _⟩ => hbmTy i
  | _, _ => ⟨S17408x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_c : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_c_0 : Ref sig .tc := ⟨.hbm, 48, rfl⟩
abbrev main_c_1 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_v41 : Ref sig .tc := ⟨.hbm, 55, rfl⟩
abbrev main_c_2 : Ref sig .tc := ⟨.hbm, 56, rfl⟩
abbrev main_v42 : Ref sig .tc := ⟨.hbm, 57, rfl⟩
abbrev main_v43 : Ref sig .tc := ⟨.hbm, 58, rfl⟩
abbrev main_c_3 : Ref sig .tc := ⟨.hbm, 59, rfl⟩
abbrev main_v44 : Ref sig .tc := ⟨.hbm, 60, rfl⟩
abbrev main_v45 : Ref sig .tc := ⟨.hbm, 61, rfl⟩
abbrev main_c_4 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c_5 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c_6 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_v7 : Ref sig .tc := ⟨.hbm, 83, rfl⟩
abbrev main_call1_v8 : Ref sig .tc := ⟨.hbm, 84, rfl⟩
abbrev main_call1_c : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_c_0 : Ref sig .tc := ⟨.hbm, 89, rfl⟩
abbrev main_call1_v12 : Ref sig .tc := ⟨.hbm, 90, rfl⟩
abbrev main_call1_v13 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_c_7 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_8 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_9 : Ref sig .tc := ⟨.hbm, 107, rfl⟩
abbrev main_call2_v0 : Ref sig .tc := ⟨.hbm, 108, rfl⟩
abbrev main_call2_v1 : Ref sig .tc := ⟨.hbm, 109, rfl⟩
abbrev main_call2_v2 : Ref sig .tc := ⟨.hbm, 110, rfl⟩
abbrev main_v70 : Ref sig .tc := ⟨.hbm, 111, rfl⟩
abbrev main_cst_10 : Ref sig .tc := ⟨.hbm, 112, rfl⟩
abbrev main_v71 : Ref sig .tc := ⟨.hbm, 113, rfl⟩
abbrev main_cst_11 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_cst_12 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_cst_13 : Ref sig .tc := ⟨.hbm, 130, rfl⟩
abbrev main_v86 : Ref sig .tc := ⟨.hbm, 131, rfl⟩
abbrev main_v87 : Ref sig .tc := ⟨.hbm, 132, rfl⟩
abbrev main_cst_14 : Ref sig .tc := ⟨.hbm, 133, rfl⟩
abbrev main_v88 : Ref sig .tc := ⟨.hbm, 134, rfl⟩
abbrev main_v89 : Ref sig .tc := ⟨.hbm, 135, rfl⟩
abbrev main_cst_15 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩

abbrev nD : Nat := 1
abbrev τ : Topo := Topo.v7x

variable {F : FTy → Type} [FloatOps F]
-- ==== Kernel2.lean ====
abbrev S25 : Shape := ⟨1, ![25]⟩
abbrev S51200x1024 : Shape := ⟨2, ![51200, 1024]⟩
abbrev S8x1024x2816 : Shape := ⟨3, ![8, 1024, 2816]⟩
abbrev S8x2816x1024 : Shape := ⟨3, ![8, 2816, 1024]⟩
abbrev S2048x1024 : Shape := ⟨2, ![2048, 1024]⟩
abbrev S1x1024x256 : Shape := ⟨3, ![1, 1024, 256]⟩
abbrev S1 : Shape := ⟨1, ![1]⟩
abbrev S1x256x1024 : Shape := ⟨3, ![1, 256, 1024]⟩
abbrev S1024x256 : Shape := ⟨2, ![1024, 256]⟩
abbrev S256x1024 : Shape := ⟨2, ![256, 1024]⟩
abbrev S512x1024 : Shape := ⟨2, ![512, 1024]⟩
abbrev S512x256 : Shape := ⟨2, ![512, 256]⟩

abbrev nBuf : Space → Nat
  | .hbm => 5
  | .vmem => 11
  | .smem => 2
  | _ => 0

abbrev bufTy : (tb : Table) → Fin (tcTables nBuf tb) → BufTy
  | .hbm, ⟨0, _⟩ => ⟨S51200x1024, .f32⟩
  | .hbm, ⟨1, _⟩ => ⟨S8x1024x2816, .f32⟩
  | .hbm, ⟨2, _⟩ => ⟨S8x1024x2816, .f32⟩
  | .hbm, ⟨3, _⟩ => ⟨S8x2816x1024, .f32⟩
  | .hbm, ⟨4, _⟩ => ⟨S51200x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S2048x1024, .f32⟩
  | .local _ .vmem, ⟨9, _⟩ => ⟨S2048x1024, .f32⟩
  | .local _ .vmem, ⟨10, _⟩ => ⟨S2048x1024, .bf16⟩
  | .local _ .smem, ⟨0, _⟩ => ⟨S25, .i32⟩
  | .local _ .smem, ⟨1, _⟩ => ⟨S25, .i32⟩
  | _, _ => ⟨S51200x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![25, 11], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32_6 : BitVec 32 := 0#32
  let v21 : BitVec 1 := Scalar.cmpi .eq arg1 c0_i32_6
  let v22 : BitVec 32 := Scalar.extui v21
  let c0_i32_7 : BitVec 32 := 0#32
  let v23 : BitVec 1 := Scalar.cmpi .ne v22 c0_i32_7
  v23

def k0_cond2 (v1 : BitVec 32) : BitVec 1 :=
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c512_i32_0 : BitVec 32 := 512#32
  let c0_i32_2 : BitVec 32 := 0#32
  let v10 : BitVec 1 := Scalar.cmpi .sgt c512_i32_0 c0_i32_2
  let v11 : BitVec 32 := Scalar.extui v10
  let c0_i32_3 : BitVec 32 := 0#32
  let v12 : BitVec 1 := Scalar.cmpi .slt c512_i32_0 c0_i32_3
  let v13 : BitVec 32 := Scalar.extui v12
  let v14 : BitVec 32 := Scalar.subi v11 v13
  let v15 : BitVec 1 := Scalar.cmpi .ne v9 v14
  let v16 : BitVec 32 := Scalar.remsi v3 c512_i32_0
  let c0_i32_4 : BitVec 32 := 0#32
  let v17 : BitVec 1 := Scalar.cmpi .ne v16 c0_i32_4
  let v18 : BitVec 1 := Scalar.andi v15 v17
  let v4 : BitVec 32 := Scalar.divsi v3 c512_i32_0
  let c1_i32_5 : BitVec 32 := 1#32
  let v19 : BitVec 32 := Scalar.subi v4 c1_i32_5
  let v20 : BitVec 32 := Scalar.select v18 v19 v4
  let c1_i32_8 : BitVec 32 := 1#32
  let v24 : BitVec 1 := Scalar.cmpi .eq v20 c1_i32_8
  let v25 : BitVec 32 := Scalar.extui v24
  let c0_i32_9 : BitVec 32 := 0#32
  let v26 : BitVec 1 := Scalar.cmpi .ne v25 c0_i32_9
  v26

def k0_cond3 (v1 : BitVec 32) : BitVec 1 :=
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c512_i32_0 : BitVec 32 := 512#32
  let c0_i32_2 : BitVec 32 := 0#32
  let v10 : BitVec 1 := Scalar.cmpi .sgt c512_i32_0 c0_i32_2
  let v11 : BitVec 32 := Scalar.extui v10
  let c0_i32_3 : BitVec 32 := 0#32
  let v12 : BitVec 1 := Scalar.cmpi .slt c512_i32_0 c0_i32_3
  let v13 : BitVec 32 := Scalar.extui v12
  let v14 : BitVec 32 := Scalar.subi v11 v13
  let v15 : BitVec 1 := Scalar.cmpi .ne v9 v14
  let v16 : BitVec 32 := Scalar.remsi v3 c512_i32_0
  let c0_i32_4 : BitVec 32 := 0#32
  let v17 : BitVec 1 := Scalar.cmpi .ne v16 c0_i32_4
  let v18 : BitVec 1 := Scalar.andi v15 v17
  let v4 : BitVec 32 := Scalar.divsi v3 c512_i32_0
  let c1_i32_5 : BitVec 32 := 1#32
  let v19 : BitVec 32 := Scalar.subi v4 c1_i32_5
  let v20 : BitVec 32 := Scalar.select v18 v19 v4
  let c2_i32 : BitVec 32 := 2#32
  let v27 : BitVec 1 := Scalar.cmpi .eq v20 c2_i32
  let v28 : BitVec 32 := Scalar.extui v27
  let c0_i32_10 : BitVec 32 := 0#32
  let v29 : BitVec 1 := Scalar.cmpi .ne v28 c0_i32_10
  v29

def k0_cond4 (v1 : BitVec 32) : BitVec 1 :=
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c512_i32_0 : BitVec 32 := 512#32
  let c0_i32_2 : BitVec 32 := 0#32
  let v10 : BitVec 1 := Scalar.cmpi .sgt c512_i32_0 c0_i32_2
  let v11 : BitVec 32 := Scalar.extui v10
  let c0_i32_3 : BitVec 32 := 0#32
  let v12 : BitVec 1 := Scalar.cmpi .slt c512_i32_0 c0_i32_3
  let v13 : BitVec 32 := Scalar.extui v12
  let v14 : BitVec 32 := Scalar.subi v11 v13
  let v15 : BitVec 1 := Scalar.cmpi .ne v9 v14
  let v16 : BitVec 32 := Scalar.remsi v3 c512_i32_0
  let c0_i32_4 : BitVec 32 := 0#32
  let v17 : BitVec 1 := Scalar.cmpi .ne v16 c0_i32_4
  let v18 : BitVec 1 := Scalar.andi v15 v17
  let v4 : BitVec 32 := Scalar.divsi v3 c512_i32_0
  let c1_i32_5 : BitVec 32 := 1#32
  let v19 : BitVec 32 := Scalar.subi v4 c1_i32_5
  let v20 : BitVec 32 := Scalar.select v18 v19 v4
  let c3_i32 : BitVec 32 := 3#32
  let v30 : BitVec 1 := Scalar.cmpi .eq v20 c3_i32
  let v31 : BitVec 32 := Scalar.extui v30
  let c0_i32_11 : BitVec 32 := 0#32
  let v32 : BitVec 1 := Scalar.cmpi .ne v31 c0_i32_11
  v32

def k0_cond5 (v1 : BitVec 32) : BitVec 1 :=
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c512_i32_0 : BitVec 32 := 512#32
  let c0_i32_2 : BitVec 32 := 0#32
  let v10 : BitVec 1 := Scalar.cmpi .sgt c512_i32_0 c0_i32_2
  let v11 : BitVec 32 := Scalar.extui v10
  let c0_i32_3 : BitVec 32 := 0#32
  let v12 : BitVec 1 := Scalar.cmpi .slt c512_i32_0 c0_i32_3
  let v13 : BitVec 32 := Scalar.extui v12
  let v14 : BitVec 32 := Scalar.subi v11 v13
  let v15 : BitVec 1 := Scalar.cmpi .ne v9 v14
  let v16 : BitVec 32 := Scalar.remsi v3 c512_i32_0
  let c0_i32_4 : BitVec 32 := 0#32
  let v17 : BitVec 1 := Scalar.cmpi .ne v16 c0_i32_4
  let v18 : BitVec 1 := Scalar.andi v15 v17
  let v4 : BitVec 32 := Scalar.divsi v3 c512_i32_0
  let c1_i32_5 : BitVec 32 := 1#32
  let v19 : BitVec 32 := Scalar.subi v4 c1_i32_5
  let v20 : BitVec 32 := Scalar.select v18 v19 v4
  let c4_i32 : BitVec 32 := 4#32
  let v33 : BitVec 1 := Scalar.cmpi .eq v20 c4_i32
  let v34 : BitVec 32 := Scalar.extui v33
  let c0_i32_12 : BitVec 32 := 0#32
  let v35 : BitVec 1 := Scalar.cmpi .ne v34 c0_i32_12
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S25.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S25) ![v0.toNat] S1.size (k0_off1_inb i)) numel1_S1
  let v2 : Index := Scalar.indexCast arg0
  let v3 : BitVec 32 := pf.at 1 (Rect.unit (s := S25) ![v2.toNat] S1.size (k0_off1_inb i)) numel1_S1
  let c0_i32 : BitVec 32 := 0#32
  let v4 : BitVec 1 := Scalar.cmpi .sgt v3 c0_i32
  let c10_i32 : BitVec 32 := 10#32
  let v5 : BitVec 32 := Scalar.select v4 arg1 c10_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S25.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S25) ![v0.toNat] S1.size (k0_off1_inb i)) numel1_S1
  let v2 : Index := Scalar.indexCast arg0
  let v3 : BitVec 32 := pf.at 1 (Rect.unit (s := S25) ![v2.toNat] S1.size (k0_off1_inb i)) numel1_S1
  let c0_i32 : BitVec 32 := 0#32
  let v4 : BitVec 1 := Scalar.cmpi .sgt v3 c0_i32
  let c10_i32 : BitVec 32 := 10#32
  let v5 : BitVec 32 := Scalar.select v4 arg1 c10_i32
  let c0_i32_0 : BitVec 32 := 0#32
  let c0_i32_1 : BitVec 32 := 0#32
  ![v1.toNat, c0_i32_0.toNat, v5.toNat]

def cc0_transform_3 (k0_off1_inb : ∀ i : grid0.Coords, ∀ a, (k0_off1 i) a + S1.size a ≤ S25.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S25) ![v0.toNat] S1.size (k0_off1_inb i)) numel1_S1
  let v2 : Index := Scalar.indexCast arg0
  let v3 : BitVec 32 := pf.at 1 (Rect.unit (s := S25) ![v2.toNat] S1.size (k0_off1_inb i)) numel1_S1
  let c0_i32 : BitVec 32 := 0#32
  let v4 : BitVec 1 := Scalar.cmpi .sgt v3 c0_i32
  let c10_i32 : BitVec 32 := 10#32
  let v5 : BitVec 32 := Scalar.select v4 arg1 c10_i32
  let c0_i32_0 : BitVec 32 := 0#32
  let c0_i32_1 : BitVec 32 := 0#32
  ![v1.toNat, v5.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S25 : Shape := ⟨1, ![25]⟩
abbrev S51200x1024 : Shape := ⟨2, ![51200, 1024]⟩
abbrev S8x1024x2816 : Shape := ⟨3, ![8, 1024, 2816]⟩
abbrev S8x2816x1024 : Shape := ⟨3, ![8, 2816, 1024]⟩
abbrev S25x2048x1024 : Shape := ⟨3, ![25, 2048, 1024]⟩
abbrev S_ : Shape := ⟨0, ![]⟩
abbrev S25x1 : Shape := ⟨2, ![25, 1]⟩
abbrev S25x1024x2816 : Shape := ⟨3, ![25, 1024, 2816]⟩
abbrev S25x2048x2816 : Shape := ⟨3, ![25, 2048, 2816]⟩
abbrev S25x2816x1024 : Shape := ⟨3, ![25, 2816, 1024]⟩
abbrev S2048 : Shape := ⟨1, ![2048]⟩
abbrev S1x2048 : Shape := ⟨2, ![1, 2048]⟩
abbrev S25x2048 : Shape := ⟨2, ![25, 2048]⟩
abbrev S25x2048x1 : Shape := ⟨3, ![25, 2048, 1]⟩

abbrev nBuf : Space → Nat
  | .hbm => 84
  | .vmem => 0
  | .smem => 0
  | _ => 0

abbrev bufTy : (tb : Table) → Fin (tcTables nBuf tb) → BufTy
  | .hbm, ⟨0, _⟩ => ⟨S25, .i32⟩
  | .hbm, ⟨1, _⟩ => ⟨S25, .i32⟩
  | .hbm, ⟨2, _⟩ => ⟨S51200x1024, .f32⟩
  | .hbm, ⟨3, _⟩ => ⟨S8x1024x2816, .f32⟩
  | .hbm, ⟨4, _⟩ => ⟨S8x1024x2816, .f32⟩
  | .hbm, ⟨5, _⟩ => ⟨S8x2816x1024, .f32⟩
  | .hbm, ⟨6, _⟩ => ⟨S25x2048x1024, .f32⟩
  | .hbm, ⟨7, _⟩ => ⟨S_, .i32⟩
  | .hbm, ⟨8, _⟩ => ⟨S25, .i32⟩
  | .hbm, ⟨9, _⟩ => ⟨S25, .i1⟩
  | .hbm, ⟨10, _⟩ => ⟨S_, .i32⟩
  | .hbm, ⟨11, _⟩ => ⟨S25, .i32⟩
  | .hbm, ⟨12, _⟩ => ⟨S25, .i32⟩
  | .hbm, ⟨13, _⟩ => ⟨S25, .i32⟩
  | .hbm, ⟨14, _⟩ => ⟨S25x1, .i32⟩
  | .hbm, ⟨15, _⟩ => ⟨S25x1024x2816, .f32⟩
  | .hbm, ⟨16, _⟩ => ⟨S25x2048x2816, .f32⟩
  | .hbm, ⟨17, _⟩ => ⟨S_, .i32⟩
  | .hbm, ⟨18, _⟩ => ⟨S25, .i32⟩
  | .hbm, ⟨19, _⟩ => ⟨S25, .i1⟩
  | .hbm, ⟨20, _⟩ => ⟨S_, .i32⟩
  | .hbm, ⟨21, _⟩ => ⟨S25, .i32⟩
  | .hbm, ⟨22, _⟩ => ⟨S25, .i32⟩
  | .hbm, ⟨23, _⟩ => ⟨S25, .i32⟩
  | .hbm, ⟨24, _⟩ => ⟨S25x1, .i32⟩
  | .hbm, ⟨25, _⟩ => ⟨S25x1024x2816, .f32⟩
  | .hbm, ⟨26, _⟩ => ⟨S25x2048x2816, .f32⟩
  | .hbm, ⟨27, _⟩ => ⟨S25x2048x2816, .f32⟩
  | .hbm, ⟨28, _⟩ => ⟨S25x2048x2816, .f32⟩
  | .hbm, ⟨29, _⟩ => ⟨S_, .f32⟩
  | .hbm, ⟨30, _⟩ => ⟨S25x2048x2816, .f32⟩
  | .hbm, ⟨31, _⟩ => ⟨S25x2048x2816, .f32⟩
  | .hbm, ⟨32, _⟩ => ⟨S_, .f32⟩
  | .hbm, ⟨33, _⟩ => ⟨S25x2048x2816, .f32⟩
  | .hbm, ⟨34, _⟩ => ⟨S25x2048x2816, .f32⟩
  | .hbm, ⟨35, _⟩ => ⟨S25x2048x2816, .f32⟩
  | .hbm, ⟨36, _⟩ => ⟨S25x2048x2816, .f32⟩
  | .hbm, ⟨37, _⟩ => ⟨S_, .i32⟩
  | .hbm, ⟨38, _⟩ => ⟨S25, .i32⟩
  | .hbm, ⟨39, _⟩ => ⟨S25, .i1⟩
  | .hbm, ⟨40, _⟩ => ⟨S_, .i32⟩
  | .hbm, ⟨41, _⟩ => ⟨S25, .i32⟩
  | .hbm, ⟨42, _⟩ => ⟨S25, .i32⟩
  | .hbm, ⟨43, _⟩ => ⟨S25, .i32⟩
  | .hbm, ⟨44, _⟩ => ⟨S25x1, .i32⟩
  | .hbm, ⟨45, _⟩ => ⟨S25x2816x1024, .f32⟩
  | .hbm, ⟨46, _⟩ => ⟨S25x2048x1024, .f32⟩
  | .hbm, ⟨47, _⟩ => ⟨S2048, .i32⟩
  | .hbm, ⟨48, _⟩ => ⟨S1x2048, .i32⟩
  | .hbm, ⟨49, _⟩ => ⟨S25x1, .i32⟩
  | .hbm, ⟨50, _⟩ => ⟨S_, .i32⟩
  | .hbm, ⟨51, _⟩ => ⟨S25x1, .i32⟩
  | .hbm, ⟨52, _⟩ => ⟨S25x1, .i32⟩
  | .hbm, ⟨53, _⟩ => ⟨S_, .i32⟩
  | .hbm, ⟨54, _⟩ => ⟨S_, .i32⟩
  | .hbm, ⟨55, _⟩ => ⟨S25x1, .i32⟩
  | .hbm, ⟨56, _⟩ => ⟨S25x1, .i32⟩
  | .hbm, ⟨57, _⟩ => ⟨S25x1, .i32⟩
  | .hbm, ⟨58, _⟩ => ⟨S_, .i32⟩
  | .hbm, ⟨59, _⟩ => ⟨S25x1, .i32⟩
  | .hbm, ⟨60, _⟩ => ⟨S25x1, .i1⟩
  | .hbm, ⟨61, _⟩ => ⟨S25x1, .i32⟩
  | .hbm, ⟨62, _⟩ => ⟨S25x1, .i32⟩
  | .hbm, ⟨63, _⟩ => ⟨S_, .i32⟩
  | .hbm, ⟨64, _⟩ => ⟨S25x1, .i32⟩
  | .hbm, ⟨65, _⟩ => ⟨S25x1, .i1⟩
  | .hbm, ⟨66, _⟩ => ⟨S25x1, .i1⟩
  | .hbm, ⟨67, _⟩ => ⟨S_, .i32⟩
  | .hbm, ⟨68, _⟩ => ⟨S25x1, .i32⟩
  | .hbm, ⟨69, _⟩ => ⟨S25x1, .i32⟩
  | .hbm, ⟨70, _⟩ => ⟨S25x1, .i32⟩
  | .hbm, ⟨71, _⟩ => ⟨S_, .i32⟩
  | .hbm, ⟨72, _⟩ => ⟨S25x1, .i32⟩
  | .hbm, ⟨73, _⟩ => ⟨S25x1, .i32⟩
  | .hbm, ⟨74, _⟩ => ⟨S25x2048, .i32⟩
  | .hbm, ⟨75, _⟩ => ⟨S25x2048, .i32⟩
  | .hbm, ⟨76, _⟩ => ⟨S25x2048, .i1⟩
  | .hbm, ⟨77, _⟩ => ⟨S25x2048x1, .i1⟩
  | .hbm, ⟨78, _⟩ => ⟨S_, .i32⟩
  | .hbm, ⟨79, _⟩ => ⟨S_, .f32⟩
  | .hbm, ⟨80, _⟩ => ⟨S25x2048x1024, .i1⟩
  | .hbm, ⟨81, _⟩ => ⟨S25x2048x1024, .f32⟩
  | .hbm, ⟨82, _⟩ => ⟨S25x2048x1024, .f32⟩
  | .hbm, ⟨83, _⟩ => ⟨S51200x1024, .f32⟩
  | _, _ => ⟨S25, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_6 : Ref sig .tc := ⟨.hbm, 50, rfl⟩
abbrev main_v36 : Ref sig .tc := ⟨.hbm, 51, rfl⟩
abbrev main_v37 : Ref sig .tc := ⟨.hbm, 52, rfl⟩
abbrev main_c_7 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_c : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_c_0 : Ref sig .tc := ⟨.hbm, 67, rfl⟩
abbrev main_call0_v12 : Ref sig .tc := ⟨.hbm, 68, rfl⟩
abbrev main_call0_v13 : Ref sig .tc := ⟨.hbm, 69, rfl⟩
abbrev main_v38 : Ref sig .tc := ⟨.hbm, 70, rfl⟩
abbrev main_c_8 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_9 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_v45 : Ref sig .tc := ⟨.hbm, 82, rfl⟩
abbrev main_v46 : Ref sig .tc := ⟨.hbm, 83, rfl⟩

abbrev nD : Nat := 1
abbrev τ : Topo := Topo.v7x

variable {F : FTy → Type} [FloatOps F]
-- ==== Reference3Ideal.lean ====
abbrev S25 : Shape := ⟨1, ![25]⟩
abbrev S51200x1024 : Shape := ⟨2, ![51200, 1024]⟩
abbrev S8x1024x2816 : Shape := ⟨3, ![8, 1024, 2816]⟩
abbrev S8x2816x1024 : Shape := ⟨3, ![8, 2816, 1024]⟩
abbrev S25x2048x1024 : Shape := ⟨3, ![25, 2048, 1024]⟩
abbrev S_ : Shape := ⟨0, ![]⟩
abbrev S25x1 : Shape := ⟨2, ![25, 1]⟩
abbrev S25x1024x2816 : Shape := ⟨3, ![25, 1024, 2816]⟩
abbrev S25x2048x2816 : Shape := ⟨3, ![25, 2048, 2816]⟩
abbrev S25x2816x1024 : Shape := ⟨3, ![25, 2816, 1024]⟩

abbrev nBuf : Space → Nat
  | .hbm => 48
  | .vmem => 0
  | .smem => 0
  | _ => 0

abbrev bufTy : (tb : Table) → Fin (tcTables nBuf tb) → BufTy
  | .hbm, ⟨0, _⟩ => ⟨S25, .i32⟩
  | .hbm, ⟨1, _⟩ => ⟨S25, .i32⟩
  | .hbm, ⟨2, _⟩ => ⟨S51200x1024, .f32⟩
  | .hbm, ⟨3, _⟩ => ⟨S8x1024x2816, .f32⟩
  | .hbm, ⟨4, _⟩ => ⟨S8x1024x2816, .f32⟩
  | .hbm, ⟨5, _⟩ => ⟨S8x2816x1024, .f32⟩
  | .hbm, ⟨6, _⟩ => ⟨S25x2048x1024, .f32⟩
  | .hbm, ⟨7, _⟩ => ⟨S_, .i32⟩
  | .hbm, ⟨8, _⟩ => ⟨S25, .i32⟩
  | .hbm, ⟨9, _⟩ => ⟨S25, .i1⟩
  | .hbm, ⟨10, _⟩ => ⟨S_, .i32⟩
  | .hbm, ⟨11, _⟩ => ⟨S25, .i32⟩
  | .hbm, ⟨12, _⟩ => ⟨S25, .i32⟩
  | .hbm, ⟨13, _⟩ => ⟨S25, .i32⟩
  | .hbm, ⟨14, _⟩ => ⟨S25x1, .i32⟩
  | .hbm, ⟨15, _⟩ => ⟨S25x1024x2816, .f32⟩
  | .hbm, ⟨16, _⟩ => ⟨S25x2048x2816, .f32⟩
  | .hbm, ⟨17, _⟩ => ⟨S_, .i32⟩
  | .hbm, ⟨18, _⟩ => ⟨S25, .i32⟩
  | .hbm, ⟨19, _⟩ => ⟨S25, .i1⟩
  | .hbm, ⟨20, _⟩ => ⟨S_, .i32⟩
  | .hbm, ⟨21, _⟩ => ⟨S25, .i32⟩
  | .hbm, ⟨22, _⟩ => ⟨S25, .i32⟩
  | .hbm, ⟨23, _⟩ => ⟨S25, .i32⟩
  | .hbm, ⟨24, _⟩ => ⟨S25x1, .i32⟩
  | .hbm, ⟨25, _⟩ => ⟨S25x1024x2816, .f32⟩
  | .hbm, ⟨26, _⟩ => ⟨S25x2048x2816, .f32⟩
  | .hbm, ⟨27, _⟩ => ⟨S25x2048x2816, .f32⟩
  | .hbm, ⟨28, _⟩ => ⟨S25x2048x2816, .f32⟩
  | .hbm, ⟨29, _⟩ => ⟨S_, .f32⟩
  | .hbm, ⟨30, _⟩ => ⟨S25x2048x2816, .f32⟩
  | .hbm, ⟨31, _⟩ => ⟨S25x2048x2816, .f32⟩
  | .hbm, ⟨32, _⟩ => ⟨S_, .f32⟩
  | .hbm, ⟨33, _⟩ => ⟨S25x2048x2816, .f32⟩
  | .hbm, ⟨34, _⟩ => ⟨S25x2048x2816, .f32⟩
  | .hbm, ⟨35, _⟩ => ⟨S25x2048x2816, .f32⟩
  | .hbm, ⟨36, _⟩ => ⟨S25x2048x2816, .f32⟩
  | .hbm, ⟨37, _⟩ => ⟨S_, .i32⟩
  | .hbm, ⟨38, _⟩ => ⟨S25, .i32⟩
  | .hbm, ⟨39, _⟩ => ⟨S25, .i1⟩
  | .hbm, ⟨40, _⟩ => ⟨S_, .i32⟩
  | .hbm, ⟨41, _⟩ => ⟨S25, .i32⟩
  | .hbm, ⟨42, _⟩ => ⟨S25, .i32⟩
  | .hbm, ⟨43, _⟩ => ⟨S25, .i32⟩
  | .hbm, ⟨44, _⟩ => ⟨S25x1, .i32⟩
  | .hbm, ⟨45, _⟩ => ⟨S25x2816x1024, .f32⟩
  | .hbm, ⟨46, _⟩ => ⟨S25x2048x1024, .f32⟩
  | .hbm, ⟨47, _⟩ => ⟨S51200x1024, .f32⟩
  | _, _ => ⟨S25, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Proof.Launch.Kernel.Runs.lean ====
/- What the runs of the frame of `Kernel` share: the frame kit, the branch conditions in closed form over the grid points, the windows
   that idle, the staging and scratch memrefs.
   After the generated module of the same name. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i1 — decided over the grid. -/
theorem hcond0_1 : ∀ t : Fin cfg0.N, cond0_1 (grid0.coords t) ↔ 1 ≤ t.val % 8 :=
  (by decide +kernel : ∀ t : Fin grid0.N, cond0_1 (grid0.coords t) ↔ 1 ≤ t.val % 8)

/-- The condition of the body's `scf.if` 2 (`k0_h3`), from the grid coordinates (the skeleton's scalar
    chain substituted). -/
abbrev cond0_2 (i : grid0.Coords) : Prop := k0_cond3 i = 1#1
/-- It holds at the points ≡ 0 (mod 8) — decided over the grid. -/
theorem hcond0_2 : ∀ t : Fin cfg0.N, cond0_2 (grid0.coords t) ↔ t.val % 8 = 0 :=
  (by decide +kernel : ∀ t : Fin grid0.N, cond0_2 (grid0.coords t) ↔ t.val % 8 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an input). -/
theorem liveAt0_14 : ∀ t : Fin cfg0.N, cfg0.idle 14 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x512 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x512 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x512 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S8x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x512 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1024x512 .bf16 := win0_15.stage (cfg0.slots t 15)
abbrev hs0_15 (t : Fin cfg0.N) : (ms0_15 t).IsWhole := hstage0_15 ((cfg0.slots t 15).cast nbuf0_15)
/-- The scratch operands: whole scoped buffers of the kernel's own, passed beside the windows. -/
abbrev scM0_0 : Memref sig .tc .vmem S8x256x768 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Gen

end
-- ==== Proof.Launch.Kernel.RunA.lean ====
/- The body of `Kernel` run in case A of its grid points. The parts of the step that masks the first keys are opened only after the
   branches are decided.
   After the generated module of the same name. -/
module

public import proofs.«01_k».proof.Proof.Launch.Kernel.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 16000000 in
/-- The body's triple IN CASE A (`scf.if` 0 taken, `scf.if` 1 not taken, `scf.if` 2 taken: points 0): on whole staging memrefs — the inputs' at their contents,
    the FORGOTTEN outputs' (15) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S1024x512 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x512 .bf16) (harg13 : arg13.IsWhole) (arg14 : Memref sig .tc .vmem S256x512 .bf16) (harg14 : arg14.IsWhole) (arg15 : Memref sig .tc .vmem S8x1024 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S8x256x768 .f32) (harg18 : arg18.IsWhole) (hc0 : cond0_0 i) (hc1 : ¬cond0_1 i) (hc2 : cond0_2 i)
    (x0 : Vec F S1024x512 .f32) (x1 : Vec F S256x512 .bf16) (x2 : Vec F S256x512 .bf16) (x3 : Vec F S256x512 .bf16) (x4 : Vec F S256x512 .bf16) (x5 : Vec F S256x512 .bf16) (x6 : Vec F S256x512 .bf16) (x7 : Vec F S256x512 .bf16) (x8 : Vec F S256x512 .bf16) (x9 : Vec F S256x512 .bf16) (x10 : Vec F S256x512 .bf16) (x11 : Vec F S256x512 .bf16) (x12 : Vec F S256x512 .bf16) (x13 : Vec F S8x1024 .f32) (x14 : Vec F S1x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d)) -∗ K ⟨⟩))
          ⊢ wp frame (wpE (defs₀ (F := F)) Variants.none c none) E (cc0_attn_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    simp only [cc0_attn_prompt_eq_skeleton]; unfold cc0_attn_prompt_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | sl_exact hc0 | sl_exact hc1 | sl_exact hc2)
    simp only [k0_part85_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton]
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _, _; isplitr; swap; · iexact H15
      ipureintro; rfl
    iexists _, _; isplitr; swap; · iexact HS0
    ipureintro; rfl

end Cert.Kernel.Gen

end
-- ==== Proof.Launch.Kernel.RunB.lean ====
/- The body of `Kernel` run in case B of its grid points.
   After the generated module of the same name. -/
module

public import proofs.«01_k».proof.Proof.Launch.Kernel.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 16000000 in
/-- The body's triple IN CASE B (`scf.if` 0 not taken, `scf.if` 1 taken, `scf.if` 2 not taken: points 1, 2, … 15: 14 of 16): on whole staging memrefs — the inputs' at their contents,
    the FORGOTTEN outputs' (15) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S1024x512 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x512 .bf16) (harg13 : arg13.IsWhole) (arg14 : Memref sig .tc .vmem S256x512 .bf16) (harg14 : arg14.IsWhole) (arg15 : Memref sig .tc .vmem S8x1024 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S8x256x768 .f32) (harg18 : arg18.IsWhole) (hc0 : ¬cond0_0 i) (hc1 : cond0_1 i) (hc2 : ¬cond0_2 i)
    (x0 : Vec F S1024x512 .f32) (x1 : Vec F S256x512 .bf16) (x2 : Vec F S256x512 .bf16) (x3 : Vec F S256x512 .bf16) (x4 : Vec F S256x512 .bf16) (x5 : Vec F S256x512 .bf16) (x6 : Vec F S256x512 .bf16) (x7 : Vec F S256x512 .bf16) (x8 : Vec F S256x512 .bf16) (x9 : Vec F S256x512 .bf16) (x10 : Vec F S256x512 .bf16) (x11 : Vec F S256x512 .bf16) (x12 : Vec F S256x512 .bf16) (x13 : Vec F S8x1024 .f32) (x14 : Vec F S1x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d)) -∗ K ⟨⟩))
          ⊢ wp frame (wpE (defs₀ (F := F)) Variants.none c none) E (cc0_attn_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    simp only [cc0_attn_prompt_eq_skeleton]; unfold cc0_attn_prompt_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _, _; isplitr; swap; · iexact H15
      ipureintro; rfl
    iexists _, _; isplitr; swap; · iexact HS0
    ipureintro; rfl

end Cert.Kernel.Gen

end
-- ==== Proof.Launch.Kernel.RunC.lean ====
/- The body of `Kernel` run in case C of its grid points. The parts of the step that masks the first keys are opened only after the
   branches are decided.
   After the generated module of the same name. -/
module

public import proofs.«01_k».proof.Proof.Launch.Kernel.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 16000000 in
/-- The body's triple IN CASE C (`scf.if` 0 not taken, `scf.if` 1 not taken, `scf.if` 2 taken: points 8): on whole staging memrefs — the inputs' at their contents,
    the FORGOTTEN outputs' (15) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg2 : Memref sig .tc .vmem S1024x512 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x512 .bf16) (harg13 : arg13.IsWhole) (arg14 : Memref sig .tc .vmem S256x512 .bf16) (harg14 : arg14.IsWhole) (arg15 : Memref sig .tc .vmem S8x1024 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S8x256x768 .f32) (harg18 : arg18.IsWhole) (hc0 : ¬cond0_0 i) (hc1 : ¬cond0_1 i) (hc2 : cond0_2 i)
    (x0 : Vec F S1024x512 .f32) (x1 : Vec F S256x512 .bf16) (x2 : Vec F S256x512 .bf16) (x3 : Vec F S256x512 .bf16) (x4 : Vec F S256x512 .bf16) (x5 : Vec F S256x512 .bf16) (x6 : Vec F S256x512 .bf16) (x7 : Vec F S256x512 .bf16) (x8 : Vec F S256x512 .bf16) (x9 : Vec F S256x512 .bf16) (x10 : Vec F S256x512 .bf16) (x11 : Vec F S256x512 .bf16) (x12 : Vec F S256x512 .bf16) (x13 : Vec F S8x1024 .f32) (x14 : Vec F S1x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d)) -∗ K ⟨⟩))
          ⊢ wp frame (wpE (defs₀ (F := F)) Variants.none c none) E (cc0_attn_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    simp only [cc0_attn_prompt_eq_skeleton]; unfold cc0_attn_prompt_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | sl_exact hc0 | sl_exact hc1 | sl_exact hc2)
    simp only [k0_part85_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton]
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _, _; isplitr; swap; · iexact H15
      ipureintro; rfl
    iexists _, _; isplitr; swap; · iexact HS0
    ipureintro; rfl

end Cert.Kernel.Gen

end
-- ==== Proof.Launch.Kernel.Frame.lean ====
/- The frame of `Kernel`: the three cases of its grid points put together over the launch.
   After the generated module of the same name. -/
module

public import proofs.«01_k».proof.Proof.Launch.Kernel.RunA
public import proofs.«01_k».proof.Proof.Launch.Kernel.RunB
public import proofs.«01_k».proof.Proof.Launch.Kernel.RunC
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (15): nothing reads what the kernel leaves in them, so nothing
    of it is named (Lib/Pipeline/Dat.lean `Dat.toRForget`). -/
def forgets0 : Fin 16 → Bool := fun w => w.val == 15

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, h⟩ => Pipeline.Dat.unnamed (cfg := cfg0) ⟨15, h⟩ t
    | ⟨_ + 16, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (∃ d, owns (c : Thread nD τ) (ms0_15 t) fullShare d))

set_option maxHeartbeats 4800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 16 := lt_of_lt_of_eq t.isLt (show cfg0.N = 16 from N_0)
  by_cases h0 : t.val % 16 = 0
  · by_cases h1 : 1 ≤ t.val % 8
    · exfalso; omega
    · by_cases h2 : t.val % 8 = 0
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [liveAt0_14 t], after0_14]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply ((kernelRun0_A c (grid0.coords t) _ _ _ _ _ _ _ _ _ _ _ _ _ _ _ _ _ _ _ _ _ _ _ _ _ _ _ _ _ _ _ _ _ _ ((hcond0_0 t).mpr h0) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexists _; iexact H15
        isplitl [HS0]; · iexact HS0
        iintro ⟨H0, H1, H2, H3, H4, H5, H6, H7, H8, H9, H10, H11, H12, H13, H14, H15, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        iexact H15
      · exfalso; omega
  · by_cases h1 : 1 ≤ t.val % 8
    · by_cases h2 : t.val % 8 = 0
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [liveAt0_14 t], after0_14]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply ((kernelRun0_B c (grid0.coords t) _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexists _; iexact H15
        isplitl [HS0]; · iexact HS0
        iintro ⟨H0, H1, H2, H3, H4, H5, H6, H7, H8, H9, H10, H11, H12, H13, H14, H15, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        iexact H15
    · by_cases h2 : t.val % 8 = 0
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [liveAt0_14 t], after0_14]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply ((kernelRun0_C c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexists _; iexact H15
        isplitl [HS0]; · iexact HS0
        iintro ⟨H0, H1, H2, H3, H4, H5, H6, H7, H8, H9, H10, H11, H12, H13, H14, H15, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        iexact H15
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 15) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Gen

end
-- ==== Proof.Launch.KernelIdeal.RunA.lean ====
/- The body of `KernelIdeal` run in case A of its grid points. The parts of the step that masks the first keys are opened only after the
   branches are decided.
   After the generated module of the same name. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 16000000 in
/-- What the body's stores leave in each output's staging memref, as pieces (last first) IN CASE A (`scf.if` 0 taken, `scf.if` 1 not taken, `scf.if` 2 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1024x512 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x512 .bf16) (harg13 : arg13.IsWhole) (arg14 : Memref sig .tc .vmem S256x512 .bf16) (harg14 : arg14.IsWhole) (arg15 : Memref sig .tc .vmem S8x1024 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S8x256x768 .f32) (harg18 : arg18.IsWhole) (hc0 : cond0_0 i) (hc1 : ¬cond0_1 i) (hc2 : cond0_2 i)
    (x0 : Vec F S1024x512 .f32) (x1 : Vec F S256x512 .bf16) (x2 : Vec F S256x512 .bf16) (x3 : Vec F S256x512 .bf16) (x4 : Vec F S256x512 .bf16) (x5 : Vec F S256x512 .bf16) (x6 : Vec F S256x512 .bf16) (x7 : Vec F S256x512 .bf16) (x8 : Vec F S256x512 .bf16) (x9 : Vec F S256x512 .bf16) (x10 : Vec F S256x512 .bf16) (x11 : Vec F S256x512 .bf16) (x12 : Vec F S256x512 .bf16) (x13 : Vec F S8x1024 .f32) (x14 : Vec F S1x512 .f32) :
    Σ' (L15 : List (View.Piece (Elt F) S1024x512 .bf16)), { LS0 : List (View.Piece (Elt F) S8x256x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f LS0)) -∗ K ⟨⟩))
          ⊢ wp frame (wpE (defs₀ (F := F)) Variants.none c none) E (cc0_attn_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    simp only [cc0_attn_prompt_eq_skeleton]; unfold cc0_attn_prompt_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
    sl_exec (disch := first | sl_exact hc0 | sl_exact hc1 | sl_exact hc2)
    simp only [k0_part85_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton]
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    iexists _; iexact HS0

end Cert.KernelIdeal.Gen

end
-- ==== Proof.Launch.KernelIdeal.RunB.lean ====
/- The body of `KernelIdeal` run in case B of its grid points.
   After the generated module of the same name. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 16000000 in
/-- What the body's stores leave in each output's staging memref, as pieces (last first) IN CASE B (`scf.if` 0 not taken, `scf.if` 1 taken, `scf.if` 2 not taken: points 1, 2, … 15: 14 of 16), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1024x512 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x512 .bf16) (harg13 : arg13.IsWhole) (arg14 : Memref sig .tc .vmem S256x512 .bf16) (harg14 : arg14.IsWhole) (arg15 : Memref sig .tc .vmem S8x1024 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S8x256x768 .f32) (harg18 : arg18.IsWhole) (hc0 : ¬cond0_0 i) (hc1 : cond0_1 i) (hc2 : ¬cond0_2 i)
    (x0 : Vec F S1024x512 .f32) (x1 : Vec F S256x512 .bf16) (x2 : Vec F S256x512 .bf16) (x3 : Vec F S256x512 .bf16) (x4 : Vec F S256x512 .bf16) (x5 : Vec F S256x512 .bf16) (x6 : Vec F S256x512 .bf16) (x7 : Vec F S256x512 .bf16) (x8 : Vec F S256x512 .bf16) (x9 : Vec F S256x512 .bf16) (x10 : Vec F S256x512 .bf16) (x11 : Vec F S256x512 .bf16) (x12 : Vec F S256x512 .bf16) (x13 : Vec F S8x1024 .f32) (x14 : Vec F S1x512 .f32) (xs0 : Vec F S8x256x768 .f32) :
    Σ' (L15 : List (View.Piece (Elt F) S1024x512 .bf16)), { LS0 : List (View.Piece (Elt F) S8x256x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ owns (c : Thread nD τ) arg18 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L15) ∗ owns (c : Thread nD τ) arg18 fullShare xs0) -∗ K ⟨⟩))
          ⊢ wp frame (wpE (defs₀ (F := F)) Variants.none c none) E (cc0_attn_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, [], fun E K => ?run⟩
  case run =>
    simp only [cc0_attn_prompt_eq_skeleton]; unfold cc0_attn_prompt_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg18.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    iexists _; isplitr; · ipureintro; exact harg18.read_unread _
    iexact HS0

end Cert.KernelIdeal.Gen

end
-- ==== Proof.Launch.KernelIdeal.RunC.lean ====
/- The body of `KernelIdeal` run in case C of its grid points. The parts of the step that masks the first keys are opened only after the
   branches are decided.
   After the generated module of the same name. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 16000000 in
/-- What the body's stores leave in each output's staging memref, as pieces (last first) IN CASE C (`scf.if` 0 not taken, `scf.if` 1 not taken, `scf.if` 2 taken: points 8), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S1024x512 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x512 .bf16) (harg13 : arg13.IsWhole) (arg14 : Memref sig .tc .vmem S256x512 .bf16) (harg14 : arg14.IsWhole) (arg15 : Memref sig .tc .vmem S8x1024 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S8x256x768 .f32) (harg18 : arg18.IsWhole) (hc0 : ¬cond0_0 i) (hc1 : ¬cond0_1 i) (hc2 : cond0_2 i)
    (x0 : Vec F S1024x512 .f32) (x1 : Vec F S256x512 .bf16) (x2 : Vec F S256x512 .bf16) (x3 : Vec F S256x512 .bf16) (x4 : Vec F S256x512 .bf16) (x5 : Vec F S256x512 .bf16) (x6 : Vec F S256x512 .bf16) (x7 : Vec F S256x512 .bf16) (x8 : Vec F S256x512 .bf16) (x9 : Vec F S256x512 .bf16) (x10 : Vec F S256x512 .bf16) (x11 : Vec F S256x512 .bf16) (x12 : Vec F S256x512 .bf16) (x13 : Vec F S8x1024 .f32) (x14 : Vec F S1x512 .f32) (xs0 : Vec F S8x256x768 .f32) :
    Σ' (L15 : List (View.Piece (Elt F) S1024x512 .bf16)), { LS0 : List (View.Piece (Elt F) S8x256x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ owns (c : Thread nD τ) arg18 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L15) ∗ owns (c : Thread nD τ) arg18 fullShare xs0) -∗ K ⟨⟩))
          ⊢ wp frame (wpE (defs₀ (F := F)) Variants.none c none) E (cc0_attn_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, [], fun E K => ?run⟩
  case run =>
    simp only [cc0_attn_prompt_eq_skeleton]; unfold cc0_attn_prompt_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg18.eq_unread hfs0
    sl_exec (disch := first | sl_exact hc0 | sl_exact hc1 | sl_exact hc2)
    simp only [k0_part85_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton]
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    iexists _; isplitr; · ipureintro; exact harg18.read_unread _
    iexact HS0

end Cert.KernelIdeal.Gen

end
-- ==== Proof.Launch.KernelIdeal.Frame.lean ====
/- The frame of `KernelIdeal`: the three cases of its grid points put together over the launch.
   After the generated module of the same name. -/
module

public import proofs.«01_k».proof.Proof.Launch.KernelIdeal.RunA
public import proofs.«01_k».proof.Proof.Launch.KernelIdeal.RunB
public import proofs.«01_k».proof.Proof.Launch.KernelIdeal.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 15 tile its block (1 store of `S1024x512`, checked by the kernel's evaluation: Lib/Ring.lean `Piece.tiledL`, linear in the pieces, through a loop's `@[irreducible]` trip theorem too), so they cover it. -/
theorem cover0_A_15 (c : Dev nD) (i : grid0.Coords) (arg2 : Memref sig .tc .vmem S1024x512 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x512 .bf16) (harg13 : arg13.IsWhole) (arg14 : Memref sig .tc .vmem S256x512 .bf16) (harg14 : arg14.IsWhole) (arg15 : Memref sig .tc .vmem S8x1024 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S8x256x768 .f32) (harg18 : arg18.IsWhole) (hc0 : cond0_0 i) (hc1 : ¬cond0_1 i) (hc2 : cond0_2 i)
    (x0 : Vec F S1024x512 .f32) (x1 : Vec F S256x512 .bf16) (x2 : Vec F S256x512 .bf16) (x3 : Vec F S256x512 .bf16) (x4 : Vec F S256x512 .bf16) (x5 : Vec F S256x512 .bf16) (x6 : Vec F S256x512 .bf16) (x7 : Vec F S256x512 .bf16) (x8 : Vec F S256x512 .bf16) (x9 : Vec F S256x512 .bf16) (x10 : Vec F S256x512 .bf16) (x11 : Vec F S256x512 .bf16) (x12 : Vec F S256x512 .bf16) (x13 : Vec F S8x1024 .f32) (x14 : Vec F S1x512 .f32) (y : S1024x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14).1 S1024x512.size (by sl_kernel_rfl) y

/-- What case A leaves in output 15's staging buffer: its pieces read back over junk. -/
def out0_A_15 (c : Dev nD) (i : grid0.Coords) (arg2 : Memref sig .tc .vmem S1024x512 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x512 .bf16) (harg13 : arg13.IsWhole) (arg14 : Memref sig .tc .vmem S256x512 .bf16) (harg14 : arg14.IsWhole) (arg15 : Memref sig .tc .vmem S8x1024 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S8x256x768 .f32) (harg18 : arg18.IsWhole) (hc0 : cond0_0 i) (hc1 : ¬cond0_1 i) (hc2 : cond0_2 i)
    (x0 : Vec F S1024x512 .f32) (x1 : Vec F S256x512 .bf16) (x2 : Vec F S256x512 .bf16) (x3 : Vec F S256x512 .bf16) (x4 : Vec F S256x512 .bf16) (x5 : Vec F S256x512 .bf16) (x6 : Vec F S256x512 .bf16) (x7 : Vec F S256x512 .bf16) (x8 : Vec F S256x512 .bf16) (x9 : Vec F S256x512 .bf16) (x10 : Vec F S256x512 .bf16) (x11 : Vec F S256x512 .bf16) (x12 : Vec F S256x512 .bf16) (x13 : Vec F S8x1024 .f32) (x14 : Vec F S1x512 .f32) : Vec F S1024x512 .bf16 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14).1)

/-- Case A's pieces for scratch `arg18`, which the kernel carries between points, cover it: 8 pieces of `S1x256x768` tiling it (Lib/Ring.lean `Piece.tiledL`). -/
theorem scover0_A_0 (c : Dev nD) (i : grid0.Coords) (arg2 : Memref sig .tc .vmem S1024x512 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x512 .bf16) (harg13 : arg13.IsWhole) (arg14 : Memref sig .tc .vmem S256x512 .bf16) (harg14 : arg14.IsWhole) (arg15 : Memref sig .tc .vmem S8x1024 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S8x256x768 .f32) (harg18 : arg18.IsWhole) (hc0 : cond0_0 i) (hc1 : ¬cond0_1 i) (hc2 : cond0_2 i)
    (x0 : Vec F S1024x512 .f32) (x1 : Vec F S256x512 .bf16) (x2 : Vec F S256x512 .bf16) (x3 : Vec F S256x512 .bf16) (x4 : Vec F S256x512 .bf16) (x5 : Vec F S256x512 .bf16) (x6 : Vec F S256x512 .bf16) (x7 : Vec F S256x512 .bf16) (x8 : Vec F S256x512 .bf16) (x9 : Vec F S256x512 .bf16) (x10 : Vec F S256x512 .bf16) (x11 : Vec F S256x512 .bf16) (x12 : Vec F S256x512 .bf16) (x13 : Vec F S8x1024 .f32) (x14 : Vec F S1x512 .f32) (y : S8x256x768.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14).2.1 S1x256x768.size (by sl_kernel_rfl) y

/-- What case A leaves in scratch `arg18`: its pieces read back over junk. -/
def sout0_A_0 (c : Dev nD) (i : grid0.Coords) (arg2 : Memref sig .tc .vmem S1024x512 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x512 .bf16) (harg13 : arg13.IsWhole) (arg14 : Memref sig .tc .vmem S256x512 .bf16) (harg14 : arg14.IsWhole) (arg15 : Memref sig .tc .vmem S8x1024 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S8x256x768 .f32) (harg18 : arg18.IsWhole) (hc0 : cond0_0 i) (hc1 : ¬cond0_1 i) (hc2 : cond0_2 i)
    (x0 : Vec F S1024x512 .f32) (x1 : Vec F S256x512 .bf16) (x2 : Vec F S256x512 .bf16) (x3 : Vec F S256x512 .bf16) (x4 : Vec F S256x512 .bf16) (x5 : Vec F S256x512 .bf16) (x6 : Vec F S256x512 .bf16) (x7 : Vec F S256x512 .bf16) (x8 : Vec F S256x512 .bf16) (x9 : Vec F S256x512 .bf16) (x10 : Vec F S256x512 .bf16) (x11 : Vec F S256x512 .bf16) (x12 : Vec F S256x512 .bf16) (x13 : Vec F S8x1024 .f32) (x14 : Vec F S1x512 .f32) : Vec F S8x256x768 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14).2.1)

/-- Case B's pieces for output 15 tile its block (1 store of `S1024x512`, checked by the kernel's evaluation: Lib/Ring.lean `Piece.tiledL`, linear in the pieces, through a loop's `@[irreducible]` trip theorem too), so they cover it. -/
theorem cover0_B_15 (c : Dev nD) (i : grid0.Coords) (arg2 : Memref sig .tc .vmem S1024x512 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x512 .bf16) (harg13 : arg13.IsWhole) (arg14 : Memref sig .tc .vmem S256x512 .bf16) (harg14 : arg14.IsWhole) (arg15 : Memref sig .tc .vmem S8x1024 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S8x256x768 .f32) (harg18 : arg18.IsWhole) (hc0 : ¬cond0_0 i) (hc1 : cond0_1 i) (hc2 : ¬cond0_2 i)
    (x0 : Vec F S1024x512 .f32) (x1 : Vec F S256x512 .bf16) (x2 : Vec F S256x512 .bf16) (x3 : Vec F S256x512 .bf16) (x4 : Vec F S256x512 .bf16) (x5 : Vec F S256x512 .bf16) (x6 : Vec F S256x512 .bf16) (x7 : Vec F S256x512 .bf16) (x8 : Vec F S256x512 .bf16) (x9 : Vec F S256x512 .bf16) (x10 : Vec F S256x512 .bf16) (x11 : Vec F S256x512 .bf16) (x12 : Vec F S256x512 .bf16) (x13 : Vec F S8x1024 .f32) (x14 : Vec F S1x512 .f32) (xs0 : Vec F S8x256x768 .f32) (y : S1024x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 xs0).1 S1024x512.size (by sl_kernel_rfl) y

/-- What case B leaves in output 15's staging buffer: its pieces read back over junk. -/
def out0_B_15 (c : Dev nD) (i : grid0.Coords) (arg2 : Memref sig .tc .vmem S1024x512 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x512 .bf16) (harg13 : arg13.IsWhole) (arg14 : Memref sig .tc .vmem S256x512 .bf16) (harg14 : arg14.IsWhole) (arg15 : Memref sig .tc .vmem S8x1024 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S8x256x768 .f32) (harg18 : arg18.IsWhole) (hc0 : ¬cond0_0 i) (hc1 : cond0_1 i) (hc2 : ¬cond0_2 i)
    (x0 : Vec F S1024x512 .f32) (x1 : Vec F S256x512 .bf16) (x2 : Vec F S256x512 .bf16) (x3 : Vec F S256x512 .bf16) (x4 : Vec F S256x512 .bf16) (x5 : Vec F S256x512 .bf16) (x6 : Vec F S256x512 .bf16) (x7 : Vec F S256x512 .bf16) (x8 : Vec F S256x512 .bf16) (x9 : Vec F S256x512 .bf16) (x10 : Vec F S256x512 .bf16) (x11 : Vec F S256x512 .bf16) (x12 : Vec F S256x512 .bf16) (x13 : Vec F S8x1024 .f32) (x14 : Vec F S1x512 .f32) (xs0 : Vec F S8x256x768 .f32) : Vec F S1024x512 .bf16 :=
  VO0_15.read (Elt F) (VO0_15.writes (Elt F) VO0_15.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 xs0).1)

/-- Case B stores nothing into scratch `arg18`: it holds what the point before left. -/
def sout0_B_0 (c : Dev nD) (i : grid0.Coords) (arg2 : Memref sig .tc .vmem S1024x512 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x512 .bf16) (harg13 : arg13.IsWhole) (arg14 : Memref sig .tc .vmem S256x512 .bf16) (harg14 : arg14.IsWhole) (arg15 : Memref sig .tc .vmem S8x1024 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S8x256x768 .f32) (harg18 : arg18.IsWhole) (hc0 : ¬cond0_0 i) (hc1 : cond0_1 i) (hc2 : ¬cond0_2 i)
    (x0 : Vec F S1024x512 .f32) (x1 : Vec F S256x512 .bf16) (x2 : Vec F S256x512 .bf16) (x3 : Vec F S256x512 .bf16) (x4 : Vec F S256x512 .bf16) (x5 : Vec F S256x512 .bf16) (x6 : Vec F S256x512 .bf16) (x7 : Vec F S256x512 .bf16) (x8 : Vec F S256x512 .bf16) (x9 : Vec F S256x512 .bf16) (x10 : Vec F S256x512 .bf16) (x11 : Vec F S256x512 .bf16) (x12 : Vec F S256x512 .bf16) (x13 : Vec F S8x1024 .f32) (x14 : Vec F S1x512 .f32) (xs0 : Vec F S8x256x768 .f32) : Vec F S8x256x768 .f32 := xs0

/-- Case C's pieces for output 15 tile its block (1 store of `S1024x512`, checked by the kernel's evaluation: Lib/Ring.lean `Piece.tiledL`, linear in the pieces, through a loop's `@[irreducible]` trip theorem too), so they cover it. -/
theorem cover0_C_15 (c : Dev nD) (i : grid0.Coords) (arg2 : Memref sig .tc .vmem S1024x512 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x512 .bf16) (harg13 : arg13.IsWhole) (arg14 : Memref sig .tc .vmem S256x512 .bf16) (harg14 : arg14.IsWhole) (arg15 : Memref sig .tc .vmem S8x1024 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S8x256x768 .f32) (harg18 : arg18.IsWhole) (hc0 : ¬cond0_0 i) (hc1 : ¬cond0_1 i) (hc2 : cond0_2 i)
    (x0 : Vec F S1024x512 .f32) (x1 : Vec F S256x512 .bf16) (x2 : Vec F S256x512 .bf16) (x3 : Vec F S256x512 .bf16) (x4 : Vec F S256x512 .bf16) (x5 : Vec F S256x512 .bf16) (x6 : Vec F S256x512 .bf16) (x7 : Vec F S256x512 .bf16) (x8 : Vec F S256x512 .bf16) (x9 : Vec F S256x512 .bf16) (x10 : Vec F S256x512 .bf16) (x11 : Vec F S256x512 .bf16) (x12 : Vec F S256x512 .bf16) (x13 : Vec F S8x1024 .f32) (x14 : Vec F S1x512 .f32) (xs0 : Vec F S8x256x768 .f32) (y : S1024x512.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 xs0).1 S1024x512.size (by sl_kernel_rfl) y

/-- What case C leaves in output 15's staging buffer: its pieces read back over junk. -/
def out0_C_15 (c : Dev nD) (i : grid0.Coords) (arg2 : Memref sig .tc .vmem S1024x512 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x512 .bf16) (harg13 : arg13.IsWhole) (arg14 : Memref sig .tc .vmem S256x512 .bf16) (harg14 : arg14.IsWhole) (arg15 : Memref sig .tc .vmem S8x1024 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S8x256x768 .f32) (harg18 : arg18.IsWhole) (hc0 : ¬cond0_0 i) (hc1 : ¬cond0_1 i) (hc2 : cond0_2 i)
    (x0 : Vec F S1024x512 .f32) (x1 : Vec F S256x512 .bf16) (x2 : Vec F S256x512 .bf16) (x3 : Vec F S256x512 .bf16) (x4 : Vec F S256x512 .bf16) (x5 : Vec F S256x512 .bf16) (x6 : Vec F S256x512 .bf16) (x7 : Vec F S256x512 .bf16) (x8 : Vec F S256x512 .bf16) (x9 : Vec F S256x512 .bf16) (x10 : Vec F S256x512 .bf16) (x11 : Vec F S256x512 .bf16) (x12 : Vec F S256x512 .bf16) (x13 : Vec F S8x1024 .f32) (x14 : Vec F S1x512 .f32) (xs0 : Vec F S8x256x768 .f32) : Vec F S1024x512 .bf16 :=
  VO0_15.read (Elt F) (VO0_15.writes (Elt F) VO0_15.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 xs0).1)

/-- Case C stores nothing into scratch `arg18`: it holds what the point before left. -/
def sout0_C_0 (c : Dev nD) (i : grid0.Coords) (arg2 : Memref sig .tc .vmem S1024x512 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x512 .bf16) (harg13 : arg13.IsWhole) (arg14 : Memref sig .tc .vmem S256x512 .bf16) (harg14 : arg14.IsWhole) (arg15 : Memref sig .tc .vmem S8x1024 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S8x256x768 .f32) (harg18 : arg18.IsWhole) (hc0 : ¬cond0_0 i) (hc1 : ¬cond0_1 i) (hc2 : cond0_2 i)
    (x0 : Vec F S1024x512 .f32) (x1 : Vec F S256x512 .bf16) (x2 : Vec F S256x512 .bf16) (x3 : Vec F S256x512 .bf16) (x4 : Vec F S256x512 .bf16) (x5 : Vec F S256x512 .bf16) (x6 : Vec F S256x512 .bf16) (x7 : Vec F S256x512 .bf16) (x8 : Vec F S256x512 .bf16) (x9 : Vec F S256x512 .bf16) (x10 : Vec F S256x512 .bf16) (x11 : Vec F S256x512 .bf16) (x12 : Vec F S256x512 .bf16) (x13 : Vec F S8x1024 .f32) (x14 : Vec F S1x512 .f32) (xs0 : Vec F S8x256x768 .f32) : Vec F S8x256x768 .f32 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x512 .bf16 × Vec F S8x256x768 .f32
  | 0, hn => (out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) scM0_0 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) scM0_0 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩))
  | n + 1, hn =>
    if h0 : (n + 1) % 16 = 0 then
      if h1 : 1 ≤ (n + 1) % 8 then
        False.elim (by have hN : n + 1 < 16 := lt_of_lt_of_eq hn (show cfg0.N = 16 from N_0); omega)
      else
        if h2 : (n + 1) % 8 = 0 then
          (out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) ((hcond0_0 ⟨n + 1, hn⟩).mpr h0) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) ((hcond0_0 ⟨n + 1, hn⟩).mpr h0) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩))
        else
          False.elim (by have hN : n + 1 < 16 := lt_of_lt_of_eq hn (show cfg0.N = 16 from N_0); omega)
    else
      if h1 : 1 ≤ (n + 1) % 8 then
        if h2 : (n + 1) % 8 = 0 then
          False.elim (by have hN : n + 1 < 16 := lt_of_lt_of_eq hn (show cfg0.N = 16 from N_0); omega)
        else
          (out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2)
      else
        if h2 : (n + 1) % 8 = 0 then
          (out0_C_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2)
        else
          False.elim (by have hN : n + 1 < 16 := lt_of_lt_of_eq hn (show cfg0.N = 16 from N_0); omega)

/-- `outsAt0` at a point of case A: that case's contents. -/
theorem outsAt0_A (c : Dev nD) (t : Fin cfg0.N) (h0 : t.val % 16 = 0) (h1 : ¬1 ≤ t.val % 8) (h2 : t.val % 8 = 0) :
    outsAt0 m c t.val t.isLt = (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  obtain ⟨n, hn⟩ := t
  cases n with
  | zero => exact rfl
  | succ n => exact absurd h0 (by have hN : n + 1 < 16 := lt_of_lt_of_eq hn (show cfg0.N = 16 from N_0); dsimp only; omega)

/-- `outsAt0` at a point of case B: that case's contents, over what the point before left. -/
theorem outsAt0_B (c : Dev nD) (t : Fin cfg0.N) (h0 : ¬t.val % 16 = 0) (h1 : 1 ≤ t.val % 8) (h2 : ¬t.val % 8 = 0) :
    outsAt0 m c t.val t.isLt = (out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 16 = 0) (h1 : ¬1 ≤ t.val % 8) (h2 : t.val % 8 = 0) :
    outsAt0 m c t.val t.isLt = (out0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (outsAt0 m c t.val t.isLt).1
    | ⟨_ + 16, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases h1 : 1 ≤ t.val % 8
    · exfalso; omega
    · by_cases h2 : t.val % 8 = 0
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [liveAt0_14 t], after0_14]
        rw [show (dats m 0 c).leavesExact 15 t = owns (c : Thread nD τ) (ms0_15 t) fullShare ((dats m 0 c).after 15 t) from by
      unfold Dat.leavesExact; rw [liveAt0_15_A t ((hcond0_0 t).mpr h0) (fun h => h1 ((hcond0_1 t).mp h)) ((hcond0_2 t).mpr h2)], after0_15]
        by_cases hz : t.val = 0
        · rw [PhiS_castSucc m c t, PhiS_zero m c _ _ hz, PhiA0_eq]
          rw [outsAt0_A m c t h0 h1 h2]
          unfold out0_A_15 sout0_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
          iapply ((kernelRun0_A c (grid0.coords t) _ _ _ _ _ _ _ _ _ _ _ _ _ _ _ _ _ _ _ _ _ _ _ _ _ _ _ _ _ _ _ _ _ _ ((hcond0_0 t).mpr h0) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexists _; iexact H15
          isplitl [HS0]; · iexact HS0
          iintro ⟨H0, H1, H2, H3, H4, H5, H6, H7, H8, H9, H10, H11, H12, H13, H14, ⟨%e15, H15⟩, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          unfold owns; iexists _; isplitr
          swap; · iexact H15
          ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _)
        · exfalso; have hN : t.val < 16 := lt_of_lt_of_eq t.isLt (show cfg0.N = 16 from N_0); omega
      · exfalso; omega
  · by_cases h1 : 1 ≤ t.val % 8
    · by_cases h2 : t.val % 8 = 0
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [liveAt0_14 t], after0_14]
        rw [show (dats m 0 c).leavesExact 15 t = owns (c : Thread nD τ) (ms0_15 t) fullShare ((dats m 0 c).after 15 t) from by
      unfold Dat.leavesExact; rw [liveAt0_15_B t (fun h => h0 ((hcond0_0 t).mp h)) ((hcond0_1 t).mpr h1) (fun h => h2 ((hcond0_2 t).mp h))], after0_15]
        by_cases hz : t.val = 0
        · exfalso; have hN : t.val < 16 := lt_of_lt_of_eq t.isLt (show cfg0.N = 16 from N_0); omega
        · rw [PhiS_castSucc m c t, PhiS_pos m c _ _ hz]
          rw [outsAt0_B m c t h0 h1 h2]
          unfold out0_B_15 sout0_B_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
          iapply ((kernelRun0_B c (grid0.coords t) _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _).2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexists _; iexact H15
          isplitl [HS0]; · iexact HS0
          iintro ⟨H0, H1, H2, H3, H4, H5, H6, H7, H8, H9, H10, H11, H12, H13, H14, ⟨%e15, H15⟩, HS0⟩
          isplitl [HS0 Hg]
          · isplitl [HS0]
            · iexact HS0
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          unfold owns; iexists _; isplitr
          swap; · iexact H15
          ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _)
    · by_cases h2 : t.val % 8 = 0
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [liveAt0_14 t], after0_14]
        rw [show (dats m 0 c).leavesExact 15 t = owns (c : Thread nD τ) (ms0_15 t) fullShare ((dats m 0 c).after 15 t) from by
      unfold Dat.leavesExact; rw [liveAt0_15_C t (fun h => h0 ((hcond0_0 t).mp h)) (fun h => h1 ((hcond0_1 t).mp h)) ((hcond0_2 t).mpr h2)], after0_15]
        by_cases hz : t.val = 0
        · exfalso; have hN : t.val < 16 := lt_of_lt_of_eq t.isLt (show cfg0.N = 16 from N_0); omega
        · rw [PhiS_castSucc m c t, PhiS_pos m c _ _ hz]
          rw [outsAt0_C m c t h0 h1 h2]
          unfold out0_C_15 sout0_C_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
          iapply ((kernelRun0_C c (grid0.coords t) _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _).2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexists _; iexact H15
          isplitl [HS0]; · iexact HS0
          iintro ⟨H0, H1, H2, H3, H4, H5, H6, H7, H8, H9, H10, H11, H12, H13, H14, ⟨%e15, H15⟩, HS0⟩
          isplitl [HS0 Hg]
          · isplitl [HS0]
            · iexact HS0
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          unfold owns; iexists _; isplitr
          swap; · iexact H15
          ipureintro; exact View.read_writes_of_cover _ _ _ _ _ (cover0_C_15 c _ _ _ _ _ _ _ _ _ _ _ _ _ _ _ _ _ _ _ _ _ _ _ _ _ _ _ _ _ _ _ _ _ _ _ _ _ _ _ _ _ _ _ _ _ _ _ _ _ _ _ _ _ _)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.Launch.KernelIdeal.Value.lean ====
/- The run of `KernelIdeal` with its value: what the output array holds after the launch, block by block.
   After the generated module of the same name. -/
module

public import proofs.«01_k».proof.Proof.Launch.KernelIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v17) = (dats m 0 c).arrAt 15 cfg0.N :=
  (h c).1 15

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-! ## The output array -/

/-- The grid point that writes row `i 0` of the output back. -/
def point (i : S16384x512.Idx) : Fin cfg0.N :=
  ⟨(i 0).val / 1024, lt_of_lt_of_eq (by have h0 : (i 0).val < 16384 := (i 0).isLt; omega) N_0.symm⟩

/-- The place of an index of the output in the block that holds it. -/
def place (i : S16384x512.Idx) : S1024x512.Idx := fun a => match a with
  | ⟨0, _⟩ => ⟨(i 0).val % 1024, Nat.mod_lt _ (by decide)⟩
  | ⟨1, _⟩ => ⟨(i 1).val % 512, Nat.mod_lt _ (by decide)⟩

/-- What the output array ends holding: each block as its point leaves it. -/
def G15 (c : Dev nD) : Buf (Elt F) ((c : Thread nD τ).loc main_v17) := fun i =>
  (outsAt0 m c (point i).val (point i).isLt).1 (place i)

/-- The block index of the output at each point. -/
theorem idx_facts15 : ∀ t : Fin cfg0.N, win0_15.index t (0 : Fin 2) = t.val ∧ win0_15.index t (1 : Fin 2) = 0 :=
  (by decide +kernel : ∀ t : Fin grid0.N, _)

/-- Every point writes its block back. -/
theorem flush15 : ∀ t : Fin cfg0.N, (cfg0.win 15).flush t = true :=
  (by decide +kernel : ∀ t : Fin grid0.N, win0_15.flush t = true)

/-- What a point writes back is its block of `G15`. -/
theorem flushed15_eq (c : Dev nD) (t : Fin cfg0.N) :
    (dats m 0 c).flushed 15 t = ((cfg0.win 15).blk t).view.read (Elt F) (G15 m c) := by
  show (cfg0.win 15).cut (grid0.coords t) ((dats m 0 c).after 15 t) = _
  rw [after0_15]
  obtain ⟨e0, e1⟩ := idx_facts15 t
  funext y
  have hy0 : (y 0).val < 1024 := (y 0).isLt
  have hy1 : (y 1).val < 512 := (y 1).isLt
  have hb0 : (((cfg0.win 15).blk t).view.emb y 0).val = win0_15.index t (0 : Fin 2) * 1024 + 1 * (y 0).val := rfl
  have hb1 : (((cfg0.win 15).blk t).view.emb y 1).val = win0_15.index t (1 : Fin 2) * 512 + 1 * (y 1).val := rfl
  have hp : point (((cfg0.win 15).blk t).view.emb y) = t := by
    apply Fin.ext
    show (((cfg0.win 15).blk t).view.emb y 0).val / 1024 = t.val
    rw [hb0, e0]; omega
  have hl : place (((cfg0.win 15).blk t).view.emb y) = (cfg0.win 15).xinj (grid0.coords t) y := by
    funext a; apply Fin.ext
    match a with
    | ⟨0, _⟩ => show (((cfg0.win 15).blk t).view.emb y 0).val % 1024 = (y 0).val; rw [hb0]; omega
    | ⟨1, _⟩ => show (((cfg0.win 15).blk t).view.emb y 1).val % 512 = (y 1).val; rw [hb1]; omega
  show (outsAt0 m c t.val t.isLt).1 ((cfg0.win 15).xinj (grid0.coords t) y) = G15 m c (((cfg0.win 15).blk t).view.emb y)
  unfold G15
  simp only [hp, hl]

/-- The blocks cover the output. -/
theorem covered15 (i : S16384x512.Idx) :
    ∃ t : Fin cfg0.N, (cfg0.win 15).flush t = true ∧ i ∈ ((cfg0.win 15).blk t).view.set := by
  refine ⟨point i, flush15 _, ?_⟩
  obtain ⟨e0, e1⟩ := idx_facts15 (point i)
  have h0 : (i 0).val < 16384 := (i 0).isLt
  have h1 : (i 1).val < 512 := (i 1).isLt
  have hp : (point i).val = (i 0).val / 1024 := rfl
  show i ∈ ((View.whole main_v17).slice (win0_15.rect (point i))).set
  rw [View.set_slice_whole, Rect.mem_set_unit]
  intro a
  match a with
  | ⟨0, _⟩ => show win0_15.index (point i) (0 : Fin 2) * 1024 ≤ (i 0).val ∧ (i 0).val < win0_15.index (point i) (0 : Fin 2) * 1024 + 1024; omega
  | ⟨1, _⟩ => show win0_15.index (point i) (1 : Fin 2) * 512 ≤ (i 1).val ∧ (i 1).val < win0_15.index (point i) (1 : Fin 2) * 512 + 512; omega

/-- The output array after the run. -/
theorem final15 (c : Dev nD) : (dats m 0 c).arrAt 15 cfg0.N = G15 m c :=
  (dats m 0 c).arrAt_eq_of_cover 15 _ (fun t _ => flushed15_eq m c t) covered15

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v17) = G15 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post15 m r h c).trans (final15 m c),
      kept_main_arg0 m r h c,
      kept_main_arg1 m r h c,
      kept_main_arg2 m r h c,
      kept_main_arg3 m r h c,
      kept_main_arg4 m r h c⟩)
    (run_main m ρ)

end Cert.KernelIdeal.Value

end
-- ==== Proof.Ffn.Routed.lean ====
/- What the preconditions of the grouped SwiGLU call say of its two tables: every tile's expert is one of the eight, and no
   tile has more than 2048 tokens. -/
module

public import proofs.«01_k».proof.Proof.Gen.Pre_experts
public import proofs.«01_k».proof.Proof.Gen.Pre_routed
public import Idealize.ShloMosaic.Lib.WordCmp
public import Idealize.ShloMosaic.Lib.Pointwise

@[expose] public section

set_option maxRecDepth 16384

noncomputable section

namespace Cert.Ffn

open Cert.Pre_routed Idealize.ShloMosaic Idealize.ShloMosaic.WordCmp Idealize.ShloMosaic.Pointwise

/-- A word that is not negative is below a small one exactly as a natural number. -/
theorem below_of_words (x y : BitVec 32) (hy : y.toNat < 2 ^ 31)
    (h : IntOp.andi (IntOp.cmpi .sge x 0#32) (IntOp.cmpi .slt x y) = 1#1) : x.toNat < y.toNat := by
  rw [cmpi_sge_eq, cmpi_slt_eq, andi_ofBool, ofBool_eq_one_iff, Bool.and_eq_true, decide_eq_true_eq, decide_eq_true_eq] at h
  obtain ⟨h0, h1⟩ := h
  rw [show (0#32).toInt = 0 from rfl, BitVec.toInt_eq_toNat_cond] at h0
  rw [BitVec.toInt_eq_toNat_cond, BitVec.toInt_eq_toNat_cond] at h1
  have := x.isLt
  split at h0 <;> split at h1 <;> omega

/-- A word found at most 2048 is so as an integer. -/
theorem atMost_of_word (x : BitVec 32) (h : IntOp.cmpi .sle x 2048#32 = 1#1) : x.toInt ≤ 2048 := by
  rw [cmpi_sle_eq, ofBool_eq_one_iff, decide_eq_true_eq] at h
  exact h

variable {F : FTy → Type} [FloatOps F] (te tv : IVec S25 32) (xs : FVec F S51200x1024 .f32) (wg wu : FVec F S8x1024x2816 .f32) (wd : FVec F S8x2816x1024 .f32)

/-- The frames' precondition: every tile's expert is one of the eight. -/
theorem expert_in (h : Cert.Pre_experts.fn te tv xs wg wu wd = fun _ => 1#1) (t : Fin 25) : (te (ix1 t)).toNat < 8 :=
  below_of_words _ 8#32 (by decide) (congrFun h (ix1 t))

/-- The value's says so too. -/
theorem expert_lt (h : (fn te tv xs wg wu wd).1 = fun _ => 1#1) (t : Fin 25) : (te (ix1 t)).toNat < 8 :=
  below_of_words _ 8#32 (by decide) (congrFun h (ix1 t))

/-- And no tile has more than 2048 tokens. -/
theorem tokens_le (h : (fn te tv xs wg wu wd).2 = fun _ => 1#1) (t : Fin 25) : (tv (ix1 t)).toInt ≤ 2048 :=
  atMost_of_word _ (congrFun h (ix1 t))

end Cert.Ffn

end
-- ==== Proof.Ffn.Kernel2Ideal.Base.lean ====
/- The launch of the grouped SwiGLU call `Kernel2Ideal`, for every contents of its two tables: the result window's
   write-backs, @main up to the region, the windows' blocks, the reset's condition over the grid. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.TableIdle

@[expose] public section

-- membership in a rectangle of production extents (`View.cover_of_tiled`): the elaborator's structural look
-- recurses once per coordinate of the long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The schedule -/

/-- Window 4 (result 0 (%0)) is written back at the points ≡ 10 (mod 11), at any contents of the tables (its index map reads none). -/
theorem flush0_4 (a : (pcfg0 (F := F)).Adm) : ∀ t : Fin (cfg0 a).N, ((cfg0 a).win 4).flush t = true ↔ t.val % 11 = 10 :=
  (fun t => Pipeline.Window.flushOf_reads cc0_transform_4 reads0_4 hreads0_4 0 (by decide) (by decide) (Pipeline.Window.sep_of_coord cc0_transform_4 0 0 (fun _ => rfl) (by decide)) (P := 11) (m := 10) (by decide) rfl t : ∀ t : Fin grid0.N, Pipeline.Window.flushOf grid0 true cc0_transform_4 t = true ↔ t.val % 11 = 10)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_swiglu_grouped (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _)

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S25 .i32 := Memref.whole main_arg0
abbrev htbM0_0 : tbM0_0.IsWhole := Memref.isWhole_whole _
abbrev tbM0_1 : Memref sig .tc .smem S25 .i32 := Memref.whole main_arg1
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel2Ideal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c)))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 11) — by arithmetic of the point. -/
theorem hcond0_0 : ∀ t : Fin grid0.N, cond0_0 (grid0.coords t) ↔ t.val % 11 = 0 :=
  (fun t => by
    have ht : t.val < 275 := Nat.lt_of_lt_of_eq t.isLt N_0
    have e0 : (grid0.coords t 0).val = t.val / 11 % 25 := Pipeline.Grid.coords_val t 0 (by decide) rfl
    have e1 : (grid0.coords t 1).val = t.val / 1 % 11 := Pipeline.Grid.coords_val t 1 (by decide) rfl
    simp only [cond0_0, e0, e1]
    word_cmp
   : ∀ t : Fin grid0.N, cond0_0 (grid0.coords t) ↔ t.val % 11 = 0)

/-! ## The kernel body on any staging memrefs: a subtype the run finds -/

/-- One staging buffer of output window 4, through which its contents are stated (`View.read_writes_of_cover`: the
    choice does not matter). -/
abbrev VO0_4 : View sig .tc .vmem S2048x1024 .f32 := (Memref.whole cc0_stg4_0 : Memref sig .tc .vmem S2048x1024 .f32).view
/-- Each window's current staging memref at point `t`, spelled as the pipeline passes it (`bodyAt0`), and its wholeness. -/
abbrev ms0_0 (hO : Ok m) (t : Fin (cfgM m hO).N) : Memref sig .tc .vmem S2048x1024 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x256 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x256x1024 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S2048x1024 .f32 := spec0_4.stage ((cfgM m hO).slots t 4)
abbrev hs0_4 (hO : Ok m) (t : Fin (cfgM m hO).N) : (ms0_4 m hO t).IsWhole := hstage0_4 (((cfgM m hO).slots t 4).cast nbuf0_4)
/-- The scratch operands: whole scoped buffers of the kernel's own, passed beside the windows. -/
abbrev scM0_0 : Memref sig .tc .vmem S2048x1024 .bf16 := Memref.whole cc0_scratch0
/-- The scratch `arg9` the kernel carries between points, as a view: what it holds is stated through it. -/
abbrev VS0_0 : View sig .tc .vmem S2048x1024 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel2Ideal.Gen

end
-- ==== Proof.Ffn.Kernel2Ideal.Body.lean ====
/- The body of the grouped SwiGLU call `Kernel2Ideal` as one step on its tiles: for every point, every contents of the
   tables and every contents of the tiles, what it leaves in the token tile and in the result tile. -/
module

public import proofs.«01_k».proof.Proof.Ffn.Kernel2Ideal.Base
public import Idealize.ShloMosaic.Lib.VecWindow

@[expose] public section

-- membership in a rectangle of production extents (`View.cover_of_tiled`): the elaborator's structural look
-- recurses once per coordinate of the long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Rows `[r, r + 512)` of a block of 2048 rows. -/
abbrev slab {e : EltTy} (r : ℕ) (hr : ∀ a, (![r, 0] : Fin 2 → ℕ) a + S512x1024.size a ≤ S2048x1024.size a) (x : Vec F S2048x1024 e) : Vec F S512x1024 e :=
  VecWindow.window (s := S2048x1024) x ![r, 0] S512x1024.size hr

/-- What one chain of the body stores at rows `[r, r + 512)`: the SwiGLU of those rows of the tokens `xs` under the weight
    blocks, added to those rows of `o`. -/
abbrev chain (x1 x2 : Vec F S1x1024x256 .f32) (x3 : Vec F S1x256x1024 .f32) (xs : Vec F S2048x1024 .bf16) (o : Vec F S2048x1024 .f32)
    (r : ℕ) (hr : ∀ a, (![r, 0] : Fin 2 → ℕ) a + S512x1024.size a ≤ S2048x1024.size a) : Vec F S512x1024 .f32 :=
  k0_pay20 x1 x2 x3 (slab r hr xs) (slab r hr o)

/-- `o` with rows `[r, r + 512)` replaced by `w`. -/
abbrev putRows (r : ℕ) (w : Vec F S512x1024 .f32) (o : Vec F S2048x1024 .f32) : Vec F S2048x1024 .f32 :=
  VecWindow.put (s := S2048x1024) o ![r, 0] S512x1024.size w

/-- The token tile after the body: copied at a tile's first point, kept otherwise. -/
def stepS (i : grid0.Coords) (x0 : Vec F S2048x1024 .f32) (xs : Vec F S2048x1024 .bf16) : Vec F S2048x1024 .bf16 :=
  if k0_cond1 i = 1#1 then k0_pay18 x0 else xs

/-- The result tile the chains start from: cleared at a tile's first point, kept otherwise. -/
def stepB (i : grid0.Coords) (xo : Vec F S2048x1024 .f32) : Vec F S2048x1024 .f32 :=
  if k0_cond1 i = 1#1 then k0_pay19 else xo

/-- The chains of a point whose tile has `v` tokens, on `o`: one to four of them. -/
def stepC (v : BitVec 32) (x1 x2 : Vec F S1x1024x256 .f32) (x3 : Vec F S1x256x1024 .f32) (xs : Vec F S2048x1024 .bf16) (o : Vec F S2048x1024 .f32) : Vec F S2048x1024 .f32 :=
  let c0 := fun o => chain x1 x2 x3 xs o 0 inb_S2048x1024_S512x1024_0_0
  let c1 := fun o => chain x1 x2 x3 xs o 512 inb_S2048x1024_S512x1024_512_0
  let c2 := fun o => chain x1 x2 x3 xs o 1024 inb_S2048x1024_S512x1024_1024_0
  let c3 := fun o => chain x1 x2 x3 xs o 1536 inb_S2048x1024_S512x1024_1536_0
  let o2 := if k0_cond2 v = 1#1 then putRows 0 (c0 o) o else o
  let o3 := if k0_cond3 v = 1#1 then putRows 512 (c1 o2) (putRows 0 (c0 o2) o2) else o2
  let o4 := if k0_cond4 v = 1#1 then putRows 1024 (c2 o3) (putRows 512 (c1 o3) (putRows 0 (c0 o3) o3)) else o3
  if k0_cond5 v = 1#1 then putRows 1536 (c3 o4) (putRows 1024 (c2 o4) (putRows 512 (c1 o4) (putRows 0 (c0 o4) o4))) else o4

/-- The number of tokens of a point's tile, read off the second table. -/
abbrev tokens (c : Dev nD) (i : grid0.Coords) (xt1 : TbBuf0 (F := F) c tbM0_1) : BitVec 32 :=
  tbM0_1.view.readAt (Elt F) (Rect.unit (s := S25) (k0_off1 i) S1.size (k0_off1_inb i)).toLoadRect xt1 (Shape.Idx.first (show 0 < S1.numel by rw [numel1_S1]; exact Nat.one_pos))

/-- A load of 512 rows reads a slab of what the view reads. -/
theorem readAt_slab {e : EltTy} (v : View sig .tc .vmem S2048x1024 e) (f : v.ty.Contents (Elt F)) (r : ℕ) (hr : ∀ a, (![r, 0] : Fin 2 → ℕ) a + S512x1024.size a ≤ S2048x1024.size a) :
    v.readAt (Elt F) (Rect.unit (s := S2048x1024) ![r, 0] S512x1024.size hr).toLoadRect f = slab r hr (v.read (Elt F) f) := rfl

/-- A store of 512 rows leaves them put over what the view read. -/
theorem read_slab_store {e : EltTy} (v : View sig .tc .vmem S2048x1024 e) (f : v.ty.Contents (Elt F)) (r : ℕ) (hr : ∀ a, (![r, 0] : Fin 2 → ℕ) a + S512x1024.size a ≤ S2048x1024.size a)
    (w : Vec F S512x1024 e) (L : List (View.Piece (Elt F) S2048x1024 e)) :
    v.read (Elt F) (v.writes (Elt F) f (⟨Rect.unit (s := S2048x1024) ![r, 0] S512x1024.size hr, w⟩ :: L))
      = VecWindow.put (s := S2048x1024) (v.read (Elt F) (v.writes (Elt F) f L)) ![r, 0] S512x1024.size w :=
  View.read_writes_cons_put v f hr w L rfl

/-- Reading contents chosen by a condition is choosing what is read. -/
theorem read_ite (c : Dev nD) {S : Shape} {e : EltTy} (v : View sig .tc .vmem S e) (p : Prop) [Decidable p] (f g : Buf (Elt F) (v.loc (c : Thread nD τ))) :
    v.read (Elt F) (if p then f else g : Buf (Elt F) (v.loc (c : Thread nD τ))) = if p then v.read (Elt F) f else v.read (Elt F) g := by
  split <;> rfl

/-- The token tile's two cases are its step. -/
theorem fold_S (i : grid0.Coords) (x0 : Vec F S2048x1024 .f32) (xs : Vec F S2048x1024 .bf16) :
    (if k0_cond1 i = 1#1 then k0_pay18 x0 else xs) = stepS i x0 xs := rfl
/-- The result tile's two cases are its step. -/
theorem fold_B (i : grid0.Coords) (xo : Vec F S2048x1024 .f32) :
    (if k0_cond1 i = 1#1 then k0_pay19 else xo) = stepB i xo := rfl

/-- A load of a whole tile. -/
theorem readAt_tile {e : EltTy} (v : View sig .tc .vmem S2048x1024 e) (f : v.ty.Contents (Elt F)) (h : ∀ a, (![0, 0] : Fin 2 → ℕ) a + S2048x1024.size a ≤ S2048x1024.size a) :
    v.readAt (Elt F) (Rect.unit (s := S2048x1024) ![0, 0] S2048x1024.size h).toLoadRect f = v.read (Elt F) f := View.readAt_full v f h
/-- A load of a whole block of the gate's or the up weights. -/
theorem readAt_up (v : View sig .tc .vmem S1x1024x256 .f32) (f : v.ty.Contents (Elt F)) (h : ∀ a, (![0, 0, 0] : Fin 3 → ℕ) a + S1x1024x256.size a ≤ S1x1024x256.size a) :
    v.readAt (Elt F) (Rect.unit (s := S1x1024x256) ![0, 0, 0] S1x1024x256.size h).toLoadRect f = v.read (Elt F) f := View.readAt_full v f h
/-- A load of a whole block of the down weights. -/
theorem readAt_down (v : View sig .tc .vmem S1x256x1024 .f32) (f : v.ty.Contents (Elt F)) (h : ∀ a, (![0, 0, 0] : Fin 3 → ℕ) a + S1x256x1024.size a ≤ S1x256x1024.size a) :
    v.readAt (Elt F) (Rect.unit (s := S1x256x1024) ![0, 0, 0] S1x256x1024.size h).toLoadRect f = v.read (Elt F) f := View.readAt_full v f h
/-- A store of a whole tile leaves it. -/
theorem read_tile_store {e : EltTy} (v : View sig .tc .vmem S2048x1024 e) (f : v.ty.Contents (Elt F)) (h : ∀ a, (![0, 0] : Fin 2 → ℕ) a + S2048x1024.size a ≤ S2048x1024.size a)
    (w : Vec F S2048x1024 e) (L : List (View.Piece (Elt F) S2048x1024 e)) :
    v.read (Elt F) (v.writes (Elt F) f (⟨Rect.unit (s := S2048x1024) ![0, 0] S2048x1024.size h, w⟩ :: L)) = w := View.read_writes_full v f h w L

/-! The body's chains are printed apart, but are one function. -/
theorem pay6_eq : k0_pay6 (F := F) = k0_pay20 := rfl
theorem pay7_eq : k0_pay7 (F := F) = k0_pay20 := rfl
theorem pay11_eq : k0_pay11 (F := F) = k0_pay20 := rfl
theorem pay12_eq : k0_pay12 (F := F) = k0_pay20 := rfl
theorem pay16_eq : k0_pay16 (F := F) = k0_pay20 := rfl
theorem pay17_eq : k0_pay17 (F := F) = k0_pay20 := rfl
theorem pay21_eq (x1 x2 : Vec F S1x1024x256 .f32) (x3 : Vec F S1x256x1024 .f32) : k0_pay21 (k0_pay8 x1) (k0_pay9 x2) (k0_pay10 x3) = k0_pay20 x1 x2 x3 := rfl
theorem pay1_eq (x1 x2 : Vec F S1x1024x256 .f32) (x3 : Vec F S1x256x1024 .f32) : k0_pay1 (k0_pay13 x1) (k0_pay14 x2) (k0_pay15 x3) = k0_pay20 x1 x2 x3 := rfl
theorem pay2_eq (x1 x2 : Vec F S1x1024x256 .f32) (x3 : Vec F S1x256x1024 .f32) : k0_pay2 (k0_pay13 x1) (k0_pay14 x2) (k0_pay15 x3) = k0_pay20 x1 x2 x3 := rfl

set_option maxHeartbeats 1000000 in
/-- The body on whole staging memrefs: it leaves the inputs and the tables as they were, the token tile at `stepS` and the
    result tile at `stepC` of what they held. -/
theorem bodyRun (c : Dev nD) (i : grid0.Coords) (arg4 : Memref sig .tc .vmem S2048x1024 .f32) (harg4 : arg4.IsWhole) (arg5 : Memref sig .tc .vmem S1x1024x256 .f32) (harg5 : arg5.IsWhole) (arg6 : Memref sig .tc .vmem S1x1024x256 .f32) (harg6 : arg6.IsWhole) (arg7 : Memref sig .tc .vmem S1x256x1024 .f32) (harg7 : arg7.IsWhole) (arg8 : Memref sig .tc .vmem S2048x1024 .f32) (harg8 : arg8.IsWhole) (arg9 : Memref sig .tc .vmem S2048x1024 .bf16) (harg9 : arg9.IsWhole)
    (x0 : Vec F S2048x1024 .f32) (x1 : Vec F S1x1024x256 .f32) (x2 : Vec F S1x1024x256 .f32) (x3 : Vec F S1x256x1024 .f32) (xo : Vec F S2048x1024 .f32) (xs : Vec F S2048x1024 .bf16) (xt0 : TbBuf0 (F := F) c tbM0_0) (xt1 : TbBuf0 (F := F) c tbM0_1)
    (E : Set ℕ) (K : PUnit → sProp 𝕄) :
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xo ∗ owns (c : Thread nD τ) arg9 fullShare xs ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3
                ∗ owns (c : Thread nD τ) arg8 fullShare (stepC (tokens c i xt1) x1 x2 x3 (stepS i x0 xs) (stepB i xo)) ∗ owns (c : Thread nD τ) arg9 fullShare (stepS i x0 xs) ∗ tbPt0 c tbM0_0 xt0 ∗ tbPt0 c tbM0_1 xt1) -∗ K ⟨⟩))
          ⊢ wp frame (wpE (defs₀ (F := F)) Variants.none c none) E (cc0_swiglu_grouped i tbM0_0 htbM0_0 tbM0_1 htbM0_1 arg4 harg4 arg5 harg5 arg6 harg6 arg7 harg7 arg8 harg8 arg9 harg9) K := by
    simp only [cc0_swiglu_grouped_eq_skeleton]; unfold cc0_swiglu_grouped_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, HT0, HT1, Hk⟩
    obtain rfl := harg4.eq_unread hf0; obtain rfl := harg5.eq_unread hf1; obtain rfl := harg6.eq_unread hf2; obtain rfl := harg7.eq_unread hf3
    obtain rfl := harg8.eq_unread hf4; obtain rfl := harg9.eq_unread hfs0
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; swap; · iexact H4
      ipureintro
      delta bodyRun.sl.r_1 bodyRun.sl.r_2 bodyRun.sl.r_3 bodyRun.sl.r_4 bodyRun.sl.r_5 bodyRun.sl.r_6 bodyRun.sl.r_7 bodyRun.sl.r_8
        bodyRun.sl.r_9 bodyRun.sl.v88 bodyRun.sl.v76_1 bodyRun.sl.v76 bodyRun.sl.v64_2 bodyRun.sl.v64_1 bodyRun.sl.v64 bodyRun.sl.v52_3
        bodyRun.sl.v52_2 bodyRun.sl.v52_1 bodyRun.sl.v52 bodyRun.sl.v81 bodyRun.sl.v69 bodyRun.sl.v57 bodyRun.sl.v45 bodyRun.sl.r
      simp -proj only [
        dite_eq_ite, readAt_tile, readAt_up, readAt_down, readAt_slab, read_ite c, read_tile_store, read_slab_store, View.writes_nil,
        Memref.IsWhole.read_unread, pay6_eq, pay7_eq, pay11_eq, pay12_eq, pay16_eq, pay17_eq, pay21_eq, pay1_eq, pay2_eq, fold_S, fold_B, stepC, tokens]
    isplitl [HS0]
    · iexists _; isplitr; swap; · iexact HS0
      ipureintro
      simp -proj only [dite_eq_ite, readAt_tile, read_ite c, read_tile_store, Memref.IsWhole.read_unread]
      rfl
    isplitl [HT0]; · iexact HT0
    iexact HT1

end Cert.Kernel2Ideal.Gen

end
-- ==== Proof.Ffn.Ints.lean ====
/- The integer part of the grouped SwiGLU call: how many subtiles of 512 rows a tile of `n` tokens has, in the kernel and in
   the reference. -/
module

public import proofs.«01_k».proof.Kernel2Ideal
public import Idealize.ShloMosaic.Lib.WordCmp

@[expose] public section

set_option maxRecDepth 16384

namespace Cert.Ffn

open Cert.Kernel2Ideal Idealize.ShloMosaic Idealize.ShloMosaic.WordCmp

/-- The subtiles of a tile of `v` tokens, none when `v` is negative. -/
abbrev subs (v : BitVec 32) : ℕ := (v.toInt.toNat + 511) / 512

/-! ## Counts that are not negative -/

/-- The kernel's four conditions say whether the subtiles are one, two, three or four. -/
theorem conds_word : ∀ n : Fin 2049,
    (k0_cond2 (BitVec.ofNat 32 n.val) = 1#1 ↔ (n.val + 511) / 512 = 1) ∧ (k0_cond3 (BitVec.ofNat 32 n.val) = 1#1 ↔ (n.val + 511) / 512 = 2)
    ∧ (k0_cond4 (BitVec.ofNat 32 n.val) = 1#1 ↔ (n.val + 511) / 512 = 3) ∧ (k0_cond5 (BitVec.ofNat 32 n.val) = 1#1 ↔ (n.val + 511) / 512 = 4) := by
  decide +kernel

/-- The sign of a word, as a word. -/
abbrev sign (x : BitVec 32) : BitVec 32 := if x = 0 then 0 else if x.msb then -1 else 1

/-- The reference's number of rows worked on: the quotient rounded down, from the one rounded to zero, times 512. -/
abbrev rowsWord (n : BitVec 32) : BitVec 32 :=
  let x := IntOp.addi n 511#32
  let d := IntOp.divsi .host x 512#32
  IntOp.muli (Scalar.select (IntOp.andi (IntOp.cmpi .ne (sign x) (sign 512#32)) (IntOp.cmpi .ne (IntOp.remsi .host x 512#32) 0#32))
    (IntOp.subi d 1#32) d) 512#32

/-- It is 512 for each subtile. -/
theorem rowsWord_word : ∀ n : Fin 2049, rowsWord (BitVec.ofNat 32 n.val) = BitVec.ofNat 32 (512 * ((n.val + 511) / 512)) := by
  decide +kernel

/-- Row `r` is compared with them as a number. -/
theorem row_word : ∀ (r : Fin 2048) (k : Fin 5), IntOp.cmpi .slt (BitVec.ofNat 32 r.val) (BitVec.ofNat 32 (512 * k.val))
    = if r.val < 512 * k.val then 1#1 else 0#1 := by
  decide +kernel

/-- A count that is not negative is the same number read either way. -/
theorem count_word (v : BitVec 32) (h0 : 0 ≤ v.toInt) (hv : v.toInt ≤ 2048) : ∃ n : Fin 2049, v = BitVec.ofNat 32 n.val ∧ v.toInt.toNat = n.val := by
  have h : v.toInt = v.toNat := by
    rw [BitVec.toInt_eq_toNat_cond] at h0 ⊢
    have := v.isLt
    split <;> rename_i hc
    · rfl
    · rw [if_neg hc] at h0; omega
  refine ⟨⟨v.toNat, by omega⟩, by simp, ?_⟩
  show v.toInt.toNat = v.toNat
  omega

/-! ## Negative counts -/

/-- The quotient by 512 rounded to zero, or one less, is not positive when the dividend is below 512. -/
theorem quotient_nonpos (u : ArithUnit) (x : BitVec 32) (h1 : -2147483137 ≤ x.toInt) (h2 : x.toInt ≤ 511) (c : BitVec 1) :
    -4194304 ≤ (Scalar.select c (IntOp.subi (IntOp.divsi u x 512#32) 1#32) (IntOp.divsi u x 512#32)).toInt
    ∧ (Scalar.select c (IntOp.subi (IntOp.divsi u x 512#32) 1#32) (IntOp.divsi u x 512#32)).toInt ≤ 0 := by
  have ht : -4194303 ≤ x.toInt.tdiv 512 ∧ x.toInt.tdiv 512 ≤ 0 := by
    by_cases h : 0 ≤ x.toInt
    · rw [Int.tdiv_eq_ediv_of_nonneg h]
      omega
    · rw [show x.toInt = -(-x.toInt) by omega, Int.neg_tdiv, Int.tdiv_eq_ediv_of_nonneg (by omega)]
      omega
  obtain ⟨ht1, ht2⟩ := ht
  have hd : (IntOp.divsi u x 512#32).toInt = x.toInt.tdiv 512 := by
    unfold IntOp.divsi
    rw [if_neg (by unfold IntOp.SDivCorner; rintro (h | ⟨_, h⟩) <;> exact absurd h (by decide)), BitVec.toInt_sdiv]
    rw [show (512#32).toInt = 512 from rfl]
    refine Int.bmod_eq_of_le ?_ ?_ <;> omega
  have hs : (IntOp.subi (IntOp.divsi u x 512#32) 1#32).toInt = x.toInt.tdiv 512 - 1 := by
    unfold IntOp.subi
    rw [BitVec.toInt_sub, hd, show (1#32).toInt = 1 from rfl]
    refine Int.bmod_eq_of_le ?_ ?_ <;> omega
  by_cases hc : c = 1#1
  · rw [select_of_eq_one hc, hs]; constructor <;> omega
  · rw [show Scalar.select c (IntOp.subi (IntOp.divsi u x 512#32) 1#32) (IntOp.divsi u x 512#32) = _ from if_neg hc, hd]
    constructor <;> omega

/-- A word that is not positive is not found equal to a positive one. -/
theorem not_found (q k : BitVec 32) (hq : q.toInt ≤ 0) (hk : 0 < k.toInt) :
    ¬ Scalar.cmpi .ne (Scalar.extui (Scalar.cmpi .eq q k) : BitVec 32) 0#32 = 1#1 := by
  have h : q ≠ k := by
    rintro rfl
    omega
  rw [scalar_cmpi_eq, scalar_cmpi_eq, cmpi_eq_eq, decide_eq_false h]
  decide

/-- The dividend of a negative count. -/
theorem dividend (v : BitVec 32) (h : v.toInt < 0) : (IntOp.addi v 511#32).toInt = v.toInt + 511 := by
  have h1 := BitVec.le_toInt v
  unfold IntOp.addi
  rw [BitVec.toInt_add, show (511#32).toInt = 511 from rfl]
  refine Int.bmod_eq_of_le ?_ ?_ <;> omega

/-- The kernel's dividend is the same. -/
theorem dividend_kernel (v : BitVec 32) : Scalar.subi (Scalar.addi v 512#32) 1#32 = IntOp.addi v 511#32 := by
  show v + 512#32 - 1#32 = v + 511#32
  rw [BitVec.sub_eq_add_neg, BitVec.add_assoc]
  rfl

/-- None of the kernel's conditions holds of a negative count. -/
theorem conds_negative (v : BitVec 32) (h : v.toInt < 0) :
    ¬ k0_cond2 v = 1#1 ∧ ¬ k0_cond3 v = 1#1 ∧ ¬ k0_cond4 v = 1#1 ∧ ¬ k0_cond5 v = 1#1 := by
  have hx := dividend v h
  rw [← dividend_kernel] at hx
  have h1 := BitVec.le_toInt v
  have hq := fun c => (quotient_nonpos .scalar _ (by rw [hx]; omega) (by rw [hx]; omega) c).2
  exact ⟨not_found _ 1#32 (hq _) (by decide), not_found _ 2#32 (hq _) (by decide), not_found _ 3#32 (hq _) (by decide),
    not_found _ 4#32 (hq _) (by decide)⟩

/-- The reference works on no row of a negative count. -/
theorem rowsWord_negative (v : BitVec 32) (h : v.toInt < 0) : (rowsWord v).toInt ≤ 0 := by
  have hx := dividend v h
  have h1 := BitVec.le_toInt v
  have hq := fun c => quotient_nonpos .host _ (by rw [hx]; omega) (by rw [hx]; omega) c
  unfold rowsWord
  dsimp only
  generalize IntOp.andi _ _ = c
  obtain ⟨ha, hb⟩ := hq c
  generalize Scalar.select c _ _ = q at ha hb ⊢
  unfold IntOp.muli
  rw [BitVec.toInt_mul, show (512#32).toInt = 512 from rfl]
  rw [Int.bmod_eq_of_le (by omega) (by omega)]
  omega

/-! ## All counts up to 2048 -/

/-- The kernel's four conditions say whether the subtiles are one, two, three or four. -/
theorem conds (v : BitVec 32) (hv : v.toInt ≤ 2048) :
    (k0_cond2 v = 1#1 ↔ subs v = 1) ∧ (k0_cond3 v = 1#1 ↔ subs v = 2)
    ∧ (k0_cond4 v = 1#1 ↔ subs v = 3) ∧ (k0_cond5 v = 1#1 ↔ subs v = 4) := by
  by_cases h0 : 0 ≤ v.toInt
  · obtain ⟨n, hn, hc⟩ := count_word v h0 hv
    unfold subs
    rw [hc, hn]
    exact conds_word n
  · obtain ⟨h2, h3, h4, h5⟩ := conds_negative v (by omega)
    have hs : subs v = 0 := by unfold subs; omega
    rw [hs]
    exact ⟨iff_of_false h2 (by decide), iff_of_false h3 (by decide), iff_of_false h4 (by decide), iff_of_false h5 (by decide)⟩

/-- Row `r` is one of those the reference works on exactly when it is in one of the subtiles. -/
theorem row_worked (v : BitVec 32) (hv : v.toInt ≤ 2048) (r : Fin 2048) :
    IntOp.cmpi .slt (BitVec.ofNat 32 r.val) (rowsWord v) = if r.val < 512 * subs v then 1#1 else 0#1 := by
  by_cases h0 : 0 ≤ v.toInt
  · obtain ⟨n, hn, hc⟩ := count_word v h0 hv
    have hlt := n.isLt
    unfold subs
    rw [hc, hn, rowsWord_word n]
    exact row_word r ⟨(n.val + 511) / 512, by omega⟩
  · have h := rowsWord_negative v (by omega)
    have hr : (BitVec.ofNat 32 r.val).toInt = r.val := toInt_ofNat_of_lt (lt_trans r.isLt (by decide))
    have hs : subs v = 0 := by unfold subs; omega
    rw [hs, if_neg (by omega), cmpi_slt_eq, decide_eq_false (by rw [hr]; omega)]
    rfl

end Cert.Ffn
-- ==== Proof.Attn.Spec.lean ====
/- The chunk-band attention at an element, over extended reals: what both programs are shown to compute. -/
module

public import Idealize.ShloMosaic.PureOps.Ideal.Laws
public import Idealize.ShloMosaic.Lib.Pointwise

@[expose] public section

noncomputable section

namespace Cert.Attn

open Idealize.ShloMosaic Idealize.ShloMosaic.Pointwise

/-- The entry of a matrix at natural numbers, zero outside it. -/
def at2 {a b : ℕ} (X : Shape.Idx ⟨2, ![a, b]⟩ → EReal) (i j : ℕ) : EReal :=
  if h : i < a ∧ j < b then X (ix2 ⟨i, h.1⟩ ⟨j, h.2⟩) else 0

/-- Inside the matrix it is the matrix's entry. -/
theorem at2_of {a b : ℕ} (X : Shape.Idx ⟨2, ![a, b]⟩ → EReal) (i : Fin a) (j : Fin b) :
    X (ix2 i j) = at2 X i.val j.val := by
  unfold at2
  rw [dif_pos ⟨i.isLt, j.isLt⟩]

/-- An element of an array by its row and column numbers. -/
theorem at2_self {A B : ℕ} (X : (⟨2, ![A, B]⟩ : Shape).Idx → EReal) (y : (⟨2, ![A, B]⟩ : Shape).Idx) :
    X y = at2 X (y 0).val (y 1).val := by
  have e : y = ix2 (y 0) (y 1) := by
    funext a
    match a with
    | ⟨0, _⟩ => rfl
    | ⟨1, _⟩ => rfl
  conv_lhs => rw [e]
  exact at2_of X (y 0) (y 1)

/-- Whether place `kk` of the window of row `R` is a key of the sequence: the window of a chunk of 64 positions begins
    512 positions before it. -/
def IsKey (R kk : ℕ) : Prop := 512 ≤ R % 8192 / 64 * 64 + kk

instance (R kk : ℕ) : Decidable (IsKey R kk) := inferInstanceAs (Decidable (_ ≤ _))

/-- The row of the keys that place `kk` of the window of row `R` is. -/
def keyRow (R kk : ℕ) : ℕ := R / 8192 * 8192 + R % 8192 / 64 * 64 + kk - 512

variable (q k v : Shape.Idx ⟨2, ![17408, 512]⟩ → EReal) (table : Shape.Idx ⟨2, ![8, 257]⟩ → EReal)

/-- The score of row `R` in head `h` at place `kk` of its window: the scaled product and the bias of the distance, `⊥`
    before the sequence. -/
def score (R h kk : ℕ) : EReal :=
  if IsKey R kk then
    (∑ x : Fin 64, at2 q R (64 * h + x.val) * at2 k (keyRow R kk) (64 * h + x.val)) * ((1 / 8 : ℝ) : EReal)
      + at2 table h (min (640 + R % 64 - kk) 256)
  else ⊥

/-- The value at place `kk` of the window of row `R`, in column `C`. -/
def valueAt (R C kk : ℕ) : EReal := if IsKey R kk then at2 v (keyRow R kk) C else 0

/-- The greatest score of a row. -/
def top (R h : ℕ) : EReal := Finset.univ.sup fun kk : Fin 576 => score q k table R h kk.val

/-- The attention at an element: the values of the window weighted by the softmax of the scores. -/
def attend (R C : ℕ) : EReal :=
  ∑ kk : Fin 576, Ideal.div (Ideal.exp (score q k table R (C / 64) kk.val - top q k table R (C / 64)))
    (∑ j : Fin 576, Ideal.exp (score q k table R (C / 64) j.val - top q k table R (C / 64))) * valueAt v R C kk.val

/-- A row normalised by its root mean square and weighted. -/
def normed (a : ℕ → EReal) (w : EReal) (C : ℕ) : EReal :=
  a C * Ideal.rsqrt (Ideal.div (∑ x : Fin 512, a x.val * a x.val) (Ideal.ofBits FTy.f32 1140850688#32)
    + Ideal.ofBits FTy.f32 925353388#32) * w

end Cert.Attn
-- ==== Proof.Ffn.Spec.lean ====
/- The grouped SwiGLU at an element, over extended reals: what both programs are shown to compute. -/
module

public import proofs.«01_k».proof.Proof.Attn.Spec

@[expose] public section

noncomputable section

namespace Cert.Ffn

open Idealize.ShloMosaic Idealize.ShloMosaic.Pointwise
open Cert.Attn (at2 at2_of)

/-- The entry of an array of three axes at natural numbers, zero outside it. -/
def at3 {a b c : ℕ} (X : Shape.Idx ⟨3, ![a, b, c]⟩ → EReal) (i j k : ℕ) : EReal :=
  if h : i < a ∧ j < b ∧ k < c then X (ix3 ⟨i, h.1⟩ ⟨j, h.2.1⟩ ⟨k, h.2.2⟩) else 0

/-- Inside the array it is the array's entry. -/
theorem at3_of {a b c : ℕ} (X : Shape.Idx ⟨3, ![a, b, c]⟩ → EReal) (i : Fin a) (j : Fin b) (k : Fin c) :
    X (ix3 i j k) = at3 X i.val j.val k.val := by
  unfold at3
  rw [dif_pos ⟨i.isLt, j.isLt, k.isLt⟩]

/-- An element of an array by its three numbers. -/
theorem at3_self {A B C : ℕ} (X : (⟨3, ![A, B, C]⟩ : Shape).Idx → EReal) (y : (⟨3, ![A, B, C]⟩ : Shape).Idx) :
    X y = at3 X (y 0).val (y 1).val (y 2).val := by
  have e : y = ix3 (y 0) (y 1) (y 2) := by
    funext a
    match a with
    | ⟨0, _⟩ => rfl
    | ⟨1, _⟩ => rfl
    | ⟨2, _⟩ => rfl
  conv_lhs => rw [e]
  exact at3_of X (y 0) (y 1) (y 2)

/-- The SwiGLU of a gate and an up value. -/
def swiglu (g u : EReal) : EReal := g * Ideal.logistic g * u

variable (x : Shape.Idx ⟨2, ![51200, 1024]⟩ → EReal) (wg wu : Shape.Idx ⟨3, ![8, 1024, 2816]⟩ → EReal)
  (wd : Shape.Idx ⟨3, ![8, 2816, 1024]⟩ → EReal)

/-- Token `R` through column `f` of expert `e`'s weights `w`. -/
def proj (w : Shape.Idx ⟨3, ![8, 1024, 2816]⟩ → EReal) (e R f : ℕ) : EReal := ∑ d : Fin 1024, at2 x R d.val * at3 w e d.val f

/-- What hidden unit `f` of expert `e` adds to column `C` of token `R`. -/
def unit (e R C f : ℕ) : EReal := swiglu (proj x wg e R f) (proj x wu e R f) * at3 wd e f C

/-- Column `C` of token `R` through expert `e`. -/
def expert (e R C : ℕ) : EReal := ∑ f ∈ Finset.range 2816, unit x wg wu wd e R C f

/-- The hidden units of a block of 256 come after those before it. -/
theorem units_next (e R C n : ℕ) :
    ∑ f ∈ Finset.range (256 * (n + 1)), unit x wg wu wd e R C f
      = (∑ f ∈ Finset.range (256 * n), unit x wg wu wd e R C f) + ∑ f : Fin 256, unit x wg wu wd e R C (256 * n + f.val) := by
  rw [show 256 * (n + 1) = 256 * n + 256 by omega, Finset.sum_range_add, Finset.sum_range (fun f => unit x wg wu wd e R C (256 * n + f))]

end Cert.Ffn

end
-- ==== Proof.Ffn.Step.lean ====
/- One step of the grouped SwiGLU kernel on its tiles, at an element of the result tile. -/
module

public import proofs.«01_k».proof.Proof.Ffn.Kernel2Ideal.Body
public import proofs.«01_k».proof.Proof.Ffn.Ints
public import proofs.«01_k».proof.Proof.Ffn.Spec

@[expose] public section

set_option maxRecDepth 16384

noncomputable section

namespace Cert.Ffn

open Cert.Kernel2Ideal Cert.Kernel2Ideal.Gen Idealize.ShloMosaic Idealize.ShloMosaic.TcCoe Idealize.ShloMosaic.Pointwise

variable (x1 x2 : Vec Ideal S1x1024x256 .f32) (x3 : Vec Ideal S1x256x1024 .f32) (xs : Vec Ideal S2048x1024 .bf16)
  (o : Vec Ideal S2048x1024 .f32)

/-- What a step adds at row `r`, column `c`: the hidden units of its block of weights. -/
def added (r : Fin 2048) (c : Fin 1024) : EReal :=
  ∑ f : Fin 256, swiglu (∑ d : Fin 1024, xs (ix2 r d) * x1 (ix3 0 d f)) (∑ d : Fin 1024, xs (ix2 r d) * x2 (ix3 0 d f)) * x3 (ix3 0 f c)

/-- A chain at an element of its 512 rows. -/
theorem pay_apply (ys : Vec Ideal S512x1024 .bf16) (p : Vec Ideal S512x1024 .f32) (r : Fin 512) (c : Fin 1024) :
    k0_pay20 x1 x2 x3 ys p (ix2 r c)
      = p (ix2 r c) + ∑ f : Fin 256, swiglu (∑ d : Fin 1024, ys (ix2 r d) * x1 (ix3 0 d f)) (∑ d : Fin 1024, ys (ix2 r d) * x2 (ix3 0 d f)) * x3 (ix3 0 f c) := by
  unfold k0_pay20 swiglu
  pointwise []

/-- The rows a chain puts back: its own 512 with what it adds, the others as they were. -/
theorem put_chain (r0 : ℕ) (hr : ∀ a, (![r0, 0] : Fin 2 → ℕ) a + S512x1024.size a ≤ S2048x1024.size a) (o' : Vec Ideal S2048x1024 .f32)
    (r : Fin 2048) (c : Fin 1024) :
    putRows r0 (chain x1 x2 x3 xs o r0 hr) o' (ix2 r c)
      = if r0 ≤ r.val ∧ r.val < r0 + 512 then o (ix2 r c) + added x1 x2 x3 xs r c else o' (ix2 r c) := by
  have hc : c.val < 1024 := c.isLt
  unfold putRows VecWindow.put
  by_cases h : r0 ≤ r.val ∧ r.val < r0 + 512
  · have h' : ∀ a, (![r0, 0] : Fin 2 → ℕ) a ≤ ((ix2 r c : S2048x1024.Idx) a).val ∧ ((ix2 r c : S2048x1024.Idx) a).val < (![r0, 0] : Fin 2 → ℕ) a + S512x1024.size a := by
      intro a
      match a with
      | ⟨0, _⟩ => exact h
      | ⟨1, _⟩ => exact ⟨Nat.zero_le _, by show c.val < 0 + 1024; omega⟩
    rw [dif_pos h', if_pos h]
    have e : Rect.unitLocal (s := S2048x1024) (off := ![r0, 0]) (size := S512x1024.size) (ix2 r c) h' = (ix2 (⟨r.val - r0, by omega⟩ : Fin 512) c : S512x1024.Idx) := by
      funext a
      match a with
      | ⟨0, _⟩ => rfl
      | ⟨1, _⟩ => exact Fin.ext (Nat.sub_zero c.val)
    have hw : ∀ {t : EltTy} (y : Vec Ideal S2048x1024 t) (d : Fin 1024), slab r0 hr y (ix2 (⟨r.val - r0, by omega⟩ : Fin 512) d) = y (ix2 r d) := by
      intro t y d
      refine congrArg y (funext fun a => Fin.ext ?_)
      match a with
      | ⟨0, _⟩ => show r0 + 1 * (r.val - r0) = r.val; omega
      | ⟨1, _⟩ => show 0 + 1 * d.val = d.val; omega
    refine (congrArg (chain x1 x2 x3 xs o r0 hr) e).trans ?_
    refine (pay_apply x1 x2 x3 _ _ _ c).trans ?_
    unfold added
    simp only [hw]
  · rw [if_neg h, dif_neg]
    exact fun h' => h (h' (0 : Fin 2))

/-- A step at an element: rows of the tile's subtiles get the units of the step's block, the others stay. -/
theorem step_apply (v : BitVec 32) (hv : v.toInt ≤ 2048) (r : Fin 2048) (c : Fin 1024) :
    stepC v x1 x2 x3 xs o (ix2 r c) = if r.val < 512 * subs v then o (ix2 r c) + added x1 x2 x3 xs r c else o (ix2 r c) := by
  obtain ⟨h2, h3, h4, h5⟩ := conds v hv
  have hr := r.isLt
  have hs : subs v ≤ 4 := by unfold subs; omega
  unfold stepC
  dsimp only
  generalize subs v = n at h2 h3 h4 h5 hs ⊢
  obtain rfl | rfl | rfl | rfl | rfl : n = 0 ∨ n = 1 ∨ n = 2 ∨ n = 3 ∨ n = 4 := by omega
  all_goals
    simp [h2, h3, h4, h5]
    repeat rw [put_chain]
    repeat' split
    all_goals first | rfl | (exfalso; omega)

end Cert.Ffn

end
-- ==== Proof.Ffn.Kernel2Ideal.Ok.lean ====
/- The windows of the grouped SwiGLU call `Kernel2Ideal` at tables that name one of the eight experts: the words the index maps
   read, and every block inside its array. -/
module

public import proofs.«01_k».proof.Proof.Ffn.Kernel2Ideal.Base
public import Idealize.ShloMosaic.Lib.Pointwise

@[expose] public section

set_option maxRecDepth 16384

noncomputable section

namespace Cert.Kernel2Ideal.Gen

open Idealize.ShloMosaic Idealize.ShloMosaic.TcCoe Idealize.ShloMosaic.Pointwise Idealize.SL Idealize.SL.Sem

variable {F : FTy → Type} [FloatOps F] (m : (ℓ : Loc nD τ sig) → Buf (Elt F) ℓ)

/-- The expert of a tile, as launched. -/
abbrev expertW (t : Fin 25) : BitVec 32 := (tbl m 0 : IVec S25 32) (ix1 t)
/-- The number of tokens of a tile, as launched. -/
abbrev tokensW (t : Fin 25) : BitVec 32 := (tbl m 1 : IVec S25 32) (ix1 t)

/-- The word a map reads at a point's tile is the table's entry of that tile. -/
theorem tile_word (i : grid0.Coords) (h : ∀ a, (k0_off1 i) a + S1.size a ≤ S25.size a) (y : S1.Idx) :
    (Rect.unit (s := S25) (k0_off1 i) S1.size h).emb y = ix1 (i 0) := by
  funext a
  apply Fin.ext
  match a with
  | ⟨0, _⟩ =>
    have hy : (y 0).val = 0 := by have : (y 0).val < 1 := (y 0).isLt; omega
    have e : (BitVec.ofNat 32 (i 0).val).toNat = (i 0).val := by
      have : (i 0).val < 25 := (i 0).isLt
      rw [BitVec.toNat_ofNat]; omega
    show (BitVec.ofNat 32 (i 0).val).toNat + 1 * (y 0).val = (i 0).val
    omega

/-- The block of columns of the weights a point reads: its own, or the last when its tile has no tokens. -/
def column (i : grid0.Coords) : BitVec 32 :=
  Scalar.select (Scalar.cmpi .sgt (tokensW m (i 0)) 0#32) (BitVec.ofNat 32 (i 1).val) 10#32

/-- It is one of the eleven. -/
theorem column_lt (i : grid0.Coords) : (column m i).toNat < 11 := by
  have h1 : (i 1).val < 11 := (i 1).isLt
  unfold column Scalar.select
  split
  · rw [BitVec.toNat_ofNat]; omega
  · decide

/-- The gate's block. -/
theorem index1 (i : grid0.Coords) : cc0_transform_1 k0_off1_inb numel1_S1 (tbl m) i = ![(expertW m (i 0)).toNat, 0, (column m i).toNat] := by
  have e0 : (tbl m).at 0 (Rect.unit (s := S25) (k0_off1 i) S1.size (k0_off1_inb i)) numel1_S1 = expertW m (i 0) :=
    congrArg (tbl m 0 : IVec S25 32) (tile_word i _ _)
  have e1 : (tbl m).at 1 (Rect.unit (s := S25) (k0_off1 i) S1.size (k0_off1_inb i)) numel1_S1 = tokensW m (i 0) :=
    congrArg (tbl m 1 : IVec S25 32) (tile_word i _ _)
  unfold column
  rw [← e0, ← e1]
  rfl

/-- The up weights' block is at the same place. -/
theorem index2 (i : grid0.Coords) : cc0_transform_2 k0_off1_inb numel1_S1 (tbl m) i = ![(expertW m (i 0)).toNat, 0, (column m i).toNat] :=
  index1 m i

/-- The down weights' block. -/
theorem index3 (i : grid0.Coords) : cc0_transform_3 k0_off1_inb numel1_S1 (tbl m) i = ![(expertW m (i 0)).toNat, (column m i).toNat, 0] := by
  have e0 : (tbl m).at 0 (Rect.unit (s := S25) (k0_off1 i) S1.size (k0_off1_inb i)) numel1_S1 = expertW m (i 0) :=
    congrArg (tbl m 0 : IVec S25 32) (tile_word i _ _)
  have e1 : (tbl m).at 1 (Rect.unit (s := S25) (k0_off1 i) S1.size (k0_off1_inb i)) numel1_S1 = tokensW m (i 0) :=
    congrArg (tbl m 1 : IVec S25 32) (tile_word i _ _)
  unfold column
  rw [← e0, ← e1]
  rfl

/-- Tables that name one of the eight experts keep every block inside its array. -/
theorem ok_of (h : ∀ t, (expertW m t).toNat < 8) : Ok m := by
  refine ⟨fun i => ⟨?_, Or.inl rfl⟩, fun i => ⟨?_, Or.inl rfl⟩, fun i => ⟨?_, Or.inl rfl⟩⟩
  · rw [index1]
    have h0 := h (i 0)
    have h1 := column_lt m i
    intro a
    match a with
    | ⟨0, _⟩ => show ((expertW m (i 0)).toNat + 1) * 1 ≤ 8; omega
    | ⟨1, _⟩ => show (0 + 1) * 1024 ≤ 1024; omega
    | ⟨2, _⟩ => show ((column m i).toNat + 1) * 256 ≤ 2816; omega
  · rw [index2]
    have h0 := h (i 0)
    have h1 := column_lt m i
    intro a
    match a with
    | ⟨0, _⟩ => show ((expertW m (i 0)).toNat + 1) * 1 ≤ 8; omega
    | ⟨1, _⟩ => show (0 + 1) * 1024 ≤ 1024; omega
    | ⟨2, _⟩ => show ((column m i).toNat + 1) * 256 ≤ 2816; omega
  · rw [index3]
    have h0 := h (i 0)
    have h1 := column_lt m i
    intro a
    match a with
    | ⟨0, _⟩ => show ((expertW m (i 0)).toNat + 1) * 1 ≤ 8; omega
    | ⟨1, _⟩ => show ((column m i).toNat + 1) * 256 ≤ 2816; omega
    | ⟨2, _⟩ => show (0 + 1) * 1024 ≤ 1024; omega

end Cert.Kernel2Ideal.Gen

end
-- ==== Proof.Ffn.Kernel2Ideal.Frame.lean ====
/- The launch of the grouped SwiGLU call `Kernel2Ideal`: what the result's staging tile and the token tile hold after every
   point, the pipeline's proof data, the body obligation, the run and the frame. -/
module

public import proofs.«01_k».proof.Proof.Ffn.Kernel2Ideal.Body
public import Idealize.ShloMosaic.Lib.Claim

@[expose] public section

-- membership in a rectangle of production extents (`View.cover_of_tiled`): the elaborator's structural look
-- recurses once per coordinate of the long axes
set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the tiles hold, point by point -/

/-- One point's body on the result tile and the token tile. -/
def stepAt (hO : Ok m) (c : Dev nD) (t : Fin (cfgM m hO).N) (p : Vec F S2048x1024 .f32 × Vec F S2048x1024 .bf16) : Vec F S2048x1024 .f32 × Vec F S2048x1024 .bf16 :=
  (stepC (tokens c (grid0.coords t) (tbl m 1)) (iblk m hO c 1 t) (iblk m hO c 2 t) (iblk m hO c 3 t) (stepS (grid0.coords t) (iblk m hO c 0 t) p.2) (stepB (grid0.coords t) p.1),
   stepS (grid0.coords t) (iblk m hO c 0 t) p.2)

/-- At a tile's first point the step does not depend on what the tiles held. -/
theorem stepAt_first (hO : Ok m) (c : Dev nD) (t : Fin (cfgM m hO).N) (h0 : t.val % 11 = 0) (p p' : Vec F S2048x1024 .f32 × Vec F S2048x1024 .bf16) :
    stepAt m hO c t p = stepAt m hO c t p' := by
  have h : k0_cond1 (grid0.coords t) = 1#1 := (hcond0_0 t).mpr h0
  unfold stepAt stepS stepB
  simp only [h, if_true]

/-- The result tile and the token tile after the body at position `n`. -/
def outsAt0 (hO : Ok m) (c : Dev nD) : (n : ℕ) → n < (cfgM m hO).N → Vec F S2048x1024 .f32 × Vec F S2048x1024 .bf16
  | 0, hn => stepAt m hO c ⟨0, hn⟩ (k0_pay19, k0_pay18 (iblk m hO c 0 ⟨0, hn⟩))
  | n + 1, hn => stepAt m hO c ⟨n + 1, hn⟩ (outsAt0 hO c n (Nat.lt_of_succ_lt hn))

/-- At a tile's first point: the step from anything. -/
theorem outsAt0_first (hO : Ok m) (c : Dev nD) (t : Fin (cfgM m hO).N) (h0 : t.val % 11 = 0) (p : Vec F S2048x1024 .f32 × Vec F S2048x1024 .bf16) :
    outsAt0 m hO c t.val t.isLt = stepAt m hO c t p := by
  obtain ⟨n, hn⟩ := t
  cases n with
  | zero => exact stepAt_first m hO c _ h0 _ _
  | succ n => exact stepAt_first m hO c _ h0 _ _

/-- At any later point: the step from what the point before left. -/
theorem outsAt0_next (hO : Ok m) (c : Dev nD) (t : Fin (cfgM m hO).N) (hz : t.val ≠ 0) :
    outsAt0 m hO c t.val t.isLt = stepAt m hO c t (outsAt0 m hO c (t.val - 1) (Nat.lt_of_le_of_lt (Nat.sub_le _ _) t.isLt)) := by
  obtain ⟨n, hn⟩ := t
  cases n with
  | zero => exact absurd rfl hz
  | succ n => rfl

/-- A tile's number of tokens, as the pipeline reads it to say which points are idle. -/
theorem tokens_eq (c : Dev nD) (i : grid0.Coords) : tokens c i (tbl m 1) = (tbl m).atD 1 (k0_off1 i) := by
  have h : ∀ a, k0_off1 i a + 1 ≤ ((pre0.ref 1).ty.shape).size a := fun | ⟨0, _⟩ => k0_off1_inb i 0
  refine Eq.trans ?_ (dif_pos h).symm
  rfl

/-- At an idle point the body leaves the result tile as it was. -/
theorem outsAt0_idle (hO : Ok m) (c : Dev nD) (t : Fin (cfgM m hO).N) (hz : t.val ≠ 0) (hi : (cfgM m hO).idle 4 (grid0.coords t) = true) :
    (outsAt0 m hO c t.val t.isLt).1 = (outsAt0 m hO c (t.val - 1) (Nat.lt_of_le_of_lt (Nat.sub_le _ _) t.isLt)).1 := by
  rw [outsAt0_next m hO c t hz]
  have hi' : (!(k0_cond1 (grid0.coords t) == 1#1) && !(k0_cond2 (tokens c (grid0.coords t) (tbl m 1)) == 1#1) && !(k0_cond3 (tokens c (grid0.coords t) (tbl m 1)) == 1#1)
      && !(k0_cond4 (tokens c (grid0.coords t) (tbl m 1)) == 1#1) && !(k0_cond5 (tokens c (grid0.coords t) (tbl m 1)) == 1#1)) = true := by
    rw [tokens_eq m c (grid0.coords t)]; exact hi
  simp only [Bool.and_eq_true, Bool.not_eq_true', beq_eq_false_iff_ne, ne_eq] at hi'
  obtain ⟨⟨⟨⟨h1, h2⟩, h3⟩, h4⟩, h5⟩ := hi'
  unfold stepAt stepC stepB
  simp only [h1, h2, h3, h4, h5, if_false]

/-- An idle point is not a tile's first. -/
theorem idle_not_first (hO : Ok m) (t : Fin (cfgM m hO).N) (hi : (cfgM m hO).idle 4 (grid0.coords t) = true) : ¬ t.val % 11 = 0 := fun h0 => by
  have h : k0_cond1 (grid0.coords t) = 1#1 := (hcond0_0 t).mpr h0
  have hi' : (!(k0_cond1 (grid0.coords t) == 1#1) && _ && _ && _ && _) = true := hi
  rw [h] at hi'
  exact Bool.false_ne_true hi'

/-- The result's buffer is fresh exactly at a tile's first point. -/
theorem fresh_eq (hO : Ok m) (n : ℕ) (hn : n ≤ (cfgM m hO).N) : (cfgM m hO).fresh 4 n = (n % 11 == 0) :=
  (cfgM m hO).fresh_tab 4 (fun n => n % 11 == 0) rfl (fun t => by
    have hfl := flush0_4 (adm m hO) t
    have hid := idle_not_first m hO t
    show ((t.val + 1) % 11 == 0) = (((cfgM m hO).win 4).flush t || ((cfgM m hO).idle 4 (grid0.coords t) && (t.val % 11 == 0)))
    rw [Bool.eq_iff_iff]
    simp only [Bool.or_eq_true, Bool.and_eq_true, beq_iff_eq, hfl]
    constructor
    · intro h; left; omega
    · rintro (h | ⟨h, h'⟩)
      · omega
      · exact absurd h' (hid h)) n hn

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t.val t.isLt).1
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
/-- The result's tile is carried through the idle points. -/
theorem carry0_4 (hO : Ok m) (c : Dev nD) (t : Fin (cfgM m hO).N) (hz : t.val ≠ 0) (hi : (cfgM m hO).idle 4 (grid0.coords t) = true) :
    (dats m hO 0 c).after 4 t = (dats m hO 0 c).after 4 ⟨t.val - 1, Nat.lt_of_le_of_lt (Nat.sub_le _ _) t.isLt⟩ := by
  rw [after0_4, after0_4]; exact outsAt0_idle m hO c t hz hi

/-- What the body finds in the result's tile: anything at a tile's first point, else what the point before left. -/
theorem before0_4 (hO : Ok m) (c : Dev nD) (t : Fin (cfgM m hO).N) (h0 : ¬ t.val % 11 = 0) (d) :
    (dats m hO 0 c).before 4 t d = (outsAt0 m hO c (t.val - 1) (Nat.lt_of_le_of_lt (Nat.sub_le _ _) t.isLt)).1 := by
  rw [Dat.before_out_traj (dats m hO 0 c) 4 rfl (fun _ _ => rfl) (fun t hz hi _ => carry0_4 m hO c t hz hi) t.val t rfl d,
    if_neg (by rw [fresh_eq m hO _ (Nat.le_of_lt t.isLt)]; simpa using h0), after0_4]

/-- The body's result tile, as the loop takes it back: at an idle point that does not write it back, what it held. -/
theorem leaves0_4 (hO : Ok m) (c : Dev nD) (t : Fin (cfgM m hO).N) :
    owns (c : Thread nD τ) (ms0_4 m hO t) fullShare ((dats m hO 0 c).after 4 t)
      ⊢ (match (cfgM m hO).idle 4 (grid0.coords t) with
        | true =>
          match ((cfgM m hO).win 4).flush t with
          | false => iprop(∃ d, owns (c : Thread nD τ) (ms0_4 m hO t) fullShare ((dats m hO 0 c).before 4 t d))
          | true => owns (c : Thread nD τ) (ms0_4 m hO t) fullShare ((dats m hO 0 c).after 4 t)
        | false => owns (c : Thread nD τ) (ms0_4 m hO t) fullShare ((dats m hO 0 c).after 4 t) : sProp 𝕄) := by
  cases hi : (cfgM m hO).idle 4 (grid0.coords t)
  · exact .rfl
  cases hf : ((cfgM m hO).win 4).flush t
  · have h0 := idle_not_first m hO t hi
    have hz : t.val ≠ 0 := fun h => h0 (by rw [h])
    simp only [before0_4 m hO c t h0]
    rw [after0_4, outsAt0_idle m hO c t hz hi]
    iintro H
    iexists (outsAt0 m hO c t.val t.isLt).1
    iexact H
  · exact .rfl

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

/-- The body at any point, from tiles the step takes to this point's. -/
theorem sound_of (hO : Ok m) (c : Dev nD) (t : Fin (cfgM m hO).N) (p : Vec F S2048x1024 .f32 × Vec F S2048x1024 .bf16)
    (hp : outsAt0 m hO c t.val t.isLt = stepAt m hO c t p) :
    iprop(iprop(owns (c : Thread nD τ) scM0_0 fullShare p.2 ∗ (∃ r, prngReg c r)) ∗ iprop(tbPt0 c tbM0_0 (tbl m 0) ∗ tbPt0 c tbM0_1 (tbl m 1)))
      ⊢ iprop(iprop((dats m hO 0 c).owesAt () t.castSucc
    ∗ owns (c : Thread nD τ) (ms0_0 m hO t) fullShare (iblk m hO c 0 t)
    ∗ owns (c : Thread nD τ) (ms0_1 m hO t) fullShare (iblk m hO c 1 t)
    ∗ owns (c : Thread nD τ) (ms0_2 m hO t) fullShare (iblk m hO c 2 t)
    ∗ owns (c : Thread nD τ) (ms0_3 m hO t) fullShare (iblk m hO c 3 t)
    ∗ owns (c : Thread nD τ) (ms0_4 m hO t) fullShare p.1)
      -∗ wp frame (wpE (defs₀ (F := F)) Variants.none c none) Set.univ (bodyAt0 (adm m hO) t) (fun _ => bodyPost m hO c t)) := by
  unfold bodyPost bodyAt0
  rw [show (dats m hO 0 c).owesAt () t.succ = (dats m hO 0 c).owesAt () t.castSucc from rfl,
    after0_0, after0_1, after0_2, after0_3, after0_4]
  rw [show (dats m hO 0 c).Φ t.succ = PhiS m hO c (t.val + 1) t.isLt from rfl, PhiS_succ, PhiT0_eq, hp]
  iintro ⟨⟨HS0, Hg⟩, ⟨HT0, HT1⟩⟩ ⟨Ho, H0, H1, H2, H3, H4⟩
  iapply (bodyRun c (grid0.coords t) _ _ _ _ _ _ _ _ _ _ _ _ (iblk m hO c 0 t) (iblk m hO c 1 t) (iblk m hO c 2 t) (iblk m hO c 3 t) p.1 p.2 (tbl m 0) (tbl m 1) Set.univ _)
  isplitl [H0]; · iexact H0
  isplitl [H1]; · iexact H1
  isplitl [H2]; · iexact H2
  isplitl [H3]; · iexact H3
  isplitl [H4]; · iexact H4
  isplitl [HS0]; · iexact HS0
  isplitl [HT0]; · iexact HT0
  isplitl [HT1]; · iexact HT1
  iintro ⟨H0, H1, H2, H3, H4, HS0, HT0, HT1⟩
  isplitl [HS0 Hg HT0 HT1]
  · isplitl [HS0 Hg]
    · isplitl [HS0]; · iexact HS0
      iexact Hg
    isplitl [HT0]; · iexact HT0
    iexact HT1
  isplitl [Ho]; · iexact Ho
  isplitl [H0]; · iexact H0
  isplitl [H1]; · iexact H1
  isplitl [H2]; · iexact H2
  isplitl [H3]; · iexact H3
  iexact H4

/-- The body at any point: at a tile's first point from anything, at a later one from what the point before left. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre
  simp only [before0_0, before0_1, before0_2, before0_3]
  rw [PhiS_castSucc m hO c t]
  by_cases hz : t.val = 0
  · rw [PhiS_zero m hO c _ _ hz, PhiT0_eq, PhiA0_eq]
    iintro ⟨⟨⟨⟨%s0, HS0⟩, Hg⟩, HT⟩, Ho, ⟨%d0, H0⟩, ⟨%d1, H1⟩, ⟨%d2, H2⟩, ⟨%d3, H3⟩, ⟨%d4, H4⟩⟩
    iapply (sound_of m hO c t ((dats m hO 0 c).before 4 t d4, s0) (outsAt0_first m hO c t (by rw [hz]) _)) $$ [HS0 Hg HT]
    · isplitl [HS0 Hg]
      · isplitl [HS0]; · iexact HS0
        iexact Hg
      iexact HT
    isplitl [Ho]; · iexact Ho
    isplitl [H0]; · iexact H0
    isplitl [H1]; · iexact H1
    isplitl [H2]; · iexact H2
    isplitl [H3]; · iexact H3
    iexact H4
  rw [PhiS_pos m hO c _ _ hz, PhiT0_eq]
  by_cases h0 : t.val % 11 = 0
  · iintro ⟨⟨⟨HS0, Hg⟩, HT⟩, Ho, ⟨%d0, H0⟩, ⟨%d1, H1⟩, ⟨%d2, H2⟩, ⟨%d3, H3⟩, ⟨%d4, H4⟩⟩
    iapply (sound_of m hO c t ((dats m hO 0 c).before 4 t d4, (outsAt0 m hO c (t.val - 1) (Nat.lt_of_le_of_lt (Nat.sub_le _ _) t.isLt)).2) (outsAt0_first m hO c t h0 _)) $$ [HS0 Hg HT]
    · isplitl [HS0 Hg]
      · isplitl [HS0]; · iexact HS0
        iexact Hg
      iexact HT
    isplitl [Ho]; · iexact Ho
    isplitl [H0]; · iexact H0
    isplitl [H1]; · iexact H1
    isplitl [H2]; · iexact H2
    isplitl [H3]; · iexact H3
    iexact H4
  · simp only [before0_4 m hO c t h0]
    iintro ⟨⟨⟨HS0, Hg⟩, HT⟩, Ho, ⟨%d0, H0⟩, ⟨%d1, H1⟩, ⟨%d2, H2⟩, ⟨%d3, H3⟩, ⟨%d4, H4⟩⟩
    iapply (sound_of m hO c t _ (outsAt0_next m hO c t hz)) $$ [HS0 Hg HT]
    · isplitl [HS0 Hg]
      · isplitl [HS0]; · iexact HS0
        iexact Hg
      iexact HT
    isplitl [Ho]; · iexact Ho
    isplitl [H0]; · iexact H0
    isplitl [H1]; · iexact H1
    isplitl [H2]; · iexact H2
    isplitl [H3]; · iexact H3
    iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  exact sep_mono .rfl (sep_mono .rfl (sep_mono .rfl (sep_mono .rfl (sep_mono .rfl (sep_mono .rfl (leaves0_4 m hO c t))))))

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 275 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- The frame: for every contents of the tables the pipeline's side condition admits, the call ends, its arguments unchanged and
    every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.Kernel2Ideal.Gen

end
-- ==== Proof.Ffn.Windows.lean ====
/- What the windows of a grid step of the grouped SwiGLU call hold, in terms of the arrays as launched. -/
module

public import proofs.«01_k».proof.Proof.Ffn.Kernel2Ideal.Ok
public import proofs.«01_k».proof.Proof.Ffn.Kernel2Ideal.Frame
public import proofs.«01_k».proof.Proof.Ffn.Spec
public import Idealize.ShloMosaic.Lib.WordCmp

@[expose] public section

set_option maxRecDepth 16384

noncomputable section

namespace Cert.Ffn

open Cert.Kernel2Ideal Cert.Kernel2Ideal.Gen Idealize.ShloMosaic Idealize.ShloMosaic.TcCoe Idealize.ShloMosaic.Pointwise
  Idealize.ShloMosaic.WordCmp
open Cert.Attn (at2 at2_of at2_self)

variable (m : (ℓ : Loc nD τ sig) → Buf (Elt Ideal) ℓ) (hO : Ok m) (c : Dev nD)

/-- The tokens as launched. -/
abbrev X0 : S51200x1024.Idx → EReal := m ((c : Thread nD τ).loc main_arg2)
/-- The gate's weights as launched. -/
abbrev WG0 : S8x1024x2816.Idx → EReal := m ((c : Thread nD τ).loc main_arg3)
/-- The up weights as launched. -/
abbrev WU0 : S8x1024x2816.Idx → EReal := m ((c : Thread nD τ).loc main_arg4)
/-- The down weights as launched. -/
abbrev WD0 : S8x2816x1024.Idx → EReal := m ((c : Thread nD τ).loc main_arg5)

/-- The tile of a grid step. -/
theorem coord_tile (t : Fin grid0.N) : (grid0.coords t 0).val = t.val / 11 := by
  have ht : t.val < 275 := Nat.lt_of_lt_of_eq t.isLt N_0
  have e0 : (grid0.coords t 0).val = t.val / 11 % 25 := Pipeline.Grid.coords_val t 0 (by decide) rfl
  omega

/-- The block of hidden units of a grid step. -/
theorem coord_block (t : Fin grid0.N) : (grid0.coords t 1).val = t.val % 11 := by
  have e1 : (grid0.coords t 1).val = t.val / 1 % 11 := Pipeline.Grid.coords_val t 1 (by decide) rfl
  omega

/-- An element of a block of an array of three axes. -/
theorem entry3_of {A B C a b d : ℕ} (X : (⟨3, ![A, B, C]⟩ : Shape).Idx → EReal) (e : (⟨3, ![a, b, d]⟩ : Shape).Idx → (⟨3, ![A, B, C]⟩ : Shape).Idx)
    (v : Fin 3 → ℕ) (h0 : ∀ y, (e y 0).val = v 0 * a + 1 * (y 0).val) (h1 : ∀ y, (e y 1).val = v 1 * b + 1 * (y 1).val)
    (h2 : ∀ y, (e y 2).val = v 2 * d + 1 * (y 2).val) (i : Fin a) (j : Fin b) (k : Fin d) :
    X (e (ix3 i j k)) = at3 X (v 0 * a + i.val) (v 1 * b + j.val) (v 2 * d + k.val) := by
  rw [at3_self X, h0, h1, h2]
  show at3 X (v 0 * a + 1 * i.val) (v 1 * b + 1 * j.val) (v 2 * d + 1 * k.val) = _
  rw [Nat.one_mul, Nat.one_mul, Nat.one_mul]

/-- The index map of the tokens' window and of the result's. -/
theorem index0 (t : Fin grid0.N) : cc0_transform_0 (grid0.coords t) = ![t.val / 11, 0] := by
  have e := coord_tile t
  have ht : t.val < 275 := Nat.lt_of_lt_of_eq t.isLt N_0
  funext a
  match a with
  | ⟨0, _⟩ =>
    show (BitVec.ofNat 32 (grid0.coords t 0).val).toNat = t.val / 11
    rw [e, BitVec.toNat_ofNat]; omega
  | ⟨1, _⟩ => rfl

/-- An element of a block of a matrix. -/
theorem entry2_of {A B a b : ℕ} (X : (⟨2, ![A, B]⟩ : Shape).Idx → EReal) (e : (⟨2, ![a, b]⟩ : Shape).Idx → (⟨2, ![A, B]⟩ : Shape).Idx)
    (v : Fin 2 → ℕ) (h0 : ∀ y, (e y 0).val = v 0 * a + 1 * (y 0).val) (h1 : ∀ y, (e y 1).val = v 1 * b + 1 * (y 1).val)
    (i : Fin a) (j : Fin b) : X (e (ix2 i j)) = at2 X (v 0 * a + i.val) (v 1 * b + j.val) := by
  rw [at2_self X, h0, h1]
  show at2 X (v 0 * a + 1 * i.val) (v 1 * b + 1 * j.val) = _
  rw [Nat.one_mul, Nat.one_mul]

/-- The tokens' block at an element. -/
theorem x_entry (t : Fin (cfgM m hO).N) (i : Fin 2048) (l : Fin 1024) :
    (iblk m hO c 0 t : S2048x1024.Idx → EReal) (ix2 i l) = at2 (X0 m c) (2048 * (t.val / 11) + i.val) l.val := by
  refine (entry2_of (X0 m c) (((cfgM m hO).win 0).blk t).view.emb (cc0_transform_0 (grid0.coords t)) (fun _ => rfl) (fun _ => rfl) i l).trans ?_
  rw [index0]
  show at2 (X0 m c) (t.val / 11 * 2048 + i.val) (0 * 1024 + l.val) = _
  congr 1 <;> omega

/-- A block of the gate's weights at an element. -/
theorem gate_entry (t : Fin (cfgM m hO).N) (d : Fin 1024) (f : Fin 256) :
    (iblk m hO c 1 t : S1x1024x256.Idx → EReal) (ix3 0 d f)
      = at3 (WG0 m c) (expertW m (grid0.coords t 0)).toNat d.val (256 * (column m (grid0.coords t)).toNat + f.val) := by
  refine (entry3_of (WG0 m c) (((cfgM m hO).win 1).blk t).view.emb (cc0_transform_1 k0_off1_inb numel1_S1 (tbl m) (grid0.coords t))
    (fun _ => rfl) (fun _ => rfl) (fun _ => rfl) 0 d f).trans ?_
  rw [index1]
  show at3 (WG0 m c) ((expertW m (grid0.coords t 0)).toNat * 1 + 0) (0 * 1024 + d.val) ((column m (grid0.coords t)).toNat * 256 + f.val) = _
  congr 1 <;> omega

/-- A block of the up weights at an element. -/
theorem up_entry (t : Fin (cfgM m hO).N) (d : Fin 1024) (f : Fin 256) :
    (iblk m hO c 2 t : S1x1024x256.Idx → EReal) (ix3 0 d f)
      = at3 (WU0 m c) (expertW m (grid0.coords t 0)).toNat d.val (256 * (column m (grid0.coords t)).toNat + f.val) := by
  refine (entry3_of (WU0 m c) (((cfgM m hO).win 2).blk t).view.emb (cc0_transform_2 k0_off1_inb numel1_S1 (tbl m) (grid0.coords t))
    (fun _ => rfl) (fun _ => rfl) (fun _ => rfl) 0 d f).trans ?_
  rw [index2]
  show at3 (WU0 m c) ((expertW m (grid0.coords t 0)).toNat * 1 + 0) (0 * 1024 + d.val) ((column m (grid0.coords t)).toNat * 256 + f.val) = _
  congr 1 <;> omega

/-- A block of the down weights at an element. -/
theorem down_entry (t : Fin (cfgM m hO).N) (f : Fin 256) (k : Fin 1024) :
    (iblk m hO c 3 t : S1x256x1024.Idx → EReal) (ix3 0 f k)
      = at3 (WD0 m c) (expertW m (grid0.coords t 0)).toNat (256 * (column m (grid0.coords t)).toNat + f.val) k.val := by
  refine (entry3_of (WD0 m c) (((cfgM m hO).win 3).blk t).view.emb (cc0_transform_3 k0_off1_inb numel1_S1 (tbl m) (grid0.coords t))
    (fun _ => rfl) (fun _ => rfl) (fun _ => rfl) 0 f k).trans ?_
  rw [index3]
  show at3 (WD0 m c) ((expertW m (grid0.coords t 0)).toNat * 1 + 0) ((column m (grid0.coords t)).toNat * 256 + f.val) (0 * 1024 + k.val) = _
  congr 1 <;> omega

/-- The number of tokens the body reads is its tile's. -/
theorem tokens_word (t : Fin grid0.N) : tokens c (grid0.coords t) (tbl m 1) = tokensW m (grid0.coords t 0) :=
  congrArg (tbl m 1 : IVec S25 32) (tile_word (grid0.coords t) _ _)

/-- A choice by a positive word. -/
theorem select_pos {α : Type} (v : BitVec 32) (h0 : 0 < v.toInt) (a b : α) :
    Scalar.select (Scalar.cmpi .sgt v 0#32) a b = a := by
  have hs : IntOp.cmpi .sgt v 0#32 = 1#1 := by
    rw [cmpi_sgt_eq]
    exact (ofBool_decide_eq_one_iff ..).mpr h0
  exact if_pos hs

/-- Of a tile with tokens, the block of columns read is the step's own. -/
theorem column_eq (t : Fin grid0.N) (h0 : 0 < (tokensW m (grid0.coords t 0)).toInt) :
    (column m (grid0.coords t)).toNat = t.val % 11 := by
  unfold column
  rw [select_pos _ h0, coord_block, BitVec.toNat_ofNat]
  omega

end Cert.Ffn

end
-- ==== Proof.Ffn.Kernel2Ideal.Value.lean ====
/- The run of the grouped SwiGLU call `Kernel2Ideal` with its value: what the output array holds after the launch, tile by
   tile. After the attention call's module of the same name. -/
module

public import proofs.«01_k».proof.Proof.Ffn.Windows
public import Idealize.ShloMosaic.Lib.Pipeline.Value

@[expose] public section

set_option maxRecDepth 16384

noncomputable section

namespace Cert.Kernel2Ideal.Value

open Cert.Kernel2Ideal Cert.Kernel2Ideal.Gen Idealize.ShloMosaic Idealize.ShloMosaic.TcCoe Idealize.SL.Sem
open Idealize.ShloMosaic.Pipeline (Dat)
open Cert.Ffn (index0)

variable {F : FTy → Type} [FloatOps F]
variable (m : (ℓ : Loc nD τ sig) → Buf (Elt F) ℓ) (ρ : Dev nD → PrngReg) (hO : Ok m)

/-- The point that writes an index of the output back: the last of its tile. -/
def point (i : S51200x1024.Idx) : Fin (cfgM m hO).N :=
  ⟨(i 0).val / 2048 * 11 + 10, lt_of_lt_of_eq (by have h0 : (i 0).val < 51200 := (i 0).isLt; omega) N_0.symm⟩

/-- The place of an index of the output in its tile. -/
def place (i : S51200x1024.Idx) : S2048x1024.Idx := fun a => match a with
  | ⟨0, _⟩ => ⟨(i 0).val % 2048, Nat.mod_lt _ (by decide)⟩
  | ⟨1, _⟩ => ⟨(i 1).val % 1024, Nat.mod_lt _ (by decide)⟩

/-- What the output array ends holding: each tile as its last point leaves it. -/
def G4 (c : Dev nD) : Buf (Elt F) ((c : Thread nD τ).loc main_v0) := fun i =>
  (outsAt0 m hO c (point m hO i).val (point m hO i).isLt).1 (place i)

/-- The block index of the output at each point. -/
theorem index4 (t : Fin grid0.N) : cc0_transform_4 (grid0.coords t) = ![t.val / 11, 0] := index0 t

/-- What a point writes back is its block of `G4`. -/
theorem flushed4_eq (c : Dev nD) (t : Fin (cfgM m hO).N) (ht : t.val % 11 = 10) :
    (dats m hO 0 c).flushed 4 t = (((cfgM m hO).win 4).blk t).view.read (Elt F) (G4 m hO c) := by
  show ((cfgM m hO).win 4).cut (grid0.coords t) ((dats m hO 0 c).after 4 t) = _
  rw [after0_4]
  funext y
  have hy0 : (y (0 : Fin 2)).val < 2048 := (y (0 : Fin 2)).isLt
  have hy1 : (y (1 : Fin 2)).val < 1024 := (y (1 : Fin 2)).isLt
  have hb0 : ((((cfgM m hO).win 4).blk t).view.emb y (0 : Fin 2)).val = cc0_transform_4 (grid0.coords t) (0 : Fin 2) * 2048 + 1 * (y (0 : Fin 2)).val := rfl
  have hb1 : ((((cfgM m hO).win 4).blk t).view.emb y (1 : Fin 2)).val = cc0_transform_4 (grid0.coords t) (1 : Fin 2) * 1024 + 1 * (y (1 : Fin 2)).val := rfl
  rw [index4] at hb0 hb1
  have hb0' : ((((cfgM m hO).win 4).blk t).view.emb y (0 : Fin 2)).val = t.val / 11 * 2048 + 1 * (y (0 : Fin 2)).val := hb0
  have hb1' : ((((cfgM m hO).win 4).blk t).view.emb y (1 : Fin 2)).val = 0 * 1024 + 1 * (y (1 : Fin 2)).val := hb1
  have hp : point m hO ((((cfgM m hO).win 4).blk t).view.emb y) = t := by
    apply Fin.ext
    show ((((cfgM m hO).win 4).blk t).view.emb y (0 : Fin 2)).val / 2048 * 11 + 10 = t.val
    rw [hb0']; omega
  have hl : place ((((cfgM m hO).win 4).blk t).view.emb y) = ((cfgM m hO).win 4).xinj (grid0.coords t) y := by
    funext a; apply Fin.ext
    match a with
    | ⟨0, _⟩ => show ((((cfgM m hO).win 4).blk t).view.emb y (0 : Fin 2)).val % 2048 = (y (0 : Fin 2)).val; rw [hb0']; omega
    | ⟨1, _⟩ => show ((((cfgM m hO).win 4).blk t).view.emb y (1 : Fin 2)).val % 1024 = (y (1 : Fin 2)).val; rw [hb1']; omega
  show (outsAt0 m hO c t.val t.isLt).1 (((cfgM m hO).win 4).xinj (grid0.coords t) y) = G4 m hO c ((((cfgM m hO).win 4).blk t).view.emb y)
  unfold G4
  simp only [hp, hl]

/-- The blocks written back cover the output. -/
theorem covered4 (i : S51200x1024.Idx) :
    ∃ t : Fin (cfgM m hO).N, ((cfgM m hO).win 4).flush t = true ∧ i ∈ (((cfgM m hO).win 4).blk t).view.set := by
  have h0 : (i 0).val < 51200 := (i 0).isLt
  have h1 : (i 1).val < 1024 := (i 1).isLt
  have hp : (point m hO i).val = (i 0).val / 2048 * 11 + 10 := rfl
  refine ⟨point m hO i, (flush0_4 (adm m hO) _).mpr (by omega), ?_⟩
  have e := index4 (point m hO i)
  have e0 : cc0_transform_4 (grid0.coords (point m hO i)) (0 : Fin 2) = (point m hO i).val / 11 := congrFun e 0
  have e1 : cc0_transform_4 (grid0.coords (point m hO i)) (1 : Fin 2) = 0 := congrFun e 1
  have hs : (((cfgM m hO).win 4).blk (point m hO i)).view.set = (((cfgM m hO).win 4).rect (point m hO i)).set := View.set_slice_whole main_v0 _
  refine (congrArg (fun s => i ∈ s) hs).mpr ?_
  refine Rect.mem_set_unit.mpr ?_
  intro a
  match a with
  | ⟨0, _⟩ => show cc0_transform_4 (grid0.coords (point m hO i)) (0 : Fin 2) * 2048 ≤ (i 0).val ∧ (i 0).val < cc0_transform_4 (grid0.coords (point m hO i)) (0 : Fin 2) * 2048 + 2048; omega
  | ⟨1, _⟩ => show cc0_transform_4 (grid0.coords (point m hO i)) (1 : Fin 2) * 1024 ≤ (i 1).val ∧ (i 1).val < cc0_transform_4 (grid0.coords (point m hO i)) (1 : Fin 2) * 1024 + 1024; omega

/-- The output array after the run. -/
theorem final4 (c : Dev nD) : (dats m hO 0 c).arrAt 4 (cfgM m hO).N = G4 m hO c :=
  (dats m hO 0 c).arrAt_eq_of_cover 4 _ (fun t ht => flushed4_eq m hO c t ((flush0_4 (adm m hO) t).mp ht)) (covered4 m hO)

/-- The run: the output array at what the tiles leave in it, the arguments unchanged. -/
theorem run : θ_run defs (onTc (τ := τ) (main (F := F))) ⟨m, fun _ => 0, ρ⟩ fun r => ∀ c : Dev nD,
      r.2.mem ((c : Thread nD τ).loc main_v0) = G4 m hO c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 4).trans (final4 m hO c),
      (h c).2 main_arg0 (by decide : main_arg0 ∈ Pipeline.restRefs sig spec0),
      (h c).2 main_arg1 (by decide : main_arg1 ∈ Pipeline.restRefs sig spec0),
      ((h c).1 0).trans (((dats m hO 0 c).arrAt_in 0 rfl _).trans (A_eq m hO c 0)),
      ((h c).1 1).trans (((dats m hO 0 c).arrAt_in 1 rfl _).trans (A_eq m hO c 1)),
      ((h c).1 2).trans (((dats m hO 0 c).arrAt_in 2 rfl _).trans (A_eq m hO c 2)),
      ((h c).1 3).trans (((dats m hO 0 c).arrAt_in 3 rfl _).trans (A_eq m hO c 3))⟩)
    (run_main m ρ hO)

end Cert.Kernel2Ideal.Value

end
-- ==== Proof.Ffn.Outs.lean ====
/- What the grid of the grouped SwiGLU call leaves in the result: the routed SwiGLU at each element. -/
module

public import proofs.«01_k».proof.Proof.Ffn.Step
public import proofs.«01_k».proof.Proof.Ffn.Kernel2Ideal.Value

@[expose] public section

set_option maxRecDepth 16384

noncomputable section

namespace Cert.Ffn

open Cert.Kernel2Ideal Cert.Kernel2Ideal.Gen Idealize.ShloMosaic Idealize.ShloMosaic.TcCoe Idealize.ShloMosaic.Pointwise
open Cert.Kernel2Ideal.Value (G4 point place)
open Cert.Attn (at2 at2_of at2_self)

attribute [local irreducible] outsAt0

variable (m : (ℓ : Loc nD τ sig) → Buf (Elt Ideal) ℓ) (hO : Ok m) (c : Dev nD)

/-- The cleared result tile is zero. -/
theorem cleared_apply (y : S2048x1024.Idx) : k0_pay19 (F := Ideal) y = 0 := by
  unfold k0_pay19
  show Ideal.ofBits .f32 0#32 = 0
  simp [Ideal.ofBits, Ideal.ieee]

/-- The copied token tile is the tokens' block. -/
theorem copied_apply (x : Vec Ideal S2048x1024 .f32) (r : Fin 2048) (d : Fin 1024) : k0_pay18 (F := Ideal) x (ix2 r d) = x (ix2 r d) := by
  unfold k0_pay18
  pointwise []

variable (htv : ∀ t, (tokensW m t).toInt ≤ 2048)

/-- What a step adds at a row of its tile's subtiles, from the tile's tokens: the units of its block. -/
theorem added_units (t : Fin (cfgM m hO).N) (i : Fin 25) (hi : t.val / 11 = i.val) (xs : Vec Ideal S2048x1024 .bf16)
    (hxs : ∀ (r : Fin 2048) (d : Fin 1024), xs (ix2 r d) = at2 (X0 m c) (2048 * i.val + r.val) d.val)
    (h0 : 0 < (tokensW m i).toInt) (r : Fin 2048) (C : Fin 1024) :
    added (iblk m hO c 1 t) (iblk m hO c 2 t) (iblk m hO c 3 t) xs r C
      = ∑ f : Fin 256, unit (X0 m c) (WG0 m c) (WU0 m c) (WD0 m c) (expertW m i).toNat (2048 * i.val + r.val) C.val (256 * (t.val % 11) + f.val) := by
  have hc : grid0.coords t 0 = i := Fin.ext ((coord_tile t).trans hi)
  have hcol := column_eq m t (by rw [hc]; exact h0)
  unfold added unit proj
  refine Finset.sum_congr rfl fun f _ => ?_
  have e3 := down_entry m hO c t f C
  rw [hcol, hc] at e3
  rw [e3]
  congr 2
  · refine Finset.sum_congr rfl fun d _ => ?_
    have e := gate_entry m hO c t d f
    rw [hcol, hc] at e
    rw [e, hxs]
  · refine Finset.sum_congr rfl fun d _ => ?_
    have e := up_entry m hO c t d f
    rw [hcol, hc] at e
    rw [e, hxs]

/-- What the result tile of tile `i` holds after the first `n` of its steps. -/
def partialAt (i : Fin 25) (n : ℕ) (r C : ℕ) : EReal :=
  if r < 512 * subs (tokensW m i) then
    ∑ f ∈ Finset.range (256 * n), unit (X0 m c) (WG0 m c) (WU0 m c) (WD0 m c) (expertW m i).toNat (2048 * i.val + r) C f
  else 0

include htv in
/-- A step takes the result tile one block of hidden units further. -/
theorem step_partial (t : Fin (cfgM m hO).N) (i : Fin 25) (hi : t.val / 11 = i.val) (xs : Vec Ideal S2048x1024 .bf16)
    (hxs : ∀ (r : Fin 2048) (d : Fin 1024), xs (ix2 r d) = at2 (X0 m c) (2048 * i.val + r.val) d.val)
    (o : Vec Ideal S2048x1024 .f32) (ho : ∀ (r : Fin 2048) (C : Fin 1024), o (ix2 r C) = partialAt m c i (t.val % 11) r.val C.val)
    (r : Fin 2048) (C : Fin 1024) :
    stepC (tokens c (grid0.coords t) (tbl m 1)) (iblk m hO c 1 t) (iblk m hO c 2 t) (iblk m hO c 3 t) xs o (ix2 r C)
      = partialAt m c i (t.val % 11 + 1) r.val C.val := by
  have hc : grid0.coords t 0 = i := Fin.ext ((coord_tile t).trans hi)
  have hw : tokens c (grid0.coords t) (tbl m 1) = tokensW m i := by rw [tokens_word, hc]
  rw [hw]
  refine (step_apply (iblk m hO c 1 t) (iblk m hO c 2 t) (iblk m hO c 3 t) xs o _ (htv i) r C).trans ?_
  rw [ho]
  unfold partialAt
  by_cases h : r.val < 512 * subs (tokensW m i)
  · have h0 : 0 < (tokensW m i).toInt := by unfold subs at h; omega
    rw [if_pos h, if_pos h, if_pos h, units_next]
    exact congrArg _ (added_units m hO c t i hi xs hxs h0 r C)
  · rw [if_neg h, if_neg h, if_neg h]

include htv in
/-- The two tiles after every step: the units so far, and the tile's tokens. -/
theorem outs_value (n : ℕ) (hn : n < (cfgM m hO).N) (i : Fin 25) (hi : n / 11 = i.val) :
    (∀ (r : Fin 2048) (C : Fin 1024), (outsAt0 m hO c n hn).1 (ix2 r C) = partialAt m c i (n % 11 + 1) r.val C.val)
    ∧ ∀ (r : Fin 2048) (d : Fin 1024), (outsAt0 m hO c n hn).2 (ix2 r d) = at2 (X0 m c) (2048 * i.val + r.val) d.val := by
  induction n using Nat.strong_induction_on with
  | _ n ih =>
    by_cases h0 : n % 11 = 0
    · have hcond : k0_cond1 (grid0.coords ⟨n, hn⟩) = 1#1 := (hcond0_0 ⟨n, hn⟩).mpr h0
      have e := outsAt0_first m hO c ⟨n, hn⟩ h0 (k0_pay19 (F := Ideal), k0_pay18 (F := Ideal) (iblk m hO c 0 ⟨n, hn⟩))
      unfold stepAt stepS stepB at e
      simp only [hcond, if_true] at e
      have hx : ∀ (r : Fin 2048) (d : Fin 1024), k0_pay18 (F := Ideal) (iblk m hO c 0 ⟨n, hn⟩) (ix2 r d) = at2 (X0 m c) (2048 * i.val + r.val) d.val :=
        fun r d => (copied_apply _ r d).trans ((x_entry m hO c ⟨n, hn⟩ r d).trans (by rw [hi]))
      refine ⟨fun r C => ?_, fun r d => ?_⟩
      · refine (congrFun (congrArg Prod.fst e) (ix2 r C)).trans ?_
        refine step_partial m hO c htv ⟨n, hn⟩ i hi _ hx _ (fun r C => ?_) r C
        rw [cleared_apply]
        unfold partialAt
        rw [show (⟨n, hn⟩ : Fin (cfgM m hO).N).val % 11 = 0 from h0]
        simp
      · exact (congrFun (congrArg Prod.snd e) (ix2 r d)).trans (hx r d)
    · have hcond : ¬ k0_cond1 (grid0.coords ⟨n, hn⟩) = 1#1 := fun h => h0 ((hcond0_0 ⟨n, hn⟩).mp h)
      have e := outsAt0_next m hO c ⟨n, hn⟩ (by show n ≠ 0; omega)
      unfold stepAt stepS stepB at e
      simp only [hcond, if_false] at e
      obtain ⟨i1, i2⟩ := ih (n - 1) (by omega) (by omega) (by omega)
      rw [show (n - 1) % 11 + 1 = n % 11 by omega] at i1
      exact ⟨fun r C => (congrFun (congrArg Prod.fst e) (ix2 r C)).trans (step_partial m hO c htv ⟨n, hn⟩ i hi _ i2 _ i1 r C),
        fun r d => (congrFun (congrArg Prod.snd e) (ix2 r d)).trans (i2 r d)⟩

include htv in
/-- The result array at an element: its token through its tile's expert, zero past the tile's subtiles. -/
theorem result_value (R : Fin 51200) (C : Fin 1024) (i : Fin 25) (hi : R.val / 2048 = i.val) :
    (G4 m hO c : S51200x1024.Idx → EReal) (ix2 R C)
      = if R.val % 2048 < 512 * subs (tokensW m i) then
          expert (X0 m c) (WG0 m c) (WU0 m c) (WD0 m c) (expertW m i).toNat R.val C.val else 0 := by
  have hR := R.isLt
  have hC := C.isLt
  have e := (outs_value m hO c htv (point m hO (ix2 R C)).val (point m hO (ix2 R C)).isLt i
    (by show (R.val / 2048 * 11 + 10) / 11 = i.val; omega)).1 ⟨R.val % 2048, Nat.mod_lt _ (by decide)⟩ C
  have hp : place (ix2 R C) = (ix2 (⟨R.val % 2048, Nat.mod_lt _ (by decide)⟩ : Fin 2048) C : S2048x1024.Idx) := by
    funext a
    match a with
    | ⟨0, _⟩ => rfl
    | ⟨1, _⟩ => exact Fin.ext (Nat.mod_eq_of_lt hC)
  have hm : (point m hO (ix2 R C)).val % 11 + 1 = 11 := by
    show (R.val / 2048 * 11 + 10) % 11 + 1 = 11
    omega
  unfold G4
  rw [hp]
  refine e.trans ?_
  rw [hm]
  unfold partialAt expert
  rw [show 2048 * i.val + (⟨R.val % 2048, Nat.mod_lt _ (by decide)⟩ : Fin 2048).val = R.val by show 2048 * i.val + R.val % 2048 = R.val; omega]

end Cert.Ffn

end
-- ==== Proof.Ffn.Gather.lean ====
/- The matrices a table of numbers picks out of a stack of them. -/
module

public import Idealize.ShloMosaic.PureOps.Ideal.Laws
public import Idealize.ShloMosaic.Lib.Pointwise

@[expose] public section

noncomputable section

namespace Cert.Ffn

open Idealize.ShloMosaic Idealize.ShloMosaic.Pointwise

/-- Matrices picked by a list of numbers. -/
abbrev matDims (A B C T : ℕ) (wf : GatherDims.WF ⟨3, ![A, B, C]⟩ ⟨2, ![T, 1]⟩ ⟨3, ![T, B, C]⟩ [1, 2] [0] [] [0] [] 1 ![1, B, C]) :
    GatherDims ⟨3, ![A, B, C]⟩ ⟨2, ![T, 1]⟩ ⟨3, ![T, B, C]⟩ where
  offsetDims := [1, 2]
  collapsedSliceDims := [0]
  operandBatchingDims := []
  startIndicesBatchingDims := []
  startIndexMap := [0]
  indexVectorDim := 1
  sliceSizes := ![1, B, C]
  wf := wf

/-- The picked matrix at an element, the number inside the stack. -/
theorem gather_mat {α : Type} {A B C T n : ℕ} (hA : n < A)
    (wf : GatherDims.WF ⟨3, ![A, B, C]⟩ ⟨2, ![T, 1]⟩ ⟨3, ![T, B, C]⟩ [1, 2] [0] [] [0] [] 1 ![1, B, C])
    (x : (⟨3, ![A, B, C]⟩ : Shape).Idx → α) (idx : IVec ⟨2, ![T, 1]⟩ 32) (t : Fin T) (b : Fin B) (c : Fin C)
    (hn : (idx (ix2 t 0)).toInt.toNat = n) :
    Host.gather (matDims A B C T wf) x idx (ix3 t b c) = x (ix3 ⟨n, hA⟩ b c) := by
  unfold Host.gather
  congr 1
  funext e
  refine Fin.ext ?_
  show (matDims A B C T wf).start (ix3 t b c) idx e + (matDims A B C T wf).batchCoord (ix3 t b c) e + (matDims A B C T wf).offCoord (ix3 t b c) e = _
  rw [GatherDims.batchCoord_eq_zero _ _ _ (by simp)]
  have h012 : e = 0 ∨ e = 1 ∨ e = 2 := by
    match e with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ (matDims A B C T wf).startIndexMap from List.mem_singleton.mpr rfl)]
    have hsi : (matDims A B C T wf).siIdx (ix3 t b c) ⟨List.idxOf (0 : Fin 3) (matDims A B C T wf).startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    show min (idx (ix2 t 0)).toInt.toNat (A - 1) + 0 + 0 = n
    omega
  · unfold GatherDims.start
    rw [dif_neg (by simp)]
    show 0 + 0 + (matDims A B C T wf).offCoord (ix3 t b c) 1 = b.val
    rw [Nat.zero_add]
    rfl
  · unfold GatherDims.start
    rw [dif_neg (by simp)]
    show 0 + 0 + (matDims A B C T wf).offCoord (ix3 t b c) 2 = c.val
    rw [Nat.zero_add]
    rfl

end Cert.Ffn

end
-- ==== Proof.Ffn.RefValue.lean ====
/- The reference's grouped SwiGLU at an element. -/
module

public import proofs.«01_k».proof.Proof.Ffn.Gather
public import proofs.«01_k».proof.Proof.Ffn.Ints
public import proofs.«01_k».proof.Proof.Ffn.Spec
public import proofs.«01_k».proof.Proof.Gen.Reference2Ideal.Read

@[expose] public section

set_option maxRecDepth 16384

noncomputable section

namespace Cert.Ffn

open Cert.Reference2Ideal Cert.Reference2Ideal.Read Cert.Reference2Ideal.Facts₀ Idealize.ShloMosaic Idealize.ShloMosaic.Pointwise
  Idealize.ShloMosaic.WordCmp
open Cert.Attn (at2 at2_of at2_self)

variable (te tv : IVec S25 32) (x : FVec Ideal S51200x1024 .f32) (wg wu : FVec Ideal S8x1024x2816 .f32)
  (wd : FVec Ideal S8x2816x1024 .f32)

/-- An expert's number is not negative, so it stays itself. -/
theorem normal_word : ∀ n : Fin 8, (Scalar.select (IntOp.cmpi .slt (BitVec.ofNat 32 n.val) 0#32) (IntOp.addi (BitVec.ofNat 32 n.val) 8#32)
    (BitVec.ofNat 32 n.val)).toInt.toNat = n.val := by
  decide +kernel

/-- The same of a word. -/
theorem normal (v : BitVec 32) (hv : v.toNat < 8) :
    (Scalar.select (IntOp.cmpi .slt v 0#32) (IntOp.addi v 8#32) v).toInt.toNat = v.toNat := by
  have h := normal_word ⟨v.toNat, hv⟩
  simpa only [BitVec.ofNat_toNat, BitVec.setWidth_eq] using h

/-- The number the reference picks a tile's matrices by. -/
theorem number (t : Fin 25) (h : (te (ix1 t)).toNat < 8) : (val_main_v6 (F := Ideal) te (ix2 t 0)).toInt.toNat = (te (ix1 t)).toNat := by
  rw [val_main_v6_apply, val_main_v5_apply, val_main_v2_apply, val_main_v4_apply, val_main_v1_apply, val_main_v3_apply]
  have e : idx_main_v6 (ix2 t 0) = ix1 t := by
    funext a
    match a with
    | ⟨0, _⟩ => rfl
  rw [e]
  exact normal _ h

/-- The gate's and the up weights of a tile's expert. -/
theorem picked_in (w : FVec Ideal S8x1024x2816 .f32) (t : Fin 25) (h : (te (ix1 t)).toNat < 8) (d : Fin 1024) (f : Fin 2816) :
    (val_main_v7 (F := Ideal) te w : S25x1024x2816.Idx → EReal) (ix3 t d f) = at3 w (te (ix1 t)).toNat d.val f.val := by
  unfold val_main_v7
  exact (gather_mat h gather_S8x1024x2816_S25x1_S25x1024x2816_12_0_n_n_0_1_110242816_wf w _ t d f (number te t h)).trans (at3_of w _ d f)

/-- The down weights of a tile's expert. -/
theorem picked_out (t : Fin 25) (h : (te (ix1 t)).toNat < 8) (f : Fin 2816) (C : Fin 1024) :
    (val_main_v31 (F := Ideal) te wd : S25x2816x1024.Idx → EReal) (ix3 t f C) = at3 wd (te (ix1 t)).toNat f.val C.val := by
  unfold val_main_v31
  exact (gather_mat h gather_S8x2816x1024_S25x1_S25x2816x1024_12_0_n_n_0_1_128161024_wf wd _ t f C (number te t h)).trans (at3_of wd _ f C)

/-- A token of a tile. -/
theorem token (t : Fin 25) (r : Fin 2048) (d : Fin 1024) :
    (val_main_v0 (F := Ideal) x : S25x2048x1024.Idx → EReal) (ix3 t r d) = at2 x (2048 * t.val + r.val) d.val := by
  have h1 := r.isLt
  have h2 := d.isLt
  rw [val_main_v0_apply]
  refine (at2_self (A := 51200) (B := 1024) x _).trans ?_
  show at2 x (((t.val * 2048 + r.val) * 1024 + d.val) / 1024) (((t.val * 2048 + r.val) * 1024 + d.val) % 1024) = _
  congr 1 <;> omega

/-- A tile's tokens through its expert's gate or up weights. -/
theorem proj_apply (w : FVec Ideal S8x1024x2816 .f32) (t : Fin 25) (h : (te (ix1 t)).toNat < 8) (r : Fin 2048) (f : Fin 2816) :
    (val_main_v8 (F := Ideal) te x w : S25x2048x2816.Idx → EReal) (ix3 t r f) = proj x w (te (ix1 t)).toNat (2048 * t.val + r.val) f.val := by
  rw [val_main_v8_apply]
  unfold proj
  refine Finset.sum_congr rfl fun d _ => ?_
  have el : lidx_main_v8 (ix3 t r f) d = ix3 t r d := by
    funext a
    match a with
    | ⟨0, _⟩ => rfl
    | ⟨1, _⟩ => rfl
    | ⟨2, _⟩ => rfl
  have er : ridx_main_v8 (ix3 t r f) d = ix3 t d f := by
    funext a
    match a with
    | ⟨0, _⟩ => rfl
    | ⟨1, _⟩ => rfl
    | ⟨2, _⟩ => rfl
  rw [el, er, token, picked_in te w t h]

/-- The literal one. -/
theorem bits_one : Ideal.ofBits .f32 1065353216#32 = 1 := by
  simp [Ideal.ofBits, Ideal.ieee]
  exact_mod_cast (by norm_num : (8388608 : ℝ) * (2 ^ 23)⁻¹ = 1)

/-- The hidden units of a tile's tokens. -/
theorem hidden_apply (t : Fin 25) (h : (te (ix1 t)).toNat < 8) (r : Fin 2048) (f : Fin 2816) :
    (val_main_v24 (F := Ideal) te x wg wu : S25x2048x2816.Idx → EReal) (ix3 t r f)
      = swiglu (proj x wg (te (ix1 t)).toNat (2048 * t.val + r.val) f.val) (proj x wu (te (ix1 t)).toNat (2048 * t.val + r.val) f.val) := by
  rw [val_main_v24_apply, val_main_v23_apply, val_main_v22_apply, val_main_v20_apply, val_main_v18_apply, val_main_v17_apply,
    val_main_v21_apply, val_main_v19_apply,
    show val_main_v16 (F := Ideal) te x wu = val_main_v8 (F := Ideal) te x wu from rfl, proj_apply te x wg t h, proj_apply te x wu t h]
  unfold swiglu Ideal.logistic
  show _ * Ideal.div (Ideal.ofBits .f32 1065353216#32) (Ideal.ofBits .f32 1065353216#32 + Ideal.exp (-_)) * _ = _
  rw [bits_one]

/-- A tile's tokens through its expert. -/
theorem expert_apply (t : Fin 25) (h : (te (ix1 t)).toNat < 8) (r : Fin 2048) (C : Fin 1024) :
    (val_main_v32 (F := Ideal) te x wg wu wd : S25x2048x1024.Idx → EReal) (ix3 t r C)
      = expert x wg wu wd (te (ix1 t)).toNat (2048 * t.val + r.val) C.val := by
  rw [val_main_v32_apply]
  unfold expert unit
  rw [Finset.sum_range]
  refine Finset.sum_congr rfl fun f _ => ?_
  have el : lidx_main_v32 (ix3 t r C) f = ix3 t r f := by
    funext a
    match a with
    | ⟨0, _⟩ => rfl
    | ⟨1, _⟩ => rfl
    | ⟨2, _⟩ => rfl
  have er : ridx_main_v32 (ix3 t r C) f = ix3 t f C := by
    funext a
    match a with
    | ⟨0, _⟩ => rfl
    | ⟨1, _⟩ => rfl
    | ⟨2, _⟩ => rfl
  rw [el, er, hidden_apply te x wg wu t h, picked_out te wd t h]

/-- The rows the reference works on. -/
theorem worked (t : Fin 25) (h : (tv (ix1 t)).toInt ≤ 2048) (r : Fin 2048) (C : Fin 1024) :
    val_main_call1_v1 (F := Ideal) tv (ix3 t r C) = if r.val < 512 * subs (tv (ix1 t)) then 1#1 else 0#1 := by
  rw [val_main_call1_v1_apply, val_main_v44_apply, val_main_v43_apply, val_main_v41_apply, val_main_v34_apply, val_main_v33_apply,
    val_main_v42_apply]
  have e : val_main_v40 (F := Ideal) tv (idx_main_v42 (idx_main_v44 (idx_main_call1_v1 (ix3 t r C)))) = rowsWord (tv (ix1 t)) := by
    rw [val_main_v40_apply, val_main_v39_apply, val_main_v38_apply, val_main_call0_v13_apply, val_main_call0_v12_apply,
      val_main_call0_v11_apply, val_main_call0_v10_apply, val_main_call0_v9_apply, val_main_call0_v8_apply, val_main_call0_v7_apply,
      val_main_call0_v6_apply, val_main_call0_v5_apply, val_main_call0_v2_apply, val_main_call0_v1_apply]
    unfold val_main_call0_v3 val_main_call0_v4 signi
    rw [val_main_v37_apply, val_main_v36_apply, val_main_v35_apply]
    have e : idx_main_v35 (idx_main_v42 (idx_main_v44 (idx_main_call1_v1 (ix3 t r C)))) = ix1 t := by
      funext a
      match a with
      | ⟨0, _⟩ => rfl
    rw [e]
    rfl
  rw [e]
  exact row_worked _ h r

/-- The reference at an element: its token through its tile's expert, zero past the tile's subtiles. -/
theorem reference_value (hte : ∀ t, (te (ix1 t)).toNat < 8) (htv : ∀ t, (tv (ix1 t)).toInt ≤ 2048) (R : Fin 51200) (C : Fin 1024) (t : Fin 25)
    (ht : R.val / 2048 = t.val) :
    (val_main_v46 (F := Ideal) te tv x wg wu wd : S51200x1024.Idx → EReal) (ix2 R C)
      = if R.val % 2048 < 512 * subs (tv (ix1 t)) then expert x wg wu wd (te (ix1 t)).toNat R.val C.val else 0 := by
  have hR := R.isLt
  have hC := C.isLt
  have e : idx_main_v46 (ix2 R C) = ix3 t (⟨R.val % 2048, Nat.mod_lt _ (by decide)⟩ : Fin 2048) C := by
    funext a
    match a with
    | ⟨0, _⟩ => exact Fin.ext (by show (R.val * 1024 + C.val) / 2097152 = t.val; omega)
    | ⟨1, _⟩ => exact Fin.ext (by show (R.val * 1024 + C.val) / 1024 % 2048 = R.val % 2048; omega)
    | ⟨2, _⟩ => exact Fin.ext (by show (R.val * 1024 + C.val) % 1024 = C.val; omega)
  rw [val_main_v46_apply, e, val_main_v45_apply, worked tv t (htv t), expert_apply te x wg wu wd t (hte t), val_main_call1_v2_apply,
    val_main_call1_v0_apply, val_main_c_9_apply]
  rw [show 2048 * t.val + (⟨R.val % 2048, Nat.mod_lt _ (by decide)⟩ : Fin 2048).val = R.val by show 2048 * t.val + R.val % 2048 = R.val; omega]
  show Scalar.select (if R.val % 2048 < 512 * subs (tv (ix1 t)) then 1#1 else 0#1) _ _ = _
  by_cases hw : R.val % 2048 < 512 * subs (tv (ix1 t))
  · rw [if_pos hw, if_pos hw]; rfl
  · rw [if_neg hw, if_neg hw]
    refine (if_neg (by decide)).trans ?_
    show (((0#32).toInt : ℝ) : EReal) = 0
    simp

end Cert.Ffn

end
-- ==== Proof.Ffn.RefPlain.lean ====
/- The plain reference of the grouped SwiGLU at an element: it is the other reference before its last step. -/
module

public import proofs.«01_k».proof.Proof.Ffn.RefValue
public import proofs.«01_k».proof.Proof.Gen.Reference3Ideal.Read

@[expose] public section

set_option maxRecDepth 16384

noncomputable section

namespace Cert.Ffn

open Cert.Reference3Ideal Cert.Reference3Ideal.Read Idealize.ShloMosaic Idealize.ShloMosaic.Pointwise

variable (te : IVec S25 32) (x : FVec Ideal S51200x1024 .f32) (wg wu : FVec Ideal S8x1024x2816 .f32) (wd : FVec Ideal S8x2816x1024 .f32)

/-- The plain reference at an element: its row through its tile's expert. -/
theorem plain_value (hte : ∀ t, (te (ix1 t)).toNat < 8) (R : Fin 51200) (C : Fin 1024) (t : Fin 25) (ht : R.val / 2048 = t.val) :
    (val_main_v33 (F := Ideal) te x wg wu wd : S51200x1024.Idx → EReal) (ix2 R C) = expert x wg wu wd (te (ix1 t)).toNat R.val C.val := by
  have hR := R.isLt
  have hC := C.isLt
  have e : idx_main_v33 (ix2 R C) = ix3 t (⟨R.val % 2048, Nat.mod_lt _ (by decide)⟩ : Fin 2048) C := by
    funext a
    match a with
    | ⟨0, _⟩ => exact Fin.ext (by show (R.val * 1024 + C.val) / 2097152 = t.val; omega)
    | ⟨1, _⟩ => exact Fin.ext (by show (R.val * 1024 + C.val) / 1024 % 2048 = R.val % 2048; omega)
    | ⟨2, _⟩ => exact Fin.ext (by show (R.val * 1024 + C.val) % 1024 = C.val; omega)
  rw [val_main_v33_apply, e,
    show val_main_v32 (F := Ideal) te x wg wu wd = Cert.Reference2Ideal.Read.val_main_v32 (F := Ideal) te x wg wu wd from rfl]
  refine (expert_apply te x wg wu wd t (hte t) _ C).trans ?_
  rw [show 2048 * t.val + (⟨R.val % 2048, Nat.mod_lt _ (by decide)⟩ : Fin 2048).val = R.val by show 2048 * t.val + R.val % 2048 = R.val; omega]

end Cert.Ffn

end
-- ==== Proof.Ffn.Dispatched.lean ====
/- What the second precondition of the grouped SwiGLU call says: its tables are in range, and the rows that a tile does not use
   are zero. Such a row's SwiGLU is zero. -/
module

public import proofs.«01_k».proof.Proof.Ffn.RefValue
public import proofs.«01_k».proof.Proof.Ffn.Routed
public import proofs.«01_k».proof.Proof.Gen.Pre_dispatched

@[expose] public section

set_option maxRecDepth 16384

noncomputable section

namespace Cert.Ffn

open Cert.Pre_dispatched Idealize.ShloMosaic Idealize.ShloMosaic.WordCmp Idealize.ShloMosaic.Pointwise
open Cert.Attn (at2)

/-- A row of zeros goes to zero through any expert, whatever the weights. -/
theorem expert_zero (x : Shape.Idx ⟨2, ![51200, 1024]⟩ → EReal) (wg wu : Shape.Idx ⟨3, ![8, 1024, 2816]⟩ → EReal)
    (wd : Shape.Idx ⟨3, ![8, 2816, 1024]⟩ → EReal) (e R C : ℕ) (h : ∀ d : Fin 1024, at2 x R d.val = 0) : expert x wg wu wd e R C = 0 := by
  unfold expert unit swiglu proj
  simp [h]

variable (te tv : IVec S25 32) (x : FVec Ideal S51200x1024 .f32) (wg wu : FVec Ideal S8x1024x2816 .f32) (wd : FVec Ideal S8x2816x1024 .f32)

/-- Every tile's expert is one of the eight. -/
theorem dispatched_expert (h : (fn te tv x wg wu wd).1 = fun _ => 1#1) (t : Fin 25) : (te (ix1 t)).toNat < 8 :=
  below_of_words _ 8#32 (by decide) (congrFun h (ix1 t))

/-- No tile has more than 2048 rows in use. -/
theorem dispatched_tokens (h : (fn te tv x wg wu wd).2.1 = fun _ => 1#1) (t : Fin 25) : (tv (ix1 t)).toInt ≤ 2048 :=
  atMost_of_word _ (congrFun h (ix1 t))

/-- A row past those in use is zero. -/
theorem dispatched_zero (h : (fn te tv x wg wu wd).2.2 = fun _ => 1#1) (t : Fin 25) (r : Fin 2048)
    (hr : (tv (ix1 t)).toInt ≤ r.val) (d : Fin 1024) : at2 x (2048 * t.val + r.val) d.val = 0 := by
  have e : IntOp.ori (IntOp.cmpi .slt (BitVec.ofNat 32 r.val) (tv (ix1 t)))
      (Ideal.cmp .oeq ((Cert.Reference2Ideal.Read.val_main_v0 (F := Ideal) x : Cert.Reference2Ideal.S25x2048x1024.Idx → EReal) (ix3 t r d))
        (Ideal.ofBits .f32 0#32)) = 1#1 := by
    refine Eq.trans (congrArg₂ IntOp.ori ?_ rfl) (congrFun h (ix3 t r d))
    symm
    refine (broadcastInDim_apply _ Facts.bcast_S25x2048x1_S25x2048x1024_0_1_2 _ (ix3 t r d) (ix3 t r 0) (fun a => match a with
      | ⟨0, _⟩ => rfl
      | ⟨1, _⟩ => rfl
      | ⟨2, _⟩ => rfl)).trans ?_
    refine congrArg₂ (IntOp.cmpi .slt) ?_ ?_
    · refine (broadcastInDim_apply _ Facts.bcast_S1x2048x1_S25x2048x1_0_1_2 _ (ix3 t r 0) (ix3 0 r 0) (fun a => match a with
        | ⟨0, _⟩ => rfl
        | ⟨1, _⟩ => rfl
        | ⟨2, _⟩ => rfl)).trans ?_
      exact (broadcastInDim_apply _ Facts.bcast_S2048_S1x2048x1_1 _ (ix3 0 r 0) (ix1 r) (fun a => match a with
        | ⟨0, _⟩ => rfl)).trans rfl
    · refine (broadcastInDim_apply _ Facts.bcast_S25x1x1_S25x2048x1_0_1_2 _ (ix3 t r 0) (ix3 t 0 0) (fun a => match a with
        | ⟨0, _⟩ => rfl
        | ⟨1, _⟩ => rfl
        | ⟨2, _⟩ => rfl)).trans ?_
      exact broadcastInDim_apply _ Facts.bcast_S25_S25x1x1_0 _ (ix3 t 0 0) (ix1 t) (fun a => match a with
        | ⟨0, _⟩ => rfl)
  have hz : Ideal.ofBits .f32 0#32 = 0 := by simp [Ideal.ofBits, Ideal.ieee]
  have hlt := r.isLt
  have hn : IntOp.cmpi .slt (BitVec.ofNat 32 r.val) (tv (ix1 t)) = BitVec.ofBool false := by
    rw [cmpi_slt_eq, decide_eq_false]
    rw [toInt_ofNat_of_lt (lt_trans r.isLt (by decide))]
    omega
  rw [token x t r d, hz, hn] at e
  unfold Ideal.cmp at e
  rw [ori_ofBool, ofBool_eq_one_iff, Bool.false_or, decide_eq_true_eq] at e
  exact e

end Cert.Ffn

end
-- ==== Proof.Attn.Tile.lean ====
/- The attention of one grid step, written once for all heads: the operations of the kernel's body with the head's slabs
   as arguments. The module `Opened` shows that what the body stores is this function of the windows it reads. -/
module

public import proofs.«01_k».proof.Proof.Gen.KernelIdeal

@[expose] public section

noncomputable section

namespace Cert.Attn

open Cert.KernelIdeal Cert.KernelIdeal.Facts₀ Cert.KernelIdeal.Facts Idealize.ShloMosaic

variable {F : FTy → Type} [FloatOps F] [Named F]

/-- The lanes of a pair of heads that belong to its first head. -/
def maskLo : IVec S1x128 1 :=
  cmpi .slt (iota .tc S1x128 32 [1] iota_S1x128_d1_w32) (broadcast S1x128 (64#32))

/-- The lanes of a pair of heads that belong to its second head. -/
def maskHi : IVec S1x128 1 := xori maskLo (constantI S1x128 1 1#1)

/-- The scaled queries of a pair of heads, zero outside one head's lanes. -/
def qhalf (keep : IVec S1x128 1) (q : Vec F S1024x128 .f32) : FVec F S1024x128 .bf16 :=
  select (broadcastTo S1024x128 (shapeCast S1x128 keep shapeCasts_S1x128_S1x128) broadcasts_S1x128_S1024x128)
    (truncf .bf16 (mulf q (broadcast S1024x128 (Named.named κ "scale_log2e" 0x3E38AA3B#32))) bitsLt_bf16_f32)
    (broadcast S1024x128 (Scalar.ofBits .bf16 0x0000#16))

/-- The values of a pair of heads, one outside one head's lanes. -/
def vhalf (keep : IVec S1x128 1) (v : FVec F S256x128 .bf16) : FVec F S256x128 .bf16 :=
  select (broadcastTo S256x128 (shapeCast S1x128 keep shapeCasts_S1x128_S1x128) broadcasts_S1x128_S256x128)
    v (broadcast S256x128 (Scalar.ofBits .bf16 0x3F80#16))

/-- A block of a head's bias as a matrix. -/
def bm (b : Vec F S1x256x256 .f32) : FVec F S256x256 .f32 := shapeCast S256x256 b shapeCasts_S1x256x256_S256x256

/-- The scores of 256 rows of queries against one part of the keys. -/
def score1 (off : Fin 2 → Nat) (h : S1024x128.Slices off S256x128) (qh : FVec F S1024x128 .bf16)
    (k : FVec F S256x128 .bf16) (b : Vec F S1x256x256 .f32) : FVec F S256x256 .f32 :=
  addf (matmul dot_S256x128_S256x128_S256x256_1_1_0_0_n_n none (extractStridedSlice S256x128 off qh h) k
    (constant S256x256 .f32 0x00000000#32)) (bm b)

/-- The scores of 512 rows of queries against one part of the keys. -/
def score2 (off : Fin 2 → Nat) (h : S1024x128.Slices off S512x128) (qh : FVec F S1024x128 .bf16)
    (k : FVec F S256x128 .bf16) (b c : Vec F S1x256x256 .f32) : FVec F S512x256 .f32 :=
  addf (matmul dot_S512x128_S256x128_S512x256_1_1_0_0_n_n none (extractStridedSlice S512x128 off qh h) k
    (constant S512x256 .f32 0x00000000#32))
    (concatenate S512x256 0 [⟨S256x256, bm b⟩, ⟨S256x256, bm c⟩] concatenates_S256x256_S256x256_S512x256_d0)

/-- The scores of 768 rows of queries against one part of the keys. -/
def score3 (off : Fin 2 → Nat) (h : S1024x128.Slices off S768x128) (qh : FVec F S1024x128 .bf16)
    (k : FVec F S256x128 .bf16) (b c d : Vec F S1x256x256 .f32) : FVec F S768x256 .f32 :=
  addf (matmul dot_S768x128_S256x128_S768x256_1_1_0_0_n_n none (extractStridedSlice S768x128 off qh h) k
    (constant S768x256 .f32 0x00000000#32))
    (concatenate S768x256 0 [⟨S256x256, bm b⟩, ⟨S256x256, bm c⟩, ⟨S256x256, bm d⟩]
      concatenates_S256x256_S256x256_S256x256_S768x256_d0)

/-- The greatest score of each of 256 rows over three parts of the keys. -/
def rowMax3 (a b c : FVec F S256x256 .f32) : FVec F S256x1 .f32 :=
  let l := fun (x : FVec F S256x256 .f32) => extractStridedSlice S256x128 ![0, 0] x slices_S256x256_o0_0_S256x128
  let r := fun (x : FVec F S256x256 .f32) => extractStridedSlice S256x128 ![0, 128] x slices_S256x256_o0_128_S256x128
  shapeCast S256x1 (multiReduction .maximumf [1] S256
    (maximumf (maximumf (maximumf (maximumf (maximumf (l a) (r a)) (l b)) (r b)) (l c)) (r c))
    0xFF800000#32 reduces_S256x128_S256 (.inl rfl) rfl) shapeCasts_S256_S256x1

/-- Weighted values of one part of the keys, 256 rows. -/
def weigh1 (s : FVec F S256x256 .f32) (m : FVec F S256x1 .f32) (v : FVec F S256x128 .bf16) : FVec F S256x128 .f32 :=
  matmul dot_S256x256_S256x128_S256x128_1_0_0_1_n_n none
    (truncf .bf16 (exp2 (subf s (broadcastTo S256x256 m broadcasts_S256x1_S256x256))) bitsLt_bf16_f32) v
    (constant S256x128 .f32 0x00000000#32)

/-- Weighted values of one part of the keys, 512 rows. -/
def weigh2 (s : FVec F S512x256 .f32) (m n : FVec F S256x1 .f32) (v : FVec F S256x128 .bf16) : FVec F S512x128 .f32 :=
  matmul dot_S512x256_S256x128_S512x128_1_0_0_1_n_n none
    (truncf .bf16 (exp2 (subf s (broadcastTo S512x256
      (concatenate S512x1 0 [⟨S256x1, m⟩, ⟨S256x1, n⟩] concatenates_S256x1_S256x1_S512x1_d0)
      broadcasts_S512x1_S512x256))) bitsLt_bf16_f32) v
    (constant S512x128 .f32 0x00000000#32)

/-- Weighted values of one part of the keys, 768 rows. -/
def weigh3 (s : FVec F S768x256 .f32) (m n o : FVec F S256x1 .f32) (v : FVec F S256x128 .bf16) : FVec F S768x128 .f32 :=
  matmul dot_S768x256_S256x128_S768x128_1_0_0_1_n_n none
    (truncf .bf16 (exp2 (subf s (broadcastTo S768x256
      (concatenate S768x1 0 [⟨S256x1, m⟩, ⟨S256x1, n⟩, ⟨S256x1, o⟩] concatenates_S256x1_S256x1_S256x1_S768x1_d0)
      broadcasts_S768x1_S768x256))) bitsLt_bf16_f32) v
    (constant S768x128 .f32 0x00000000#32)

/-- One of the three bands of 256 rows of a 768-row score matrix. -/
def band3 (off : Fin 2 → Nat) (h : S768x256.Slices off S256x256) (s : FVec F S768x256 .f32) : FVec F S256x256 .f32 :=
  extractStridedSlice S256x256 off s h

/-- One of the two bands of 256 rows of a 512-row score matrix. -/
def band2 (off : Fin 2 → Nat) (h : S512x256.Slices off S256x256) (s : FVec F S512x256 .f32) : FVec F S256x256 .f32 :=
  extractStridedSlice S256x256 off s h

/-- What one head accumulates over the six parts of the keys from their scores: its lanes hold the weighted values,
    the pair's other lanes the weights' sum. -/
def accum (s0 : FVec F S256x256 .f32) (s1 : FVec F S512x256 .f32) (s2 s3 : FVec F S768x256 .f32)
    (s4 : FVec F S512x256 .f32) (s5 : FVec F S256x256 .f32) (v0 v1 v2 v3 v4 v5 : FVec F S256x128 .bf16) :
    FVec F S1024x128 .f32 :=
  let z : FVec F S256x128 .f32 := broadcast S256x128 (Scalar.ofBits .f32 0x00000000#32)
  let m0 := rowMax3 s0 (band2 ![0, 0] slices_S512x256_o0_0_S256x256 s1) (band3 ![0, 0] slices_S768x256_o0_0_S256x256 s2)
  let m1 := rowMax3 (band2 ![256, 0] slices_S512x256_o256_0_S256x256 s1) (band3 ![256, 0] slices_S768x256_o256_0_S256x256 s2)
    (band3 ![0, 0] slices_S768x256_o0_0_S256x256 s3)
  let m2 := rowMax3 (band3 ![512, 0] slices_S768x256_o512_0_S256x256 s2) (band3 ![256, 0] slices_S768x256_o256_0_S256x256 s3)
    (band2 ![0, 0] slices_S512x256_o0_0_S256x256 s4)
  let m3 := rowMax3 (band3 ![512, 0] slices_S768x256_o512_0_S256x256 s3) (band2 ![256, 0] slices_S512x256_o256_0_S256x256 s4) s5
  let c0 := weigh1 s0 m0 v0
  let c1 := weigh2 s1 m0 m1 v1
  let c2 := weigh3 s2 m0 m1 m2 v2
  let c3 := weigh3 s3 m1 m2 m3 v3
  let c4 := weigh2 s4 m2 m3 v4
  let c5 := weigh1 s5 m3 v5
  let p3 := fun (off : Fin 2 → Nat) (h : S768x128.Slices off S256x128) (x : FVec F S768x128 .f32) => extractStridedSlice S256x128 off x h
  let p2 := fun (off : Fin 2 → Nat) (h : S512x128.Slices off S256x128) (x : FVec F S512x128 .f32) => extractStridedSlice S256x128 off x h
  let a0 := addf (addf (addf z c0) (p2 ![0, 0] slices_S512x128_o0_0_S256x128 c1)) (p3 ![0, 0] slices_S768x128_o0_0_S256x128 c2)
  let a1 := addf (addf (addf z (p2 ![256, 0] slices_S512x128_o256_0_S256x128 c1)) (p3 ![256, 0] slices_S768x128_o256_0_S256x128 c2))
    (p3 ![0, 0] slices_S768x128_o0_0_S256x128 c3)
  let a2 := addf (addf (addf z (p3 ![512, 0] slices_S768x128_o512_0_S256x128 c2)) (p3 ![256, 0] slices_S768x128_o256_0_S256x128 c3))
    (p2 ![0, 0] slices_S512x128_o0_0_S256x128 c4)
  let a3 := addf (addf (addf z (p3 ![512, 0] slices_S768x128_o512_0_S256x128 c3)) (p2 ![256, 0] slices_S512x128_o256_0_S256x128 c4)) c5
  concatenate S1024x128 0 [⟨S256x128, a0⟩, ⟨S256x128, a1⟩, ⟨S256x128, a2⟩, ⟨S256x128, a3⟩]
    concatenates_S256x128_S256x128_S256x128_S256x128_S1024x128_d0

/-- One head of a pair. `f` and `g` are what becomes of the scores of the first two parts of the keys, which lie
    before the sequence at its first step. -/
def head (f : FVec F S256x256 .f32 → FVec F S256x256 .f32) (g : FVec F S512x256 .f32 → FVec F S512x256 .f32)
    (keep : IVec S1x128 1) (q : Vec F S1024x128 .f32) (k0 k1 k2 k3 k4 k5 v0 v1 v2 v3 v4 v5 : FVec F S256x128 .bf16)
    (b0 b1 b2 : Vec F S1x256x256 .f32) : FVec F S1024x128 .f32 :=
  accum (f (score1 ![0, 0] slices_S1024x128_o0_0_S256x128 (qhalf keep q) k0 b0))
    (g (score2 ![0, 0] slices_S1024x128_o0_0_S512x128 (qhalf keep q) k1 b1 b0))
    (score3 ![0, 0] slices_S1024x128_o0_0_S768x128 (qhalf keep q) k2 b2 b1 b0)
    (score3 ![256, 0] slices_S1024x128_o256_0_S768x128 (qhalf keep q) k3 b2 b1 b0)
    (score2 ![512, 0] slices_S1024x128_o512_0_S512x128 (qhalf keep q) k4 b2 b1)
    (score1 ![768, 0] slices_S1024x128_o768_0_S256x128 (qhalf keep q) k5 b2)
    (vhalf keep v0) (vhalf keep v1) (vhalf keep v2) (vhalf keep v3) (vhalf keep v4) (vhalf keep v5)

/-- A pair of heads normalised: each head's weighted values over the weights' sum, which stands in the other head's
    lanes. -/
def norm2 (x y : FVec F S1024x128 .f32) : FVec F S1024x128 .f32 :=
  let lo := broadcastTo S1024x128 (shapeCast S1x128 maskLo shapeCasts_S1x128_S1x128) broadcasts_S1x128_S1024x128
  divf (select lo x y) (dynamicRotate 1 64#32 none (select lo y x) rotates_S1024x128_d1)

/-- The root-mean-square normalisation of the four pairs of heads side by side. -/
def rms4 (n : Vec F S1x512 .f32) (a b c d : FVec F S1024x128 .f32) : FVec F S1024x512 .bf16 :=
  let x : FVec F S1024x512 .f32 := concatenate S1024x512 1 [⟨S1024x128, a⟩, ⟨S1024x128, b⟩, ⟨S1024x128, c⟩, ⟨S1024x128, d⟩]
    concatenates_S1024x128_S1024x128_S1024x128_S1024x128_S1024x512_d1
  let v : FVec F S1024x1 .f32 := shapeCast S1024x1 (multiReduction .add [1] S1024 (mulf x x) 0x00000000#32 reduces_S1024x512_S1024 (.inl rfl) rfl)
    shapeCasts_S1024_S1024x1
  let w := rsqrt (addf (divf v (broadcast S1024x1 (Scalar.ofBits .f32 0x44000000#32))) (broadcast S1024x1 (Scalar.ofBits .f32 0x3727C5AC#32)))
  truncf .bf16 (mulf (mulf x (broadcastTo S1024x512 w broadcasts_S1024x1_S1024x512))
    (broadcastTo S1024x512 (shapeCast S1x512 n shapeCasts_S1x512_S1x512) broadcasts_S1x512_S1024x512)) bitsLt_bf16_f32

end Cert.Attn

end
-- ==== Proof.Attn.Pairs.lean ====
/- A pair of heads as the kernel's body computes it from its slabs. -/
module

public import proofs.«01_k».proof.Proof.Attn.Tile
public import Idealize.ShloMosaic.Lib.Pipeline.Value

@[expose] public section

noncomputable section

namespace Cert.Attn

open Idealize.SL Cert.KernelIdeal Cert.KernelIdeal.Facts₀ Cert.KernelIdeal.Facts Idealize.ShloMosaic

variable {F : FTy → Type} [FloatOps F] [Named F]

/-- A slab of keys or values as the body casts it. -/
def slab (x : Vec F S256x128 .bf16) : FVec F S256x128 .bf16 := shapeCast S256x128 x shapeCasts_S256x128_S256x128

/-- A pair of heads: both heads' sums over the six parts of the keys, normalised. -/
def pair (f : FVec F S256x256 .f32 → FVec F S256x256 .f32) (g : FVec F S512x256 .f32 → FVec F S512x256 .f32)
    (q : Vec F S1024x128 .f32) (k0 k1 k2 k3 k4 k5 v0 v1 v2 v3 v4 v5 : Vec F S256x128 .bf16)
    (a0 a1 a2 b0 b1 b2 : Vec F S1x256x256 .f32) : FVec F S1024x128 .f32 :=
  norm2
    (head f g maskLo q (slab k0) (slab k1) (slab k2) (slab k3) (slab k4) (slab k5)
      (slab v0) (slab v1) (slab v2) (slab v3) (slab v4) (slab v5) a0 a1 a2)
    (head f g maskHi q (slab k0) (slab k1) (slab k2) (slab k3) (slab k4) (slab k5)
      (slab v0) (slab v1) (slab v2) (slab v3) (slab v4) (slab v5) b0 b1 b2)

/-- What loads of the rectangles of a buffer read. -/
abbrev Loads (F : FTy → Type) (S : Shape) (e : EltTy) := ∀ r : Rect S, r.shape.Idx → Elt F e

/-- The loads of a buffer with the contents `X`. -/
def loads {S : Shape} {e : EltTy} (X : S.Idx → Elt F e) : Loads F S e := fun r => View.ld X r

/-- The block of results of one grid step from the loads of the blocks of queries, keys, values and norm weights and of
    the bias of the eight heads. -/
def tile (f : FVec F S256x256 .f32 → FVec F S256x256 .f32) (g : FVec F S512x256 .f32 → FVec F S512x256 .f32)
    (q : Loads F S1024x512 .f32) (k0 k1 k2 k3 k4 k5 v0 v1 v2 v3 v4 v5 : Loads F S256x512 .bf16) (n : Loads F S1x512 .f32)
    (b : Loads F S8x256x768 .f32) : FVec F S1024x512 .bf16 :=
  rms4 (n (Rect.unit (s := S1x512) ![0, 0] S1x512.size inb_S1x512_S1x512_0_0))
    (pair f g (q (Rect.unit (s := S1024x512) ![0, 0] S1024x128.size inb_S1024x512_S1024x128_0_0))
      (k0 (Rect.unit (s := S256x512) ![0, 0] S256x128.size inb_S256x512_S256x128_0_0))
      (k1 (Rect.unit (s := S256x512) ![0, 0] S256x128.size inb_S256x512_S256x128_0_0))
      (k2 (Rect.unit (s := S256x512) ![0, 0] S256x128.size inb_S256x512_S256x128_0_0))
      (k3 (Rect.unit (s := S256x512) ![0, 0] S256x128.size inb_S256x512_S256x128_0_0))
      (k4 (Rect.unit (s := S256x512) ![0, 0] S256x128.size inb_S256x512_S256x128_0_0))
      (k5 (Rect.unit (s := S256x512) ![0, 0] S256x128.size inb_S256x512_S256x128_0_0))
      (v0 (Rect.unit (s := S256x512) ![0, 0] S256x128.size inb_S256x512_S256x128_0_0))
      (v1 (Rect.unit (s := S256x512) ![0, 0] S256x128.size inb_S256x512_S256x128_0_0))
      (v2 (Rect.unit (s := S256x512) ![0, 0] S256x128.size inb_S256x512_S256x128_0_0))
      (v3 (Rect.unit (s := S256x512) ![0, 0] S256x128.size inb_S256x512_S256x128_0_0))
      (v4 (Rect.unit (s := S256x512) ![0, 0] S256x128.size inb_S256x512_S256x128_0_0))
      (v5 (Rect.unit (s := S256x512) ![0, 0] S256x128.size inb_S256x512_S256x128_0_0))
      (b (Rect.unit (s := S8x256x768) ![0, 0, 0] S1x256x256.size inb_S8x256x768_S1x256x256_0_0_0))
      (b (Rect.unit (s := S8x256x768) ![0, 0, 256] S1x256x256.size inb_S8x256x768_S1x256x256_0_0_256))
      (b (Rect.unit (s := S8x256x768) ![0, 0, 512] S1x256x256.size inb_S8x256x768_S1x256x256_0_0_512))
      (b (Rect.unit (s := S8x256x768) ![1, 0, 0] S1x256x256.size inb_S8x256x768_S1x256x256_1_0_0))
      (b (Rect.unit (s := S8x256x768) ![1, 0, 256] S1x256x256.size inb_S8x256x768_S1x256x256_1_0_256))
      (b (Rect.unit (s := S8x256x768) ![1, 0, 512] S1x256x256.size inb_S8x256x768_S1x256x256_1_0_512)))
    (pair f g (q (Rect.unit (s := S1024x512) ![0, 128] S1024x128.size inb_S1024x512_S1024x128_0_128))
      (k0 (Rect.unit (s := S256x512) ![0, 128] S256x128.size inb_S256x512_S256x128_0_128))
      (k1 (Rect.unit (s := S256x512) ![0, 128] S256x128.size inb_S256x512_S256x128_0_128))
      (k2 (Rect.unit (s := S256x512) ![0, 128] S256x128.size inb_S256x512_S256x128_0_128))
      (k3 (Rect.unit (s := S256x512) ![0, 128] S256x128.size inb_S256x512_S256x128_0_128))
      (k4 (Rect.unit (s := S256x512) ![0, 128] S256x128.size inb_S256x512_S256x128_0_128))
      (k5 (Rect.unit (s := S256x512) ![0, 128] S256x128.size inb_S256x512_S256x128_0_128))
      (v0 (Rect.unit (s := S256x512) ![0, 128] S256x128.size inb_S256x512_S256x128_0_128))
      (v1 (Rect.unit (s := S256x512) ![0, 128] S256x128.size inb_S256x512_S256x128_0_128))
      (v2 (Rect.unit (s := S256x512) ![0, 128] S256x128.size inb_S256x512_S256x128_0_128))
      (v3 (Rect.unit (s := S256x512) ![0, 128] S256x128.size inb_S256x512_S256x128_0_128))
      (v4 (Rect.unit (s := S256x512) ![0, 128] S256x128.size inb_S256x512_S256x128_0_128))
      (v5 (Rect.unit (s := S256x512) ![0, 128] S256x128.size inb_S256x512_S256x128_0_128))
      (b (Rect.unit (s := S8x256x768) ![2, 0, 0] S1x256x256.size inb_S8x256x768_S1x256x256_2_0_0))
      (b (Rect.unit (s := S8x256x768) ![2, 0, 256] S1x256x256.size inb_S8x256x768_S1x256x256_2_0_256))
      (b (Rect.unit (s := S8x256x768) ![2, 0, 512] S1x256x256.size inb_S8x256x768_S1x256x256_2_0_512))
      (b (Rect.unit (s := S8x256x768) ![3, 0, 0] S1x256x256.size inb_S8x256x768_S1x256x256_3_0_0))
      (b (Rect.unit (s := S8x256x768) ![3, 0, 256] S1x256x256.size inb_S8x256x768_S1x256x256_3_0_256))
      (b (Rect.unit (s := S8x256x768) ![3, 0, 512] S1x256x256.size inb_S8x256x768_S1x256x256_3_0_512)))
    (pair f g (q (Rect.unit (s := S1024x512) ![0, 256] S1024x128.size inb_S1024x512_S1024x128_0_256))
      (k0 (Rect.unit (s := S256x512) ![0, 256] S256x128.size inb_S256x512_S256x128_0_256))
      (k1 (Rect.unit (s := S256x512) ![0, 256] S256x128.size inb_S256x512_S256x128_0_256))
      (k2 (Rect.unit (s := S256x512) ![0, 256] S256x128.size inb_S256x512_S256x128_0_256))
      (k3 (Rect.unit (s := S256x512) ![0, 256] S256x128.size inb_S256x512_S256x128_0_256))
      (k4 (Rect.unit (s := S256x512) ![0, 256] S256x128.size inb_S256x512_S256x128_0_256))
      (k5 (Rect.unit (s := S256x512) ![0, 256] S256x128.size inb_S256x512_S256x128_0_256))
      (v0 (Rect.unit (s := S256x512) ![0, 256] S256x128.size inb_S256x512_S256x128_0_256))
      (v1 (Rect.unit (s := S256x512) ![0, 256] S256x128.size inb_S256x512_S256x128_0_256))
      (v2 (Rect.unit (s := S256x512) ![0, 256] S256x128.size inb_S256x512_S256x128_0_256))
      (v3 (Rect.unit (s := S256x512) ![0, 256] S256x128.size inb_S256x512_S256x128_0_256))
      (v4 (Rect.unit (s := S256x512) ![0, 256] S256x128.size inb_S256x512_S256x128_0_256))
      (v5 (Rect.unit (s := S256x512) ![0, 256] S256x128.size inb_S256x512_S256x128_0_256))
      (b (Rect.unit (s := S8x256x768) ![4, 0, 0] S1x256x256.size inb_S8x256x768_S1x256x256_4_0_0))
      (b (Rect.unit (s := S8x256x768) ![4, 0, 256] S1x256x256.size inb_S8x256x768_S1x256x256_4_0_256))
      (b (Rect.unit (s := S8x256x768) ![4, 0, 512] S1x256x256.size inb_S8x256x768_S1x256x256_4_0_512))
      (b (Rect.unit (s := S8x256x768) ![5, 0, 0] S1x256x256.size inb_S8x256x768_S1x256x256_5_0_0))
      (b (Rect.unit (s := S8x256x768) ![5, 0, 256] S1x256x256.size inb_S8x256x768_S1x256x256_5_0_256))
      (b (Rect.unit (s := S8x256x768) ![5, 0, 512] S1x256x256.size inb_S8x256x768_S1x256x256_5_0_512)))
    (pair f g (q (Rect.unit (s := S1024x512) ![0, 384] S1024x128.size inb_S1024x512_S1024x128_0_384))
      (k0 (Rect.unit (s := S256x512) ![0, 384] S256x128.size inb_S256x512_S256x128_0_384))
      (k1 (Rect.unit (s := S256x512) ![0, 384] S256x128.size inb_S256x512_S256x128_0_384))
      (k2 (Rect.unit (s := S256x512) ![0, 384] S256x128.size inb_S256x512_S256x128_0_384))
      (k3 (Rect.unit (s := S256x512) ![0, 384] S256x128.size inb_S256x512_S256x128_0_384))
      (k4 (Rect.unit (s := S256x512) ![0, 384] S256x128.size inb_S256x512_S256x128_0_384))
      (k5 (Rect.unit (s := S256x512) ![0, 384] S256x128.size inb_S256x512_S256x128_0_384))
      (v0 (Rect.unit (s := S256x512) ![0, 384] S256x128.size inb_S256x512_S256x128_0_384))
      (v1 (Rect.unit (s := S256x512) ![0, 384] S256x128.size inb_S256x512_S256x128_0_384))
      (v2 (Rect.unit (s := S256x512) ![0, 384] S256x128.size inb_S256x512_S256x128_0_384))
      (v3 (Rect.unit (s := S256x512) ![0, 384] S256x128.size inb_S256x512_S256x128_0_384))
      (v4 (Rect.unit (s := S256x512) ![0, 384] S256x128.size inb_S256x512_S256x128_0_384))
      (v5 (Rect.unit (s := S256x512) ![0, 384] S256x128.size inb_S256x512_S256x128_0_384))
      (b (Rect.unit (s := S8x256x768) ![6, 0, 0] S1x256x256.size inb_S8x256x768_S1x256x256_6_0_0))
      (b (Rect.unit (s := S8x256x768) ![6, 0, 256] S1x256x256.size inb_S8x256x768_S1x256x256_6_0_256))
      (b (Rect.unit (s := S8x256x768) ![6, 0, 512] S1x256x256.size inb_S8x256x768_S1x256x256_6_0_512))
      (b (Rect.unit (s := S8x256x768) ![7, 0, 0] S1x256x256.size inb_S8x256x768_S1x256x256_7_0_0))
      (b (Rect.unit (s := S8x256x768) ![7, 0, 256] S1x256x256.size inb_S8x256x768_S1x256x256_7_0_256))
      (b (Rect.unit (s := S8x256x768) ![7, 0, 512] S1x256x256.size inb_S8x256x768_S1x256x256_7_0_512)))

/-- What a first step of a sequence makes of the scores of the first two parts of the keys. -/
def dropped {S : Shape} (ok : BitVec 1) (s : FVec F S .f32) : FVec F S .f32 :=
  Scalar.select ok s (broadcast S (Named.named κ "mask" 0xF149F2CA#32))

end Cert.Attn
-- ==== Proof.Attn.Bias.lean ====
/- The bias of the eight heads, as the first grid step builds it. -/
module

public import proofs.«01_k».proof.Proof.Attn.Pairs

@[expose] public section

noncomputable section

namespace Cert.Attn

open Idealize.SL Cert.KernelIdeal Cert.KernelIdeal.Facts₀ Cert.KernelIdeal.Facts Idealize.ShloMosaic

variable {F : FTy → Type} [FloatOps F] [Named F]

/-- The chunk of 64 positions a position lies in. -/
def chunk (x : IVec S256x768 32) : IVec S256x768 32 :=
  let d := divsi x (broadcast S256x768 (64#32))
  let sign := subi (extui 32 (cmpi .sgt x (broadcast S256x768 (0#32))) natLt_1_32)
    (extui 32 (cmpi .slt x (broadcast S256x768 (0#32))) natLt_1_32)
  let sign64 : BitVec 32 := Scalar.subi (Scalar.extui (Scalar.cmpi .sgt (64#32) (0#32))) (Scalar.extui (Scalar.cmpi .slt (64#32) (0#32)))
  select (andi (cmpi .ne sign (broadcast S256x768 sign64))
      (cmpi .ne (remsi x (broadcast S256x768 (64#32))) (broadcast S256x768 (0#32))))
    (subi d (broadcast S256x768 (1#32))) d

/-- The keys of a block's three parts that a query of the block sees: those of its own chunk and of the eight before. -/
def visible : IVec S256x768 1 :=
  let q := chunk (iota .tc S256x768 32 [0] iota_S256x768_d0_w32)
  let k := chunk (iota .tc S256x768 32 [1] iota_S256x768_d1_w32)
  andi (cmpi .sge k q) (cmpi .sle k (addi q (broadcast S256x768 (8#32))))

/-- The bias of one head from its diagonal, each row of a block turned by its number. -/
def biasRow (d : Vec F S1x1024 .f32) : FVec F S1x256x768 .f32 :=
  shapeCast S1x256x768
    (select visible
      (extractStridedSlice S256x768 ![0, 256]
        (dynamicRotate 1 (0#32) (some (1, 0))
          (broadcastTo S256x1024
            (shapeCast S1x1024
              (mulf (shapeCast S1x1024 d shapeCasts_S1x1024_S1x1024) (broadcast S1x1024 (Named.named κ "log2e" 0x3FB8AA3B#32)))
              shapeCasts_S1x1024_S1x1024) broadcasts_S1x1024_S256x1024) rotates_S256x1024_d1s1a0)
        slices_S256x1024_o0_256_S256x768)
      (broadcast S256x768 (Named.named κ "mask" 0xF149F2CA#32)))
    shapeCasts_S256x768_S1x256x768

/-- The eight stores that build the bias, the last first. -/
def biasPieces (d : Loads F S8x1024 .f32) : List (View.Piece (Elt F) S8x256x768 .f32) :=
  [⟨Rect.unit (s := S8x256x768) ![7, 0, 0] S1x256x768.size inb_S8x256x768_S1x256x768_7_0_0,
      biasRow (d (Rect.unit (s := S8x1024) ![7, 0] S1x1024.size inb_S8x1024_S1x1024_7_0))⟩,
    ⟨Rect.unit (s := S8x256x768) ![6, 0, 0] S1x256x768.size inb_S8x256x768_S1x256x768_6_0_0,
      biasRow (d (Rect.unit (s := S8x1024) ![6, 0] S1x1024.size inb_S8x1024_S1x1024_6_0))⟩,
    ⟨Rect.unit (s := S8x256x768) ![5, 0, 0] S1x256x768.size inb_S8x256x768_S1x256x768_5_0_0,
      biasRow (d (Rect.unit (s := S8x1024) ![5, 0] S1x1024.size inb_S8x1024_S1x1024_5_0))⟩,
    ⟨Rect.unit (s := S8x256x768) ![4, 0, 0] S1x256x768.size inb_S8x256x768_S1x256x768_4_0_0,
      biasRow (d (Rect.unit (s := S8x1024) ![4, 0] S1x1024.size inb_S8x1024_S1x1024_4_0))⟩,
    ⟨Rect.unit (s := S8x256x768) ![3, 0, 0] S1x256x768.size inb_S8x256x768_S1x256x768_3_0_0,
      biasRow (d (Rect.unit (s := S8x1024) ![3, 0] S1x1024.size inb_S8x1024_S1x1024_3_0))⟩,
    ⟨Rect.unit (s := S8x256x768) ![2, 0, 0] S1x256x768.size inb_S8x256x768_S1x256x768_2_0_0,
      biasRow (d (Rect.unit (s := S8x1024) ![2, 0] S1x1024.size inb_S8x1024_S1x1024_2_0))⟩,
    ⟨Rect.unit (s := S8x256x768) ![1, 0, 0] S1x256x768.size inb_S8x256x768_S1x256x768_1_0_0,
      biasRow (d (Rect.unit (s := S8x1024) ![1, 0] S1x1024.size inb_S8x1024_S1x1024_1_0))⟩,
    ⟨Rect.unit (s := S8x256x768) ![0, 0, 0] S1x256x768.size inb_S8x256x768_S1x256x768_0_0_0,
      biasRow (d (Rect.unit (s := S8x1024) ![0, 0] S1x1024.size inb_S8x1024_S1x1024_0_0))⟩]

end Cert.Attn
-- ==== Proof.Attn.Opened.lean ====
/- What the body of the kernel stores in each case of its grid points: the tile of the blocks it reads. -/
module

public import proofs.«01_k».proof.Proof.Launch.KernelIdeal.RunA
public import proofs.«01_k».proof.Proof.Launch.KernelIdeal.RunB
public import proofs.«01_k».proof.Proof.Launch.KernelIdeal.RunC
public import proofs.«01_k».proof.Proof.Attn.Bias

@[expose] public section

set_option maxRecDepth 16384

noncomputable section

namespace Cert.Attn

open Idealize.ShloMosaic Idealize.ShloMosaic.TcCoe Idealize.SL
open Cert.KernelIdeal Cert.KernelIdeal.Gen Cert.KernelIdeal.Facts₀ Cert.KernelIdeal.Facts

variable {F : FTy → Type} [FloatOps F] [Named F]

variable (c : Dev nD) (i : grid0.Coords) (arg2 : Memref sig .tc .vmem S1024x512 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x512 .bf16) (harg13 : arg13.IsWhole) (arg14 : Memref sig .tc .vmem S256x512 .bf16) (harg14 : arg14.IsWhole) (arg15 : Memref sig .tc .vmem S8x1024 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S8x256x768 .f32) (harg18 : arg18.IsWhole)
    (x0 : Vec F S1024x512 .f32) (x1 : Vec F S256x512 .bf16) (x2 : Vec F S256x512 .bf16) (x3 : Vec F S256x512 .bf16) (x4 : Vec F S256x512 .bf16) (x5 : Vec F S256x512 .bf16) (x6 : Vec F S256x512 .bf16) (x7 : Vec F S256x512 .bf16) (x8 : Vec F S256x512 .bf16) (x9 : Vec F S256x512 .bf16) (x10 : Vec F S256x512 .bf16) (x11 : Vec F S256x512 .bf16) (x12 : Vec F S256x512 .bf16) (x13 : Vec F S8x1024 .f32) (x14 : Vec F S1x512 .f32) (xs0 : Vec F S8x256x768 .f32)

/-- Whether a grid step is not the first of its sequence. -/
def later (i : grid0.Coords) : BitVec 1 := Scalar.cmpi .sge (BitVec.ofNat 32 (i 1).val) (1#32)

/-- The store of a step that is not the first of its sequence. -/
theorem stored_B (hc0 : ¬cond0_0 i) (hc1 : cond0_1 i) (hc2 : ¬cond0_2 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 xs0).1 =
      [⟨Rect.unit ![0, 0] S1024x512.size Gen.inb_S1024x512_S1024x512_0_0,
        tile id id (loads x0) (loads x1) (loads x2) (loads x3) (loads x4) (loads x5) (loads x6) (loads x7) (loads x8) (loads x9) (loads x10) (loads x11) (loads x12) (loads x14) (loads xs0)⟩] := by
  have e : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 xs0).1 =
      [⟨Rect.unit ![0, 0] S1024x512.size Gen.inb_S1024x512_S1024x512_0_0,
        tile id id (fun r => View.readAt (Elt F) arg2.view r.toLoadRect (harg2.unread x0)) (fun r => View.readAt (Elt F) arg3.view r.toLoadRect (harg3.unread x1)) (fun r => View.readAt (Elt F) arg4.view r.toLoadRect (harg4.unread x2)) (fun r => View.readAt (Elt F) arg5.view r.toLoadRect (harg5.unread x3)) (fun r => View.readAt (Elt F) arg6.view r.toLoadRect (harg6.unread x4)) (fun r => View.readAt (Elt F) arg7.view r.toLoadRect (harg7.unread x5)) (fun r => View.readAt (Elt F) arg8.view r.toLoadRect (harg8.unread x6)) (fun r => View.readAt (Elt F) arg9.view r.toLoadRect (harg9.unread x7)) (fun r => View.readAt (Elt F) arg10.view r.toLoadRect (harg10.unread x8)) (fun r => View.readAt (Elt F) arg11.view r.toLoadRect (harg11.unread x9)) (fun r => View.readAt (Elt F) arg12.view r.toLoadRect (harg12.unread x10)) (fun r => View.readAt (Elt F) arg13.view r.toLoadRect (harg13.unread x11)) (fun r => View.readAt (Elt F) arg14.view r.toLoadRect (harg14.unread x12)) (fun r => View.readAt (Elt F) arg16.view r.toLoadRect (harg16.unread x14)) (fun r => View.readAt (Elt F) arg18.view r.toLoadRect (harg18.unread xs0))⟩] := rfl
  rw [e]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread, harg16.read_unread, harg18.read_unread]
  rfl

/-- The store of the first step of a sequence that finds the bias built. -/
theorem stored_C (hc0 : ¬cond0_0 i) (hc1 : ¬cond0_1 i) (hc2 : cond0_2 i) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 xs0).1 =
      [⟨Rect.unit ![0, 0] S1024x512.size Gen.inb_S1024x512_S1024x512_0_0,
        tile (dropped (later i)) (dropped (later i)) (loads x0) (loads x1) (loads x2) (loads x3) (loads x4) (loads x5) (loads x6) (loads x7) (loads x8) (loads x9) (loads x10) (loads x11) (loads x12) (loads x14) (loads xs0)⟩] := by
  have e : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 xs0).1 =
      [⟨Rect.unit ![0, 0] S1024x512.size Gen.inb_S1024x512_S1024x512_0_0,
        tile (dropped (later i)) (dropped (later i)) (fun r => View.readAt (Elt F) arg2.view r.toLoadRect (harg2.unread x0)) (fun r => View.readAt (Elt F) arg3.view r.toLoadRect (harg3.unread x1)) (fun r => View.readAt (Elt F) arg4.view r.toLoadRect (harg4.unread x2)) (fun r => View.readAt (Elt F) arg5.view r.toLoadRect (harg5.unread x3)) (fun r => View.readAt (Elt F) arg6.view r.toLoadRect (harg6.unread x4)) (fun r => View.readAt (Elt F) arg7.view r.toLoadRect (harg7.unread x5)) (fun r => View.readAt (Elt F) arg8.view r.toLoadRect (harg8.unread x6)) (fun r => View.readAt (Elt F) arg9.view r.toLoadRect (harg9.unread x7)) (fun r => View.readAt (Elt F) arg10.view r.toLoadRect (harg10.unread x8)) (fun r => View.readAt (Elt F) arg11.view r.toLoadRect (harg11.unread x9)) (fun r => View.readAt (Elt F) arg12.view r.toLoadRect (harg12.unread x10)) (fun r => View.readAt (Elt F) arg13.view r.toLoadRect (harg13.unread x11)) (fun r => View.readAt (Elt F) arg14.view r.toLoadRect (harg14.unread x12)) (fun r => View.readAt (Elt F) arg16.view r.toLoadRect (harg16.unread x14)) (fun r => View.readAt (Elt F) arg18.view r.toLoadRect (harg18.unread xs0))⟩] := rfl
  rw [e]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread, harg16.read_unread, harg18.read_unread]
  rfl

/-- The stores of the step that builds the bias, into the bias. -/
theorem built_A (hc0 : cond0_0 i) (hc1 : ¬cond0_1 i) (hc2 : cond0_2 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14).2.1 = biasPieces (loads x13) := by
  have e : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14).2.1 = biasPieces (fun r => View.readAt (Elt F) arg15.view r.toLoadRect (harg15.unread x13)) := rfl
  rw [e]
  simp only [View.readAt_eq_ld, harg15.read_unread]
  rfl

/-- The store of the step that builds the bias. -/
theorem stored_A (hc0 : cond0_0 i) (hc1 : ¬cond0_1 i) (hc2 : cond0_2 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14).1 =
      [⟨Rect.unit ![0, 0] S1024x512.size Gen.inb_S1024x512_S1024x512_0_0,
        tile (dropped (later i)) (dropped (later i)) (loads x0) (loads x1) (loads x2) (loads x3) (loads x4) (loads x5) (loads x6) (loads x7) (loads x8) (loads x9) (loads x10) (loads x11) (loads x12) (loads x14)
          (fun r => arg18.view.readCov (biasPieces (loads x13)) r.toLoadRect)⟩] := by
  have e : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14).1 =
      [⟨Rect.unit ![0, 0] S1024x512.size Gen.inb_S1024x512_S1024x512_0_0,
        tile (dropped (later i)) (dropped (later i)) (fun r => View.readAt (Elt F) arg2.view r.toLoadRect (harg2.unread x0)) (fun r => View.readAt (Elt F) arg3.view r.toLoadRect (harg3.unread x1)) (fun r => View.readAt (Elt F) arg4.view r.toLoadRect (harg4.unread x2)) (fun r => View.readAt (Elt F) arg5.view r.toLoadRect (harg5.unread x3)) (fun r => View.readAt (Elt F) arg6.view r.toLoadRect (harg6.unread x4)) (fun r => View.readAt (Elt F) arg7.view r.toLoadRect (harg7.unread x5)) (fun r => View.readAt (Elt F) arg8.view r.toLoadRect (harg8.unread x6)) (fun r => View.readAt (Elt F) arg9.view r.toLoadRect (harg9.unread x7)) (fun r => View.readAt (Elt F) arg10.view r.toLoadRect (harg10.unread x8)) (fun r => View.readAt (Elt F) arg11.view r.toLoadRect (harg11.unread x9)) (fun r => View.readAt (Elt F) arg12.view r.toLoadRect (harg12.unread x10)) (fun r => View.readAt (Elt F) arg13.view r.toLoadRect (harg13.unread x11)) (fun r => View.readAt (Elt F) arg14.view r.toLoadRect (harg14.unread x12)) (fun r => View.readAt (Elt F) arg16.view r.toLoadRect (harg16.unread x14))
          (fun r => arg18.view.readCov (biasPieces (fun r => View.readAt (Elt F) arg15.view r.toLoadRect (harg15.unread x13))) r.toLoadRect)⟩] := rfl
  rw [e]
  simp only [View.readAt_eq_ld, harg2.read_unread, harg3.read_unread, harg4.read_unread, harg5.read_unread, harg6.read_unread,
    harg7.read_unread, harg8.read_unread, harg9.read_unread, harg10.read_unread, harg11.read_unread, harg12.read_unread,
    harg13.read_unread, harg14.read_unread, harg15.read_unread, harg16.read_unread]
  rfl

end Cert.Attn
-- ==== Proof.Attn.Left.lean ====
/- What each case of the body leaves in the output and in the scratch: tiles of the blocks it reads. -/
module

public import proofs.«01_k».proof.Proof.Attn.Opened
public import proofs.«01_k».proof.Proof.Launch.KernelIdeal.Frame

@[expose] public section

set_option maxRecDepth 16384

noncomputable section

namespace Cert.Attn

open Idealize.ShloMosaic Idealize.ShloMosaic.TcCoe Idealize.SL
open Cert.KernelIdeal Cert.KernelIdeal.Gen Cert.KernelIdeal.Facts₀ Cert.KernelIdeal.Facts

variable {F : FTy → Type} [FloatOps F] [Named F]

/-- A rectangle's corner at the origin. -/
theorem origin2 : (![0, 0] : Fin 2 → ℕ) = fun _ => 0 := by decide

/-- The eight rows of the bias cover the scratch. -/
theorem bias_cover (d : Loads F S8x1024 .f32) (y : S8x256x768.Idx) : ∃ p ∈ biasPieces d, y ∈ p.1.set :=
  View.cover_of_tiledL (biasPieces d) S1x256x768.size rfl y

/-- The loads of the scratch the eight rows are stored in. -/
theorem bias_loads (d : Loads F S8x1024 .f32) (v : View sig .tc .vmem S8x256x768 .f32) :
    (fun r : Rect S8x256x768 => v.readCov (biasPieces d) r.toLoadRect) = loads (View.canon (biasPieces d)) := by
  funext r
  unfold loads
  rw [View.readCov_eq_canon_ld v (biasPieces d) r (bias_cover d)]

variable (c : Dev nD) (i : grid0.Coords) (arg2 : Memref sig .tc .vmem S1024x512 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x512 .bf16) (harg12 : arg12.IsWhole) (arg13 : Memref sig .tc .vmem S256x512 .bf16) (harg13 : arg13.IsWhole) (arg14 : Memref sig .tc .vmem S256x512 .bf16) (harg14 : arg14.IsWhole) (arg15 : Memref sig .tc .vmem S8x1024 .f32) (harg15 : arg15.IsWhole) (arg16 : Memref sig .tc .vmem S1x512 .f32) (harg16 : arg16.IsWhole) (arg17 : Memref sig .tc .vmem S1024x512 .bf16) (harg17 : arg17.IsWhole) (arg18 : Memref sig .tc .vmem S8x256x768 .f32) (harg18 : arg18.IsWhole)
    (x0 : Vec F S1024x512 .f32) (x1 : Vec F S256x512 .bf16) (x2 : Vec F S256x512 .bf16) (x3 : Vec F S256x512 .bf16) (x4 : Vec F S256x512 .bf16) (x5 : Vec F S256x512 .bf16) (x6 : Vec F S256x512 .bf16) (x7 : Vec F S256x512 .bf16) (x8 : Vec F S256x512 .bf16) (x9 : Vec F S256x512 .bf16) (x10 : Vec F S256x512 .bf16) (x11 : Vec F S256x512 .bf16) (x12 : Vec F S256x512 .bf16) (x13 : Vec F S8x1024 .f32) (x14 : Vec F S1x512 .f32) (xs0 : Vec F S8x256x768 .f32)

/-- The scratch after the step that builds the bias. -/
theorem scratch_A (hc0 : cond0_0 i) (hc1 : ¬cond0_1 i) (hc2 : cond0_2 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 = View.canon (biasPieces (loads x13)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14), built_A]

/-- The output of the step that builds the bias. -/
theorem out_A (hc0 : cond0_0 i) (hc1 : ¬cond0_1 i) (hc2 : cond0_2 i) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 =
      tile (dropped (later i)) (dropped (later i)) (loads x0) (loads x1) (loads x2) (loads x3) (loads x4) (loads x5) (loads x6) (loads x7) (loads x8) (loads x9) (loads x10) (loads x11) (loads x12) (loads x14) (loads (View.canon (biasPieces (loads x13)))) := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14), stored_A, View.canon_unit_zero origin2]
  rw [bias_loads]

/-- The scratch after a step that is not the first of its sequence. -/
theorem scratch_B (hc0 : ¬cond0_0 i) (hc1 : cond0_1 i) (hc2 : ¬cond0_2 i) : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 xs0 = xs0 := rfl

/-- The scratch after the first step of a later sequence. -/
theorem scratch_C (hc0 : ¬cond0_0 i) (hc1 : ¬cond0_1 i) (hc2 : cond0_2 i) : sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 xs0 = xs0 := rfl

/-- The output of a step that is not the first of its sequence. -/
theorem out_B (hc0 : ¬cond0_0 i) (hc1 : cond0_1 i) (hc2 : ¬cond0_2 i) :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 xs0 = tile id id (loads x0) (loads x1) (loads x2) (loads x3) (loads x4) (loads x5) (loads x6) (loads x7) (loads x8) (loads x9) (loads x10) (loads x11) (loads x12) (loads x14) (loads xs0) := by
  unfold out0_B_15
  rw [View.read_writes_eq_canon _ _ _ (cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 xs0), stored_B, View.canon_unit_zero origin2]

/-- The output of the first step of a later sequence. -/
theorem out_C (hc0 : ¬cond0_0 i) (hc1 : ¬cond0_1 i) (hc2 : cond0_2 i) :
    out0_C_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 xs0 = tile (dropped (later i)) (dropped (later i)) (loads x0) (loads x1) (loads x2) (loads x3) (loads x4) (loads x5) (loads x6) (loads x7) (loads x8) (loads x9) (loads x10) (loads x11) (loads x12) (loads x14) (loads xs0) := by
  unfold out0_C_15
  rw [View.read_writes_eq_canon _ _ _ (cover0_C_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 xs0), stored_C, View.canon_unit_zero origin2]

end Cert.Attn
-- ==== Proof.Attn.BiasValue.lean ====
/- The bias of the eight heads at an element. -/
module

public import proofs.«01_k».proof.Proof.Attn.Bias
public import Idealize.ShloMosaic.Lib.Pointwise

@[expose] public section

set_option maxRecDepth 16384

noncomputable section

namespace Cert.Attn

open Idealize.SL Cert.KernelIdeal Cert.KernelIdeal.Facts₀ Cert.KernelIdeal.Facts Idealize.ShloMosaic Idealize.ShloMosaic.Pointwise

/-- The chunk of 64 positions of one position, in the body's words. -/
def chunkWord (n : ℕ) : BitVec 32 :=
  Scalar.select
    (IntOp.andi
      (IntOp.cmpi CmpIPredicate.ne
        (IntOp.subi (BitVec.setWidth 32 (IntOp.cmpi CmpIPredicate.sgt (BitVec.ofNat 32 n) 0#32))
          (BitVec.setWidth 32 (IntOp.cmpi CmpIPredicate.slt (BitVec.ofNat 32 n) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 n) 64#32) 0#32))
    (IntOp.subi (IntOp.divsi ArithUnit.vector (BitVec.ofNat 32 n) 64#32) 1#32)
    (IntOp.divsi ArithUnit.vector (BitVec.ofNat 32 n) 64#32)

/-- It is the quotient by 64. -/
theorem chunkWord_eq : ∀ n : Fin 768, chunkWord n.val = BitVec.ofNat 32 (n.val / 64) := by decide +kernel

/-- The comparison of two chunks. -/
theorem chunk_compare : ∀ (a : Fin 12) (b : Fin 4),
    IntOp.andi (IntOp.cmpi CmpIPredicate.sge (BitVec.ofNat 32 a.val) (BitVec.ofNat 32 b.val))
        (IntOp.cmpi CmpIPredicate.sle (BitVec.ofNat 32 a.val) (IntOp.addi (BitVec.ofNat 32 b.val) 8#32))
      = if b.val ≤ a.val ∧ a.val ≤ b.val + 8 then 1#1 else 0#1 := by decide +kernel

/-- A query of a block sees the keys of its own chunk and of the eight before it. -/
theorem visible_apply (r : Fin 256) (k : Fin 768) :
    visible (ix2 r k) = if r.val / 64 ≤ k.val / 64 ∧ k.val / 64 ≤ r.val / 64 + 8 then 1#1 else 0#1 := by
  have e : visible (ix2 r k)
      = IntOp.andi (IntOp.cmpi CmpIPredicate.sge (chunkWord k.val) (chunkWord r.val))
          (IntOp.cmpi CmpIPredicate.sle (chunkWord k.val) (IntOp.addi (chunkWord r.val) 8#32)) := by
    unfold visible chunk
    pointwise []
    rfl
  rw [e, chunkWord_eq k, chunkWord_eq ⟨r.val, by omega⟩]
  exact chunk_compare ⟨k.val / 64, by omega⟩ ⟨r.val / 64, by omega⟩

/-- The bias of one head at an element: the diagonal's entry times `1 / log 2` at a key that is seen, else `⊥`. -/
theorem biasRow_apply (d : Vec Ideal S1x1024 .f32) (r : Fin 256) (k : Fin 768) :
    biasRow d (ix3 0 r k)
      = if r.val / 64 ≤ k.val / 64 ∧ k.val / 64 ≤ r.val / 64 + 8 then
          d (ix2 0 ⟨(256 + k.val + 1024 - r.val) % 1024, by omega⟩) * (((Real.log 2)⁻¹ : ℝ) : EReal) else ⊥ := by
  have e : biasRow d (ix3 0 r k) = Scalar.select (visible (ix2 r k))
      (d (ix2 0 ⟨(256 + k.val + 1024 - r.val % 1024) % 1024, by omega⟩) * (Named.named κ "log2e" 1069066811#32 : Ideal .f32))
      (Named.named κ "mask" 4048155338#32 : Ideal .f32) := by
    unfold biasRow
    pointwise []
  rw [e, visible_apply]
  have hr : r.val % 1024 = r.val := by omega
  simp only [hr]
  split_ifs with h
  · rfl
  · rfl

end Cert.Attn
-- ==== Proof.Attn.Accum.lean ====
/- The sums one head accumulates, read at an element: row `256 t + r` of the tile weighs three parts of the keys. -/
module

public import proofs.«01_k».proof.Proof.Attn.Tile
public import Idealize.ShloMosaic.Lib.Pointwise

@[expose] public section

set_option maxRecDepth 16384

noncomputable section

namespace Cert.Attn

open Cert.KernelIdeal Cert.KernelIdeal.Facts₀ Cert.KernelIdeal.Facts Idealize.ShloMosaic Idealize.ShloMosaic.Pointwise

/-- The greatest of the scores of three parts of the keys. -/
def top3 (s : Fin 3 → Fin 256 → EReal) : EReal := Finset.univ.sup fun p => Finset.univ.sup (s p)

/-- The greatest score is at most a bound when every score is. -/
theorem top3_le_iff (s : Fin 3 → Fin 256 → EReal) (x : EReal) : top3 s ≤ x ↔ ∀ p k, s p k ≤ x := by
  simp [top3, Finset.sup_le_iff]

/-- The values of three parts of the keys weighted by powers of two of the scores less the greatest. -/
def acc3 (s v : Fin 3 → Fin 256 → EReal) : EReal := ∑ p, ∑ k, Ideal.exp2 (s p k - top3 s) * v p k

/-- The kernel's row maximum is the greatest of the scores. -/
theorem rowMax3_apply (a b c : FVec Ideal S256x256 .f32) (r : Fin 256) (z : Fin 1) :
    rowMax3 a b c (ix2 r z) = top3 ![fun k => a (ix2 r k), fun k => b (ix2 r k), fun k => c (ix2 r k)] := by
  pointwise [rowMax3]
  refine eq_of_forall_ge_iff fun x => ?_
  rw [top3_le_iff, Finset.fold_max_le]
  have hb : Ideal.ofBits FTy.f32 4286578688#32 ≤ x := by
    have : Ideal.ofBits FTy.f32 4286578688#32 = ⊥ := by simp [Ideal.ofBits, Ideal.ieee]
    rw [this]; exact bot_le
  have split : ∀ k : Fin 256, (∃ y : Fin 128, k = ⟨y.val, by omega⟩) ∨ (∃ y : Fin 128, k = ⟨128 + y.val, by omega⟩) := by
    intro k
    by_cases h : k.val < 128
    · exact .inl ⟨⟨k.val, h⟩, rfl⟩
    · exact .inr ⟨⟨k.val - 128, by omega⟩, Fin.ext (by simp; omega)⟩
  constructor
  · rintro ⟨-, h⟩ p k
    rcases split k with ⟨y, rfl⟩ | ⟨y, rfl⟩ <;> have := h y (Finset.mem_univ _) <;> simp only [max_le_iff] at this <;>
      obtain ⟨⟨⟨⟨⟨h1, h2⟩, h3⟩, h4⟩, h5⟩, h6⟩ := this <;> match p with
        | 0 => assumption
        | 1 => assumption
        | 2 => assumption
  · intro h
    refine ⟨hb, fun y _ => ?_⟩
    simp only [max_le_iff]
    exact ⟨⟨⟨⟨⟨h 0 _, h 0 _⟩, h 1 _⟩, h 1 _⟩, h 2 _⟩, h 2 _⟩

/-- Weighted values, 256 rows, at an element. -/
theorem weigh1_apply (s : FVec Ideal S256x256 .f32) (m : FVec Ideal S256x1 .f32) (v : FVec Ideal S256x128 .bf16)
    (r : Fin 256) (l : Fin 128) :
    weigh1 s m v (ix2 r l) = ∑ k : Fin 256, Ideal.exp2 (s (ix2 r k) - m (ix2 r 0)) * v (ix2 k l) := by
  pointwise [weigh1]
  rfl

/-- Weighted values, 512 rows, at an element. -/
theorem weigh2_apply (s : FVec Ideal S512x256 .f32) (m n : FVec Ideal S256x1 .f32) (v : FVec Ideal S256x128 .bf16)
    (r : Fin 256) (l : Fin 128) :
    weigh2 s m n v (ix2 ⟨r.val, by omega⟩ l)
        = ∑ k : Fin 256, Ideal.exp2 (s (ix2 ⟨r.val, by omega⟩ k) - m (ix2 r 0)) * v (ix2 k l)
      ∧ weigh2 s m n v (ix2 ⟨256 + r.val, by omega⟩ l)
        = ∑ k : Fin 256, Ideal.exp2 (s (ix2 ⟨256 + r.val, by omega⟩ k) - n (ix2 r 0)) * v (ix2 k l) := by
  have h := r.isLt
  constructor <;> pointwise [weigh2] <;> rfl

/-- Weighted values, 768 rows, at an element. -/
theorem weigh3_apply (s : FVec Ideal S768x256 .f32) (m n o : FVec Ideal S256x1 .f32) (v : FVec Ideal S256x128 .bf16)
    (r : Fin 256) (l : Fin 128) :
    weigh3 s m n o v (ix2 ⟨r.val, by omega⟩ l)
        = ∑ k : Fin 256, Ideal.exp2 (s (ix2 ⟨r.val, by omega⟩ k) - m (ix2 r 0)) * v (ix2 k l)
      ∧ weigh3 s m n o v (ix2 ⟨256 + r.val, by omega⟩ l)
        = ∑ k : Fin 256, Ideal.exp2 (s (ix2 ⟨256 + r.val, by omega⟩ k) - n (ix2 r 0)) * v (ix2 k l)
      ∧ weigh3 s m n o v (ix2 ⟨512 + r.val, by omega⟩ l)
        = ∑ k : Fin 256, Ideal.exp2 (s (ix2 ⟨512 + r.val, by omega⟩ k) - o (ix2 r 0)) * v (ix2 k l) := by
  have h := r.isLt
  refine ⟨?_, ?_, ?_⟩ <;> pointwise [weigh3]
  · rfl
  · rfl
  · simp only [show ¬ 512 + r.val < 256 by omega, show ¬ 512 + r.val - 256 < 256 by omega, dif_neg, not_false_eq_true,
      show 512 + r.val - 256 - 256 = r.val by omega]
    rfl

variable (s0 : FVec Ideal S256x256 .f32) (s1 : FVec Ideal S512x256 .f32) (s2 s3 : FVec Ideal S768x256 .f32)
    (s4 : FVec Ideal S512x256 .f32) (s5 : FVec Ideal S256x256 .f32) (v0 v1 v2 v3 v4 v5 : FVec Ideal S256x128 .bf16)

/-- The first 256 rows weigh the parts 0, 1 and 2. -/
theorem accum_apply0 (r : Fin 256) (l : Fin 128) :
    accum s0 s1 s2 s3 s4 s5 v0 v1 v2 v3 v4 v5 (ix2 ⟨r.val, by omega⟩ l)
      = acc3 ![fun k => s0 (ix2 r k), fun k => s1 (ix2 ⟨r.val, by omega⟩ k), fun k => s2 (ix2 ⟨r.val, by omega⟩ k)]
          ![fun k => v0 (ix2 k l), fun k => v1 (ix2 k l), fun k => v2 (ix2 k l)] := by
  have h := r.isLt
  unfold accum
  pointwise []
  simp only [(weigh1_apply _ _ _ _ _), (weigh2_apply _ _ _ _ r l).1, (weigh3_apply _ _ _ _ _ r l).1, rowMax3_apply]
  pointwise [band2, band3]
  rw [acc3, Fin.sum_univ_three]
  simp

/-- The second 256 rows weigh the parts 1, 2 and 3. -/
theorem accum_apply1 (r : Fin 256) (l : Fin 128) :
    accum s0 s1 s2 s3 s4 s5 v0 v1 v2 v3 v4 v5 (ix2 ⟨256 + r.val, by omega⟩ l)
      = acc3 ![fun k => s1 (ix2 ⟨256 + r.val, by omega⟩ k), fun k => s2 (ix2 ⟨256 + r.val, by omega⟩ k),
            fun k => s3 (ix2 ⟨r.val, by omega⟩ k)]
          ![fun k => v1 (ix2 k l), fun k => v2 (ix2 k l), fun k => v3 (ix2 k l)] := by
  have h := r.isLt
  unfold accum
  pointwise []
  simp only [(weigh2_apply _ _ _ _ r l).2, (weigh3_apply _ _ _ _ _ r l).1, (weigh3_apply _ _ _ _ _ r l).2.1, rowMax3_apply]
  pointwise [band2, band3]
  rw [acc3, Fin.sum_univ_three]
  simp

/-- The third 256 rows weigh the parts 2, 3 and 4. -/
theorem accum_apply2 (r : Fin 256) (l : Fin 128) :
    accum s0 s1 s2 s3 s4 s5 v0 v1 v2 v3 v4 v5 (ix2 ⟨512 + r.val, by omega⟩ l)
      = acc3 ![fun k => s2 (ix2 ⟨512 + r.val, by omega⟩ k), fun k => s3 (ix2 ⟨256 + r.val, by omega⟩ k),
            fun k => s4 (ix2 ⟨r.val, by omega⟩ k)]
          ![fun k => v2 (ix2 k l), fun k => v3 (ix2 k l), fun k => v4 (ix2 k l)] := by
  have h := r.isLt
  unfold accum
  pointwise []
  simp only [show ¬ 512 + r.val < 256 by omega, show ¬ 512 + r.val - 256 < 256 by omega, dif_neg, not_false_eq_true,
    show 512 + r.val - 256 - 256 = r.val by omega, h, dif_pos, Fin.eta,
    (weigh2_apply _ _ _ _ r l).1, (weigh3_apply _ _ _ _ _ r l).2.2, (weigh3_apply _ _ _ _ _ r l).2.1, rowMax3_apply]
  pointwise [band2, band3]
  rw [acc3, Fin.sum_univ_three]
  simp

/-- The last 256 rows weigh the parts 3, 4 and 5. -/
theorem accum_apply3 (r : Fin 256) (l : Fin 128) :
    accum s0 s1 s2 s3 s4 s5 v0 v1 v2 v3 v4 v5 (ix2 ⟨768 + r.val, by omega⟩ l)
      = acc3 ![fun k => s3 (ix2 ⟨512 + r.val, by omega⟩ k), fun k => s4 (ix2 ⟨256 + r.val, by omega⟩ k),
            fun k => s5 (ix2 r k)]
          ![fun k => v3 (ix2 k l), fun k => v4 (ix2 k l), fun k => v5 (ix2 k l)] := by
  have h := r.isLt
  unfold accum
  pointwise []
  simp only [show ¬ 768 + r.val < 256 by omega, show ¬ 768 + r.val - 256 < 256 by omega,
    show ¬ 768 + r.val - 256 - 256 < 256 by omega, dif_neg, not_false_eq_true,
    show 768 + r.val - 256 - 256 - 256 = r.val by omega, Fin.eta, weigh1_apply,
    (weigh2_apply _ _ _ _ r l).2, (weigh3_apply _ _ _ _ _ r l).2.2, rowMax3_apply]
  pointwise [band2, band3]
  rw [acc3, Fin.sum_univ_three]
  simp

end Cert.Attn

end
-- ==== Proof.Attn.Head.lean ====
/- One head of the tile at an element: what the scores and the weighted values of a row are. -/
module

public import proofs.«01_k».proof.Proof.Attn.Accum

@[expose] public section

set_option maxRecDepth 16384

noncomputable section

namespace Cert.Attn

open Cert.KernelIdeal Cert.KernelIdeal.Facts₀ Cert.KernelIdeal.Facts Idealize.ShloMosaic Idealize.ShloMosaic.Pointwise

/-- The six parts of the keys (or of the values) of a tile as one family. -/
def six {α : Type} (a b c d e f : α) : ℕ → α
  | 0 => a | 1 => b | 2 => c | 3 => d | 4 => e | _ => f

/-- The three blocks of a head's bias as one family. -/
def three {α : Type} (a b c : α) : ℕ → α
  | 0 => a | 1 => b | _ => c

/-- Row `r` of part `t` of the block of query rows. -/
abbrev rowOf (t : Fin 4) (r : Fin 256) : Fin 1024 := ⟨256 * t.val + r.val, by have := t.isLt; have := r.isLt; omega⟩

variable (f : FVec Ideal S256x256 .f32 → FVec Ideal S256x256 .f32) (g : FVec Ideal S512x256 .f32 → FVec Ideal S512x256 .f32)
  (φ : EReal → EReal) (keep : IVec S1x128 1) (q : Vec Ideal S1024x128 .f32)
  (k0 k1 k2 k3 k4 k5 v0 v1 v2 v3 v4 v5 : FVec Ideal S256x128 .bf16) (b0 b1 b2 : Vec Ideal S1x256x256 .f32)

/-- The score of row `256 t + r` against key `k` of its part `p`: the product over the pair's lanes and the bias, the
    first two parts of the keys as `φ` has them. -/
def scoreAt (t r p k : ℕ) (hr : 256 * t + r < 1024) (hk : k < 256) (hq : r < 256) : EReal :=
  (if t + p < 2 then φ else id)
    (∑ x : Fin 128, qhalf keep q (ix2 ⟨256 * t + r, hr⟩ x) * six k0 k1 k2 k3 k4 k5 (t + p) (ix2 ⟨k, hk⟩ x)
      + three b0 b1 b2 p (ix3 0 ⟨r, hq⟩ ⟨k, hk⟩))

/-- One head of a pair at an element of its tile. -/
theorem head_apply (hf : ∀ s r k, f s (ix2 r k) = φ (s (ix2 r k))) (hg : ∀ s r k, g s (ix2 r k) = φ (s (ix2 r k)))
    (t : Fin 4) (r : Fin 256) (l : Fin 128) :
    head f g keep q k0 k1 k2 k3 k4 k5 v0 v1 v2 v3 v4 v5 b0 b1 b2 (ix2 (rowOf t r) l)
      = acc3 (fun p k => scoreAt φ keep q k0 k1 k2 k3 k4 k5 b0 b1 b2 t.val r.val p.val k.val (by omega) k.isLt r.isLt)
          (fun p k => vhalf keep (six v0 v1 v2 v3 v4 v5 (t.val + p.val)) (ix2 k l)) := by
  have h := r.isLt
  have n0 : ¬ 512 + r.val < 256 := by omega
  have n1 : ¬ 512 + r.val - 256 < 256 := by omega
  have e0 : 512 + r.val - 256 - 256 = r.val := by omega
  have e1 : 256 + (256 + r.val) = 512 + r.val := by omega
  have e2 : 256 + (512 + r.val) = 768 + r.val := by omega
  have e3 : 512 + (256 + r.val) = 768 + r.val := by omega
  unfold head
  fin_cases t
  · have e : (ix2 ⟨256 * (⟨0, by omega⟩ : Fin 4).val + r.val, by show 256 * 0 + r.val < 1024; omega⟩ l : S1024x128.Idx) = ix2 ⟨r.val, by omega⟩ l := by
      congr 1; exact Fin.ext (by simp)
    refine (congrArg _ e).trans ?_
    rw [accum_apply0]
    congr 1 <;> funext p k <;> fin_cases p
    · show f _ _ = _
      rw [hf]; unfold score1 bm scoreAt; pointwise []; simp [six, three, n0, n1, e0, e1, e2, e3]
    · show g _ _ = _
      rw [hg]; unfold score2 bm scoreAt; pointwise []; simp [six, three, n0, n1, e0, e1, e2, e3]
    · show score3 _ _ _ _ _ _ _ _ = _
      unfold score3 bm scoreAt; pointwise []; simp [six, three, n0, n1, e0, e1, e2, e3]
    · rfl
    · rfl
    · rfl
  · have e : (ix2 ⟨256 * (⟨1, by omega⟩ : Fin 4).val + r.val, by show 256 * 1 + r.val < 1024; omega⟩ l : S1024x128.Idx) = ix2 ⟨256 + r.val, by omega⟩ l := by
      congr 1
    refine (congrArg _ e).trans ?_
    rw [accum_apply1]
    congr 1 <;> funext p k <;> fin_cases p
    · show g _ _ = _
      rw [hg]; unfold score2 bm scoreAt; pointwise []; simp [six, three, n0, n1, e0, e1, e2, e3]
    · show score3 _ _ _ _ _ _ _ _ = _
      unfold score3 bm scoreAt; pointwise []; simp [six, three, n0, n1, e0, e1, e2, e3]
    · show score3 _ _ _ _ _ _ _ _ = _
      unfold score3 bm scoreAt; pointwise []; simp [six, three, n0, n1, e0, e1, e2, e3]
    · rfl
    · rfl
    · rfl
  · have e : (ix2 ⟨256 * (⟨2, by omega⟩ : Fin 4).val + r.val, by show 256 * 2 + r.val < 1024; omega⟩ l : S1024x128.Idx) = ix2 ⟨512 + r.val, by omega⟩ l := by
      congr 1
    refine (congrArg _ e).trans ?_
    rw [accum_apply2]
    congr 1 <;> funext p k <;> fin_cases p
    · show score3 _ _ _ _ _ _ _ _ = _
      unfold score3 bm scoreAt; pointwise []; simp [six, three, n0, n1, e0, e1, e2, e3]
    · show score3 _ _ _ _ _ _ _ _ = _
      unfold score3 bm scoreAt; pointwise []; simp [six, three, n0, n1, e0, e1, e2, e3]
    · show score2 _ _ _ _ _ _ _ = _
      unfold score2 bm scoreAt; pointwise []; simp [six, three, n0, n1, e0, e1, e2, e3]
    · rfl
    · rfl
    · rfl
  · have e : (ix2 ⟨256 * (⟨3, by omega⟩ : Fin 4).val + r.val, by show 256 * 3 + r.val < 1024; omega⟩ l : S1024x128.Idx) = ix2 ⟨768 + r.val, by omega⟩ l := by
      congr 1
    refine (congrArg _ e).trans ?_
    rw [accum_apply3]
    congr 1 <;> funext p k <;> fin_cases p
    · show score3 _ _ _ _ _ _ _ _ = _
      unfold score3 bm scoreAt; pointwise []; simp [six, three, n0, n1, e0, e1, e2, e3]
    · show score2 _ _ _ _ _ _ _ = _
      unfold score2 bm scoreAt; pointwise []; simp [six, three, n0, n1, e0, e1, e2, e3]
    · show score1 _ _ _ _ _ _ = _
      unfold score1 bm scoreAt; pointwise []; simp [six, three, n0, n1, e0, e1, e2, e3]
    · rfl
    · rfl
    · rfl

end Cert.Attn

end
-- ==== Proof.Attn.Softmax.lean ====
/- The weighted mean of the values: weights that are powers of two of scaled scores over three parts of the keys, divided
   out at the end, against the softmax over the 576 keys of a row's window. -/
module

public import proofs.«01_k».proof.Proof.Attn.Accum

@[expose] public section

noncomputable section

namespace Cert.Attn

open Idealize.ShloMosaic

/-- The factor of a nonnegative real comes out of a sum. -/
theorem sum_mul_coe {ι : Type} (t : Finset ι) (f : ι → EReal) (x : ℝ) (hx : 0 ≤ x) :
    (∑ i ∈ t, f i) * (x : EReal) = ∑ i ∈ t, f i * (x : EReal) := by
  classical
  induction t using Finset.induction_on with
  | empty => simp
  | insert a t ha ih =>
    rw [Finset.sum_insert ha, Finset.sum_insert ha,
      EReal.right_distrib_of_nonneg_of_ne_top (by exact_mod_cast hx) (EReal.coe_ne_top x), ih]

/-- The extended real of a sum of reals is the sum of the extended reals. -/
theorem coe_sum_real {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A function over three parts of 256 keys that vanishes outside a window sums to its sum over the window. -/
theorem sum_parts (f : ℕ → EReal) (c : ℕ) (hc : c ≤ 192) (h0 : ∀ n, n < c → f n = 0) (h1 : ∀ n, c + 576 ≤ n → f n = 0) :
    ∑ p : Fin 3, ∑ k : Fin 256, f (256 * p.val + k.val) = ∑ k : Fin 576, f (c + k.val) := by
  have e : ∀ n : ℕ, ∑ k : Fin 256, f (n + k.val) = ∑ k ∈ Finset.range 256, f (n + k) :=
    fun n => Fin.sum_univ_eq_sum_range (fun k => f (n + k)) 256
  rw [Fin.sum_univ_three, Fin.sum_univ_eq_sum_range (fun k => f (c + k)) 576]
  have l : ∑ k ∈ Finset.range 768, f k = ∑ k ∈ Finset.range 256, f k + ∑ k ∈ Finset.range 256, f (256 + k)
      + ∑ k ∈ Finset.range 256, f (512 + k) := by
    rw [show (768 : ℕ) = 256 + 256 + 256 from rfl, Finset.sum_range_add, Finset.sum_range_add]
  have r : ∑ k ∈ Finset.range 768, f k = ∑ k ∈ Finset.range c, f k + ∑ k ∈ Finset.range 576, f (c + k)
      + ∑ k ∈ Finset.range (192 - c), f (c + 576 + k) := by
    rw [show (768 : ℕ) = c + 576 + (192 - c) by omega, Finset.sum_range_add, Finset.sum_range_add]
  rw [Finset.sum_eq_zero (s := Finset.range c) (fun n hn => h0 n (Finset.mem_range.1 hn)),
    Finset.sum_eq_zero (s := Finset.range (192 - c)) (fun n _ => h1 _ (by omega)), zero_add, add_zero] at r
  rw [← r, l]
  have e0 := e 0; have e1 := e 256; have e2 := e 512
  simp only [zero_add] at e0
  rw [← e0, ← e1, ← e2]
  congr 1 <;> simp

/-- Powers of two of scores scaled by the reciprocal of `log 2` are exponentials of the scores. -/
theorem exp2_scaled (x y : ℝ) :
    Ideal.exp2 ((((Real.log 2)⁻¹ : ℝ) : EReal) * (x : EReal) - (((Real.log 2)⁻¹ : ℝ) : EReal) * (y : EReal)) = ((Real.exp (x - y) : ℝ) : EReal) := by
  rw [← EReal.coe_mul, ← EReal.coe_mul, ← EReal.coe_sub, Ideal.exp2_coe]
  congr 1
  rw [Real.rpow_eq_pow, Real.rpow_def_of_pos (by norm_num)]
  congr 1
  have : Real.log 2 ≠ 0 := (Real.log_pos (by norm_num)).ne'
  field_simp

/-- Scores that are real or absent, not all absent: what the kernel's weights and sums give is the softmax's weighted
    sum of the values. -/
theorem softmax_parts (s : Fin 576 → EReal) (hs : ∀ k, s k = ⊥ ∨ ∃ x : ℝ, s k = x) (hex : ∃ k, s k ≠ ⊥)
    (c : ℕ) (hc : c ≤ 192) (w : Fin 3 → Fin 256 → EReal)
    (hin : ∀ (p : Fin 3) (k : Fin 256) (kk : Fin 576), 256 * p.val + k.val = c + kk.val → w p k = (((Real.log 2)⁻¹ : ℝ) : EReal) * s kk)
    (hout : ∀ (p : Fin 3) (k : Fin 256), (256 * p.val + k.val < c ∨ c + 576 ≤ 256 * p.val + k.val) → w p k = ⊥)
    (V : Fin 3 → Fin 256 → EReal) (U : Fin 576 → EReal)
    (hV : ∀ (p : Fin 3) (k : Fin 256) (kk : Fin 576), 256 * p.val + k.val = c + kk.val → s kk ≠ ⊥ → V p k = U kk) :
    Ideal.div (acc3 w V) (acc3 w fun _ _ => 1)
      = ∑ kk, Ideal.div (Ideal.exp (s kk - Finset.univ.sup s)) (∑ j, Ideal.exp (s j - Finset.univ.sup s)) * U kk := by
  obtain ⟨k1, hk1⟩ := hex
  obtain ⟨k0, -, hk0⟩ := Finset.exists_mem_eq_sup Finset.univ ⟨k1, Finset.mem_univ _⟩ s
  obtain ⟨μ, hμ⟩ : ∃ μ : ℝ, Finset.univ.sup s = μ := by
    rcases hs k0 with h | ⟨x, h⟩
    · exact absurd (le_bot_iff.1 (h ▸ hk0 ▸ Finset.le_sup (f := s) (Finset.mem_univ k1))) hk1
    · exact ⟨x, hk0.trans h⟩
  have hlog : (0 : ℝ) < (Real.log 2)⁻¹ := inv_pos.2 (Real.log_pos (by norm_num))
  have hκb : (((Real.log 2)⁻¹ : ℝ) : EReal) * ⊥ = ⊥ := EReal.coe_mul_bot_of_pos hlog
  -- where a key of the window lies among the parts
  have at_ : ∀ kk : Fin 576, ∃ (p : Fin 3) (k : Fin 256), 256 * p.val + k.val = c + kk.val := fun kk =>
    ⟨⟨(c + kk.val) / 256, by omega⟩, ⟨(c + kk.val) % 256, by omega⟩, by show 256 * ((c + kk.val) / 256) + (c + kk.val) % 256 = _; omega⟩
  -- the greatest scaled score
  have htop : top3 w = (((Real.log 2)⁻¹ : ℝ) : EReal) * (μ : EReal) := by
    refine le_antisymm ((top3_le_iff _ _).2 fun p k => ?_) ?_
    · by_cases hw : c ≤ 256 * p.val + k.val ∧ 256 * p.val + k.val < c + 576
      · rw [hin p k ⟨256 * p.val + k.val - c, by omega⟩ (by show _ = c + (256 * p.val + k.val - c); omega)]
        have hle : s ⟨256 * p.val + k.val - c, by omega⟩ ≤ μ := hμ ▸ Finset.le_sup (Finset.mem_univ _)
        exact mul_le_mul_of_nonneg_left hle (by exact_mod_cast hlog.le)
      · rw [hout p k (by omega)]; exact bot_le
    · obtain ⟨p, k, e⟩ := at_ k0
      have h := (top3_le_iff w _).1 le_rfl p k
      rwa [hin p k k0 e, ← hk0, hμ] at h
  -- the weights
  have hexp : ∀ kk, ∃ e : ℝ, 0 ≤ e ∧ Ideal.exp (s kk - (μ : EReal)) = e ∧ (s kk = ⊥ → e = 0) ∧ (s kk ≠ ⊥ → 0 < e)
      ∧ Ideal.exp2 ((((Real.log 2)⁻¹ : ℝ) : EReal) * s kk - (((Real.log 2)⁻¹ : ℝ) : EReal) * (μ : EReal)) = e := by
    intro kk
    rcases hs kk with h | ⟨x, h⟩
    · refine ⟨0, le_rfl, ?_, fun _ => rfl, fun h' => absurd h h', ?_⟩
      · rw [h, EReal.bot_sub]; simp
      · rw [h, hκb, EReal.bot_sub]; simp
    · refine ⟨Real.exp (x - μ), (Real.exp_pos _).le, ?_, fun h' => ?_, fun _ => Real.exp_pos _, ?_⟩
      · rw [h, ← EReal.coe_sub, Ideal.exp_coe]
      · rw [h] at h'; exact absurd h' (EReal.coe_ne_bot x)
      · rw [h]; exact exp2_scaled x μ
  choose e he0 heq hebot hepos hexp2 using hexp
  have hacc : ∀ (V : Fin 3 → Fin 256 → EReal) (U : Fin 576 → EReal),
      (∀ (p : Fin 3) (k : Fin 256) (kk : Fin 576), 256 * p.val + k.val = c + kk.val → s kk ≠ ⊥ → V p k = U kk) →
      acc3 w V = ∑ kk, (e kk : EReal) * U kk := by
    intro V U hV
    have key := sum_parts (fun n => if h : c ≤ n ∧ n < c + 576 then (e ⟨n - c, by omega⟩ : EReal) * U ⟨n - c, by omega⟩ else 0) c hc
      (fun n hn => dif_neg (by omega)) (fun n hn => dif_neg (by omega))
    have hr : ∀ k : Fin 576, (if h : c ≤ c + k.val ∧ c + k.val < c + 576 then (e ⟨c + k.val - c, by omega⟩ : EReal) * U ⟨c + k.val - c, by omega⟩ else 0)
        = (e k : EReal) * U k := by
      intro k
      rw [dif_pos (by omega)]
      have : (⟨c + k.val - c, by omega⟩ : Fin 576) = k := Fin.ext (by simp)
      rw [this]
    rw [Finset.sum_congr rfl (fun k _ => hr k)] at key
    rw [← key]
    unfold acc3
    refine Finset.sum_congr rfl fun p _ => Finset.sum_congr rfl fun k _ => ?_
    by_cases hw : c ≤ 256 * p.val + k.val ∧ 256 * p.val + k.val < c + 576
    · rw [dif_pos hw, htop, hin p k ⟨256 * p.val + k.val - c, by omega⟩ (by show _ = c + (256 * p.val + k.val - c); omega), hexp2]
      by_cases hb : s ⟨256 * p.val + k.val - c, by omega⟩ = ⊥
      · rw [hebot _ hb]; simp
      · rw [hV p k ⟨256 * p.val + k.val - c, by omega⟩ (by show _ = c + (256 * p.val + k.val - c); omega) hb]
    · rw [dif_neg hw, htop, hout p k (by omega), EReal.bot_sub]; simp
  have hD : ∑ j, Ideal.exp (s j - (μ : EReal)) = ((∑ j, e j : ℝ) : EReal) := by
    rw [coe_sum_real]; exact Finset.sum_congr rfl fun j _ => heq j
  have hDpos : 0 < ∑ j, e j := Finset.sum_pos' (fun j _ => he0 j) ⟨k1, Finset.mem_univ _, hepos _ hk1⟩
  rw [hacc V U hV, hacc (fun _ _ => 1) (fun _ => 1) (fun _ _ _ _ _ => rfl), hμ, hD]
  simp only [mul_one]
  rw [← coe_sum_real, Ideal.div_coe hDpos.ne', sum_mul_coe _ _ _ (by positivity)]
  refine Finset.sum_congr rfl fun kk _ => ?_
  rw [heq, Ideal.div_coe hDpos.ne', mul_assoc, mul_comm (U kk), ← mul_assoc]

end Cert.Attn

end
-- ==== Proof.Attn.PairValue.lean ====
/- A pair of heads at an element: the attention of one head. -/
module

public import proofs.«01_k».proof.Proof.Attn.Head
public import proofs.«01_k».proof.Proof.Attn.Softmax
public import proofs.«01_k».proof.Proof.Attn.Pairs
public import proofs.«01_k».proof.Proof.Attn.Spec

@[expose] public section

set_option maxRecDepth 16384

noncomputable section

namespace Cert.Attn

open Cert.KernelIdeal Cert.KernelIdeal.Facts₀ Cert.KernelIdeal.Facts Idealize.ShloMosaic Idealize.ShloMosaic.Pointwise

/-- A sum over the lanes of a pair of heads that is zero outside one head's is the sum over that head's. -/
theorem sum_half (η : ℕ) (hη : η < 2) (f : Fin 128 → EReal) (h0 : ∀ x : Fin 128, x.val / 64 ≠ η → f x = 0) :
    ∑ x, f x = ∑ y : Fin 64, f ⟨64 * η + y.val, by omega⟩ := by
  have e := Fin.sum_univ_add (a := 64) (b := 64) f
  interval_cases η
  · rw [e, Finset.sum_eq_zero (s := Finset.univ) (f := fun i : Fin 64 => f (Fin.natAdd 64 i))
      (fun y _ => h0 _ (by show (64 + y.val) / 64 ≠ 0; omega)), add_zero]
    exact Finset.sum_congr rfl fun y _ => congrArg f (Fin.ext (by simp))
  · rw [e, Finset.sum_eq_zero (s := Finset.univ) (f := fun i : Fin 64 => f (Fin.castAdd 64 i))
      (fun y _ => h0 _ (by show y.val / 64 ≠ 1; omega)), zero_add]
    exact Finset.sum_congr rfl fun y _ => congrArg f (Fin.ext (by simp [Nat.add_comm]))

/-- The queries of one head's lanes, scaled, and zero in the other's. -/
theorem qhalf_apply (keep : IVec S1x128 1) (q : Vec Ideal S1024x128 .f32) (r : Fin 1024) (l : Fin 128) :
    qhalf keep q (ix2 r l) = Scalar.select (keep (ix2 0 l)) (q (ix2 r l) * (((8 * Real.log 2)⁻¹ : ℝ) : EReal)) (0 : EReal) := by
  have e : qhalf keep q (ix2 r l) = Scalar.select (keep (ix2 0 l))
      (q (ix2 r l) * (Named.named κ "scale_log2e" 1043900987#32 : Ideal .f32)) (0 : EReal) := by
    unfold qhalf
    pointwise []
  rw [e]
  rfl

/-- The values in one head's lanes, one in the other's. -/
theorem vhalf_apply (keep : IVec S1x128 1) (v : FVec Ideal S256x128 .bf16) (r : Fin 256) (l : Fin 128) :
    vhalf keep v (ix2 r l) = Scalar.select (keep (ix2 0 l)) (v (ix2 r l)) (1 : EReal) := by
  unfold vhalf
  pointwise []

/-- The lanes of the first head. -/
theorem maskLo_apply (l : Fin 128) : maskLo (ix2 0 l) = if l.val / 64 = 0 then 1#1 else 0#1 := by
  have e : maskLo (ix2 0 l) = IntOp.cmpi CmpIPredicate.slt (BitVec.ofNat 32 l.val) 64#32 := by
    unfold maskLo; pointwise []
  rw [e]
  exact (by decide +kernel : ∀ l : Fin 128, IntOp.cmpi CmpIPredicate.slt (BitVec.ofNat 32 l.val) 64#32
    = if l.val / 64 = 0 then 1#1 else 0#1) l

/-- The lanes of the second head. -/
theorem maskHi_apply (l : Fin 128) : maskHi (ix2 0 l) = if l.val / 64 = 1 then 1#1 else 0#1 := by
  have e : maskHi (ix2 0 l) = IntOp.xori (maskLo (ix2 0 l)) 1#1 := by
    unfold maskHi; pointwise []
  rw [e, maskLo_apply]
  exact (by decide +kernel : ∀ l : Fin 128, IntOp.xori (if l.val / 64 = 0 then 1#1 else 0#1) 1#1
    = if l.val / 64 = 1 then 1#1 else 0#1) l

/-- A score of the kernel: the scale and the bias have the factor `1 / log 2`, which comes out. -/
theorem score_real (a b : Fin 64 → ℝ) (t : ℝ) :
    (∑ y, (a y : EReal) * (((8 * Real.log 2)⁻¹ : ℝ) : EReal) * (b y : EReal)) + (t : EReal) * (((Real.log 2)⁻¹ : ℝ) : EReal)
      = (((Real.log 2)⁻¹ : ℝ) : EReal) * ((∑ y, (a y : EReal) * (b y : EReal)) * ((1 / 8 : ℝ) : EReal) + (t : EReal)) := by
  have e1 : (∑ y, (a y : EReal) * (((8 * Real.log 2)⁻¹ : ℝ) : EReal) * (b y : EReal))
      = ((∑ y, a y * (8 * Real.log 2)⁻¹ * b y : ℝ) : EReal) := by
    rw [coe_sum_real]; exact Finset.sum_congr rfl fun y _ => by rw [EReal.coe_mul, EReal.coe_mul]
  have e2 : (∑ y, (a y : EReal) * (b y : EReal)) = ((∑ y, a y * b y : ℝ) : EReal) := by
    rw [coe_sum_real]; exact Finset.sum_congr rfl fun y _ => by rw [EReal.coe_mul]
  rw [e1, e2, ← EReal.coe_mul, ← EReal.coe_mul, ← EReal.coe_add, ← EReal.coe_add, ← EReal.coe_mul]
  congr 1
  have e3 : ∑ y, a y * (8 * Real.log 2)⁻¹ * b y = (8 * Real.log 2)⁻¹ * ∑ y, a y * b y := by
    rw [Finset.mul_sum]; exact Finset.sum_congr rfl fun y _ => by ring
  rw [e3, mul_inv]
  ring

/-- The bias of one head at row `r` of a block of 256 rows and place `K` of the block's 768 keys. -/
def biasAt (table : S8x257.Idx → EReal) (h r K : ℕ) : EReal :=
  if r / 64 * 64 ≤ K ∧ K < r / 64 * 64 + 576 then at2 table h (min (640 + r - K) 256) * (((Real.log 2)⁻¹ : ℝ) : EReal) else ⊥

section Head

variable (Q K V : S17408x512.Idx → EReal) (table : S8x257.Idx → EReal)
  (hQ : ∀ i j, i < 16384 → ∃ x : ℝ, at2 Q i j = x) (hK : ∀ i j, i < 16384 → ∃ x : ℝ, at2 K i j = x)
  (hT : ∀ i j, ∃ x : ℝ, at2 table i j = x)
  (f : FVec Ideal S256x256 .f32 → FVec Ideal S256x256 .f32) (g : FVec Ideal S512x256 .f32 → FVec Ideal S512x256 .f32)
  (φ : EReal → EReal) (hf : ∀ s r k, f s (ix2 r k) = φ (s (ix2 r k))) (hg : ∀ s r k, g s (ix2 r k) = φ (s (ix2 r k)))
  (b j : ℕ) (hb : b < 2) (hj : j < 8) (hφ : (j = 0 ∧ φ = fun _ => ⊥) ∨ (1 ≤ j ∧ φ = id))
  (p' : ℕ) (hp' : p' < 4) (q : Vec Ideal S1024x128 .f32) (k0 k1 k2 k3 k4 k5 v0 v1 v2 v3 v4 v5 : FVec Ideal S256x128 .bf16)
  (b0 b1 b2 : Vec Ideal S1x256x256 .f32)
  (t : Fin 4) (r : Fin 256)
  (hq : ∀ l : Fin 128, q (ix2 (rowOf t r) l) = at2 Q (8192 * b + 1024 * j + 256 * t.val + r.val) (128 * p' + l.val))
  (hk : ∀ s, s < 6 → 2 ≤ 4 * j + s → ∀ (k : Fin 256) (l : Fin 128),
    six k0 k1 k2 k3 k4 k5 s (ix2 k l) = at2 K (8192 * b + 256 * (4 * j + s - 2) + k.val) (128 * p' + l.val))
  (hv : ∀ s, s < 6 → 2 ≤ 4 * j + s → ∀ (k : Fin 256) (l : Fin 128),
    six v0 v1 v2 v3 v4 v5 s (ix2 k l) = at2 V (8192 * b + 256 * (4 * j + s - 2) + k.val) (128 * p' + l.val))

include hQ hK hT hf hg hb hj hφ hp' hq hk hv in
/-- One head of a pair over the weights' sum, in the head's lanes: the attention. -/
theorem head_value (η : ℕ) (hη : η < 2) (keep : IVec S1x128 1)
    (hkeep : ∀ l : Fin 128, keep (ix2 0 l) = if l.val / 64 = η then 1#1 else 0#1)
    (hbias : ∀ (p : Fin 3) (k : Fin 256), three b0 b1 b2 p.val (ix3 0 r k) = biasAt table (2 * p' + η) r.val (256 * p.val + k.val))
    (l m : Fin 128) (hl : l.val / 64 = η) (hm : m.val / 64 ≠ η) :
    Ideal.div (head f g keep q k0 k1 k2 k3 k4 k5 v0 v1 v2 v3 v4 v5 b0 b1 b2 (ix2 (rowOf t r) l))
        (head f g keep q k0 k1 k2 k3 k4 k5 v0 v1 v2 v3 v4 v5 b0 b1 b2 (ix2 (rowOf t r) m))
      = attend Q K V table (8192 * b + 1024 * j + 256 * t.val + r.val) (128 * p' + l.val) := by
  have ht := t.isLt
  have hr := r.isLt
  have hl' := l.isLt
  set R := 8192 * b + 1024 * j + 256 * t.val + r.val with hR
  have hRlt : R < 16384 := by omega
  have eR : R % 8192 / 64 * 64 = 1024 * j + 256 * t.val + r.val / 64 * 64 := by omega
  have eRb : R / 8192 * 8192 = 8192 * b := by omega
  have eRi : R % 64 = r.val % 64 := by omega
  have eh : (128 * p' + l.val) / 64 = 2 * p' + η := by omega
  have sel1 : ∀ x y : EReal, Scalar.select (1#1) x y = x := fun x y => rfl
  have sel0 : ∀ x y : EReal, Scalar.select (0#1) x y = y := fun x y => rfl
  rw [head_apply f g φ keep q k0 k1 k2 k3 k4 k5 v0 v1 v2 v3 v4 v5 b0 b1 b2 hf hg t r l,
    head_apply f g φ keep q k0 k1 k2 k3 k4 k5 v0 v1 v2 v3 v4 v5 b0 b1 b2 hf hg t r m]
  have ev : (fun (p : Fin 3) (k : Fin 256) => vhalf keep (six v0 v1 v2 v3 v4 v5 (t.val + p.val)) (ix2 k m)) = fun _ _ => 1 := by
    funext p k
    rw [vhalf_apply, hkeep, if_neg hm]; rfl
  rw [ev]
  unfold attend top
  rw [eh]
  -- the score of the kernel as a real
  have key : ∀ (p : Fin 3) (k : Fin 256) (kk : Fin 576), 256 * p.val + k.val = r.val / 64 * 64 + kk.val →
      (IsKey R kk.val ↔ 2 ≤ 4 * j + (t.val + p.val)) := by
    intro p k kk h
    have := k.isLt
    unfold IsKey; rw [eR]; omega
  have keyrow : ∀ (p : Fin 3) (k : Fin 256) (kk : Fin 576), 256 * p.val + k.val = r.val / 64 * 64 + kk.val →
      2 ≤ 4 * j + (t.val + p.val) → keyRow R kk.val = 8192 * b + 256 * (4 * j + (t.val + p.val) - 2) + k.val := by
    intro p k kk h h2
    unfold keyRow; rw [eR, eRb]; omega
  have real : ∀ kk : Fin 576, IsKey R kk.val → ∃ x : ℝ, score Q K table R (2 * p' + η) kk.val = x := by
    intro kk hkk
    have hkr : keyRow R kk.val < 16384 := by
      unfold keyRow; rw [eR, eRb]; have := kk.isLt; omega
    choose a ha using fun x : Fin 64 => hQ R (64 * (2 * p' + η) + x.val) hRlt
    choose c hc using fun x : Fin 64 => hK (keyRow R kk.val) (64 * (2 * p' + η) + x.val) hkr
    obtain ⟨y, hy⟩ := hT (2 * p' + η) (min (640 + R % 64 - kk.val) 256)
    refine ⟨(∑ x, a x * c x) * (1 / 8) + y, ?_⟩
    unfold score
    rw [if_pos hkk, hy, EReal.coe_add, EReal.coe_mul, coe_sum_real]
    congr 2
    exact Finset.sum_congr rfl fun x _ => by rw [ha, hc, EReal.coe_mul]
  refine softmax_parts (fun kk => score Q K table R (2 * p' + η) kk.val) (fun kk => ?_) ?_ (r.val / 64 * 64) (by omega) _
    (fun p k kk h => ?_) (fun p k h => ?_) _ _ (fun p k kk h hs => ?_)
  · by_cases hkk : IsKey R kk.val
    · exact Or.inr (real kk hkk)
    · left; unfold score; rw [if_neg hkk]
  · refine ⟨⟨575, by omega⟩, ?_⟩
    obtain ⟨x, hx⟩ := real ⟨575, by omega⟩ (by unfold IsKey; rw [eR]; show 512 ≤ _ + 575; omega)
    rw [hx]; exact EReal.coe_ne_bot x
  · -- a key of the window
    have hkk := key p k kk h
    have hp := p.isLt
    have hkl := k.isLt
    have hlog : (0 : ℝ) < (Real.log 2)⁻¹ := inv_pos.2 (Real.log_pos (by norm_num))
    by_cases h2 : 2 ≤ 4 * j + (t.val + p.val)
    · have hid : (if t.val + p.val < 2 then φ else id) = id := by
        rcases hφ with ⟨h0, -⟩ | ⟨-, h1⟩
        · rw [if_neg (by omega)]
        · rw [h1, ite_self]
      have hkey := hkk.2 h2
      have hrow := keyrow p k kk h h2
      have hkr : keyRow R kk.val < 16384 := by rw [hrow]; omega
      choose a ha using fun x : Fin 64 => hQ R (64 * (2 * p' + η) + x.val) hRlt
      choose c hc using fun x : Fin 64 => hK (keyRow R kk.val) (64 * (2 * p' + η) + x.val) hkr
      obtain ⟨y, hy⟩ := hT (2 * p' + η) (min (640 + R % 64 - kk.val) 256)
      show scoreAt φ keep q k0 k1 k2 k3 k4 k5 b0 b1 b2 t.val r.val p.val k.val _ _ _ = _
      unfold scoreAt score
      rw [hid, if_pos hkey, hy]
      have hb' : three b0 b1 b2 p.val (ix3 0 ⟨r.val, r.isLt⟩ ⟨k.val, k.isLt⟩) = (y : EReal) * (((Real.log 2)⁻¹ : ℝ) : EReal) := by
        rw [hbias p k]
        unfold biasAt
        rw [if_pos (by omega), ← hy, eRi]
        congr 3
        omega
      rw [hb']
      have hs : (∑ x : Fin 128, qhalf keep q (ix2 (rowOf t r) x) * six k0 k1 k2 k3 k4 k5 (t.val + p.val) (ix2 ⟨k.val, k.isLt⟩ x))
          = ∑ x : Fin 64, (a x : EReal) * (((8 * Real.log 2)⁻¹ : ℝ) : EReal) * (c x : EReal) := by
        rw [sum_half η hη]
        · refine Finset.sum_congr rfl fun x _ => ?_
          have hx := x.isLt
          rw [qhalf_apply, hkeep, if_pos (by show (64 * η + x.val) / 64 = η; omega), sel1, hq, hk _ (by omega) h2, ← ha, ← hc, hrow]
          show at2 Q _ (128 * p' + (64 * η + x.val)) * _ * at2 K _ (128 * p' + (64 * η + x.val)) = _
          rw [show 128 * p' + (64 * η + x.val) = 64 * (2 * p' + η) + x.val by ring]
        · intro x hx
          rw [qhalf_apply, hkeep, if_neg hx, sel0, zero_mul]
      rw [id, hs, score_real]
      congr 3
      exact Finset.sum_congr rfl fun x _ => by rw [ha, hc]
    · have h0 : j = 0 := by omega
      have hbot : φ = fun _ => ⊥ := by
        rcases hφ with ⟨-, h1⟩ | ⟨h1, -⟩
        · exact h1
        · omega
      show scoreAt φ keep q k0 k1 k2 k3 k4 k5 b0 b1 b2 t.val r.val p.val k.val _ _ _ = _
      unfold scoreAt score
      rw [if_pos (by omega), hbot, if_neg (fun h => h2 (hkk.1 h)), EReal.coe_mul_bot_of_pos hlog]
  · -- outside the window
    show scoreAt φ keep q k0 k1 k2 k3 k4 k5 b0 b1 b2 t.val r.val p.val k.val _ _ _ = _
    unfold scoreAt
    have hb' : three b0 b1 b2 p.val (ix3 0 ⟨r.val, r.isLt⟩ ⟨k.val, k.isLt⟩) = (⊥ : EReal) := by
      rw [hbias p k]
      unfold biasAt
      rw [if_neg (by omega)]
    rw [hb', EReal.add_bot]
    rcases hφ with ⟨-, h1⟩ | ⟨-, h1⟩
    · rw [h1]; split_ifs <;> rfl
    · rw [h1]; split_ifs <;> rfl
  · -- the values
    have hp := p.isLt
    have hkl := k.isLt
    have hkey : IsKey R kk.val := by
      by_contra hn
      exact hs (by show score Q K table R (2 * p' + η) kk.val = ⊥; unfold score; rw [if_neg hn])
    have h2 := (key p k kk h).1 hkey
    show vhalf (F := Ideal) keep (six v0 v1 v2 v3 v4 v5 (t.val + p.val)) (ix2 k l) = valueAt V R (128 * p' + l.val) kk.val
    unfold valueAt
    rw [if_pos hkey, vhalf_apply, hkeep, if_pos hl, sel1, hv _ (by omega) h2, keyrow p k kk h h2]

end Head

/-- A slab of keys or values is what it is cast from. -/
theorem slab_apply (x : Vec Ideal S256x128 .bf16) (r : Fin 256) (l : Fin 128) : slab x (ix2 r l) = x (ix2 r l) := by
  unfold slab; pointwise []

/-- The six slabs at an element. -/
theorem six_slab (k0 k1 k2 k3 k4 k5 : Vec Ideal S256x128 .bf16) (s : ℕ) (r : Fin 256) (l : Fin 128) :
    six (slab k0) (slab k1) (slab k2) (slab k3) (slab k4) (slab k5) s (ix2 r l) = six k0 k1 k2 k3 k4 k5 s (ix2 r l) := by
  rcases s with _ | _ | _ | _ | _ | s <;> exact slab_apply _ r l

/-- The normalised pair at an element: one head over the other head's lane of the weights' sum. -/
theorem norm2_apply (a b : FVec Ideal S1024x128 .f32) (r : Fin 1024) (l : Fin 128) :
    norm2 a b (ix2 r l) = Ideal.div (Scalar.select (maskLo (ix2 0 l)) (a (ix2 r l)) (b (ix2 r l)))
      (Scalar.select (maskLo (ix2 0 ⟨(l.val + 128 - 64) % 128, by omega⟩)) (b (ix2 r ⟨(l.val + 128 - 64) % 128, by omega⟩))
        (a (ix2 r ⟨(l.val + 128 - 64) % 128, by omega⟩))) := by
  unfold norm2; pointwise []

section Pair

variable (Q K V : S17408x512.Idx → EReal) (table : S8x257.Idx → EReal)
  (hQ : ∀ i j, i < 16384 → ∃ x : ℝ, at2 Q i j = x) (hK : ∀ i j, i < 16384 → ∃ x : ℝ, at2 K i j = x)
  (hT : ∀ i j, ∃ x : ℝ, at2 table i j = x)
  (f : FVec Ideal S256x256 .f32 → FVec Ideal S256x256 .f32) (g : FVec Ideal S512x256 .f32 → FVec Ideal S512x256 .f32)
  (φ : EReal → EReal) (hf : ∀ s r k, f s (ix2 r k) = φ (s (ix2 r k))) (hg : ∀ s r k, g s (ix2 r k) = φ (s (ix2 r k)))
  (b j : ℕ) (hb : b < 2) (hj : j < 8) (hφ : (j = 0 ∧ φ = fun _ => ⊥) ∨ (1 ≤ j ∧ φ = id))
  (p' : ℕ) (hp' : p' < 4) (q : Vec Ideal S1024x128 .f32) (k0 k1 k2 k3 k4 k5 v0 v1 v2 v3 v4 v5 : Vec Ideal S256x128 .bf16)
  (a0 a1 a2 b0 b1 b2 : Vec Ideal S1x256x256 .f32)
  (t : Fin 4) (r : Fin 256)
  (hq : ∀ l : Fin 128, q (ix2 (rowOf t r) l) = at2 Q (8192 * b + 1024 * j + 256 * t.val + r.val) (128 * p' + l.val))
  (hk : ∀ s, s < 6 → 2 ≤ 4 * j + s → ∀ (k : Fin 256) (l : Fin 128),
    six k0 k1 k2 k3 k4 k5 s (ix2 k l) = at2 K (8192 * b + 256 * (4 * j + s - 2) + k.val) (128 * p' + l.val))
  (hv : ∀ s, s < 6 → 2 ≤ 4 * j + s → ∀ (k : Fin 256) (l : Fin 128),
    six v0 v1 v2 v3 v4 v5 s (ix2 k l) = at2 V (8192 * b + 256 * (4 * j + s - 2) + k.val) (128 * p' + l.val))
  (ha : ∀ (p : Fin 3) (k : Fin 256), three a0 a1 a2 p.val (ix3 0 r k) = biasAt table (2 * p') r.val (256 * p.val + k.val))
  (hc : ∀ (p : Fin 3) (k : Fin 256), three b0 b1 b2 p.val (ix3 0 r k) = biasAt table (2 * p' + 1) r.val (256 * p.val + k.val))

include hQ hK hT hf hg hb hj hφ hp' hq hk hv ha hc in
/-- A pair of heads at an element of its tile: the attention. -/
theorem pair_value (l : Fin 128) :
    pair f g q k0 k1 k2 k3 k4 k5 v0 v1 v2 v3 v4 v5 a0 a1 a2 b0 b1 b2 (ix2 (rowOf t r) l)
      = attend Q K V table (8192 * b + 1024 * j + 256 * t.val + r.val) (128 * p' + l.val) := by
  have hl := l.isLt
  have sel1 : ∀ x y : EReal, Scalar.select (1#1) x y = x := fun x y => rfl
  have sel0 : ∀ x y : EReal, Scalar.select (0#1) x y = y := fun x y => rfl
  have hk' : ∀ s, s < 6 → 2 ≤ 4 * j + s → ∀ (k : Fin 256) (l : Fin 128),
      six (slab k0) (slab k1) (slab k2) (slab k3) (slab k4) (slab k5) s (ix2 k l)
        = at2 K (8192 * b + 256 * (4 * j + s - 2) + k.val) (128 * p' + l.val) := fun s h h' k l => (six_slab ..).trans (hk s h h' k l)
  have hv' : ∀ s, s < 6 → 2 ≤ 4 * j + s → ∀ (k : Fin 256) (l : Fin 128),
      six (slab v0) (slab v1) (slab v2) (slab v3) (slab v4) (slab v5) s (ix2 k l)
        = at2 V (8192 * b + 256 * (4 * j + s - 2) + k.val) (128 * p' + l.val) := fun s h h' k l => (six_slab ..).trans (hv s h h' k l)
  unfold pair
  rw [norm2_apply, maskLo_apply, maskLo_apply]
  by_cases h : l.val / 64 = 0
  · rw [if_pos h, if_neg (by show ¬ (l.val + 128 - 64) % 128 / 64 = 0; omega), sel1, sel0]
    exact head_value Q K V table hQ hK hT f g φ hf hg b j hb hj hφ p' hp' q _ _ _ _ _ _ _ _ _ _ _ _ a0 a1 a2 t r hq hk' hv'
      0 (by omega) maskLo maskLo_apply ha l _ h (by show (l.val + 128 - 64) % 128 / 64 ≠ 0; omega)
  · rw [if_neg h, if_pos (by show (l.val + 128 - 64) % 128 / 64 = 0; omega), sel1, sel0]
    exact head_value Q K V table hQ hK hT f g φ hf hg b j hb hj hφ p' hp' q _ _ _ _ _ _ _ _ _ _ _ _ b0 b1 b2 t r hq hk' hv'
      1 (by omega) maskHi maskHi_apply hc l _ (by omega) (by show (l.val + 128 - 64) % 128 / 64 ≠ 1; omega)

end Pair

end Cert.Attn
-- ==== Proof.Attn.TileValue.lean ====
/- The block of results of one grid step at an element. -/
module

public import proofs.«01_k».proof.Proof.Attn.PairValue

@[expose] public section

set_option maxRecDepth 16384

noncomputable section

namespace Cert.Attn

open Idealize.SL Cert.KernelIdeal Cert.KernelIdeal.Facts₀ Cert.KernelIdeal.Facts Idealize.ShloMosaic Idealize.ShloMosaic.Pointwise

/-- A load of a rectangle of a matrix, at an element. -/
theorem loads_apply2 {a b c d o0 o1 : ℕ} {e : EltTy} (X : Vec Ideal ⟨2, ![a, b]⟩ e)
    (inb : ∀ x : Fin 2, (![o0, o1] : Fin 2 → ℕ) x + (![c, d] : Fin 2 → ℕ) x ≤ (![a, b] : Fin 2 → ℕ) x) (i : Fin c) (l : Fin d) :
    loads (F := Ideal) (S := ⟨2, ![a, b]⟩) X (Rect.unit (s := ⟨2, ![a, b]⟩) ![o0, o1] ![c, d] inb) (ix2 i l)
      = X (ix2 ⟨o0 + i.val, by have h : o0 + c ≤ a := inb 0; omega⟩ ⟨o1 + l.val, by have h : o1 + d ≤ b := inb 1; omega⟩) := by
  show X _ = X _
  congr 1
  funext x
  apply Fin.ext
  match x with
  | ⟨0, _⟩ => show o0 + 1 * i.val = o0 + i.val; omega
  | ⟨1, _⟩ => show o1 + 1 * l.val = o1 + l.val; omega

/-- A load of a rectangle of an array of three axes, at an element. -/
theorem loads_apply3 {a b c a' b' c' o0 o1 o2 : ℕ} {e : EltTy} (X : Vec Ideal ⟨3, ![a, b, c]⟩ e)
    (inb : ∀ x : Fin 3, (![o0, o1, o2] : Fin 3 → ℕ) x + (![a', b', c'] : Fin 3 → ℕ) x ≤ (![a, b, c] : Fin 3 → ℕ) x)
    (i : Fin a') (j : Fin b') (l : Fin c') :
    loads (F := Ideal) (S := ⟨3, ![a, b, c]⟩) X (Rect.unit (s := ⟨3, ![a, b, c]⟩) ![o0, o1, o2] ![a', b', c'] inb) (ix3 i j l)
      = X (ix3 ⟨o0 + i.val, by have h : o0 + a' ≤ a := inb 0; omega⟩ ⟨o1 + j.val, by have h : o1 + b' ≤ b := inb 1; omega⟩
          ⟨o2 + l.val, by have h : o2 + c' ≤ c := inb 2; omega⟩) := by
  show X _ = X _
  congr 1
  funext x
  apply Fin.ext
  match x with
  | ⟨0, _⟩ => show o0 + 1 * i.val = o0 + i.val; omega
  | ⟨1, _⟩ => show o1 + 1 * j.val = o1 + j.val; omega
  | ⟨2, _⟩ => show o2 + 1 * l.val = o2 + l.val; omega

/-- The normalised row of four pairs of heads, at an element. -/
theorem rms4_apply (n : Vec Ideal S1x512 .f32) (a b c d : FVec Ideal S1024x128 .f32) (A : ℕ → EReal) (i : Fin 1024)
    (ha : ∀ l : Fin 128, a (ix2 i l) = A l.val) (hb : ∀ l : Fin 128, b (ix2 i l) = A (128 + l.val))
    (hc : ∀ l : Fin 128, c (ix2 i l) = A (256 + l.val)) (hd : ∀ l : Fin 128, d (ix2 i l) = A (384 + l.val)) (C : Fin 512) :
    rms4 n a b c d (ix2 i C) = normed A (n (ix2 0 C)) C.val := by
  have e : ∀ C : Fin 512, concatenate S1024x512 1 [⟨S1024x128, a⟩, ⟨S1024x128, b⟩, ⟨S1024x128, c⟩, ⟨S1024x128, d⟩]
      concatenates_S1024x128_S1024x128_S1024x128_S1024x128_S1024x512_d1 (ix2 i C) = A C.val := by
    intro C
    have hC := C.isLt
    pointwise []
    split_ifs
    all_goals first
      | exact ha ⟨C.val, by omega⟩
      | exact (hb ⟨C.val - 128, by omega⟩).trans (congrArg A (by show 128 + (C.val - 128) = C.val; omega))
      | exact (hc ⟨C.val - 128 - 128, by omega⟩).trans (congrArg A (by show 256 + (C.val - 128 - 128) = C.val; omega))
      | exact (hd ⟨C.val - 128 - 128 - 128, by omega⟩).trans (congrArg A (by show 384 + (C.val - 128 - 128 - 128) = C.val; omega))
  unfold rms4
  generalize concatenate S1024x512 1 [⟨S1024x128, a⟩, ⟨S1024x128, b⟩, ⟨S1024x128, c⟩, ⟨S1024x128, d⟩]
      concatenates_S1024x128_S1024x128_S1024x128_S1024x128_S1024x512_d1 = x at e ⊢
  pointwise []
  unfold normed
  simp only [e]

section Tile

variable (Q K V : S17408x512.Idx → EReal) (table : S8x257.Idx → EReal)
  (hQ : ∀ i j, i < 16384 → ∃ x : ℝ, at2 Q i j = x) (hK : ∀ i j, i < 16384 → ∃ x : ℝ, at2 K i j = x)
  (hT : ∀ i j, ∃ x : ℝ, at2 table i j = x)
  (f : FVec Ideal S256x256 .f32 → FVec Ideal S256x256 .f32) (g : FVec Ideal S512x256 .f32 → FVec Ideal S512x256 .f32)
  (φ : EReal → EReal) (hf : ∀ s r k, f s (ix2 r k) = φ (s (ix2 r k))) (hg : ∀ s r k, g s (ix2 r k) = φ (s (ix2 r k)))
  (b j : ℕ) (hb : b < 2) (hj : j < 8) (hφ : (j = 0 ∧ φ = fun _ => ⊥) ∨ (1 ≤ j ∧ φ = id))
  (x0 : Vec Ideal S1024x512 .f32) (k0 k1 k2 k3 k4 k5 v0 v1 v2 v3 v4 v5 : Vec Ideal S256x512 .bf16)
  (n : Vec Ideal S1x512 .f32) (B : Vec Ideal S8x256x768 .f32)
  (hq : ∀ (i : Fin 1024) (l : Fin 512), x0 (ix2 i l) = at2 Q (8192 * b + 1024 * j + i.val) l.val)
  (hk : ∀ s, s < 6 → 2 ≤ 4 * j + s → ∀ (k : Fin 256) (l : Fin 512),
    six k0 k1 k2 k3 k4 k5 s (ix2 k l) = at2 K (8192 * b + 256 * (4 * j + s - 2) + k.val) l.val)
  (hv : ∀ s, s < 6 → 2 ≤ 4 * j + s → ∀ (k : Fin 256) (l : Fin 512),
    six v0 v1 v2 v3 v4 v5 s (ix2 k l) = at2 V (8192 * b + 256 * (4 * j + s - 2) + k.val) l.val)
  (hB : ∀ (h : Fin 8) (r : Fin 256) (k : Fin 768), B (ix3 h r k) = biasAt table h.val r.val k.val)

/-- Six loads of one rectangle at an element. -/
theorem six_loads {o1 : ℕ} (inb : ∀ x : Fin 2, (![0, o1] : Fin 2 → ℕ) x + (![256, 128] : Fin 2 → ℕ) x ≤ (![256, 512] : Fin 2 → ℕ) x)
    (s : ℕ) (k : Fin 256) (l : Fin 128) :
    six (loads (F := Ideal) (S := S256x512) k0 (Rect.unit (s := S256x512) ![0, o1] S256x128.size inb))
      (loads (F := Ideal) (S := S256x512) k1 (Rect.unit (s := S256x512) ![0, o1] S256x128.size inb))
      (loads (F := Ideal) (S := S256x512) k2 (Rect.unit (s := S256x512) ![0, o1] S256x128.size inb))
      (loads (F := Ideal) (S := S256x512) k3 (Rect.unit (s := S256x512) ![0, o1] S256x128.size inb))
      (loads (F := Ideal) (S := S256x512) k4 (Rect.unit (s := S256x512) ![0, o1] S256x128.size inb))
      (loads (F := Ideal) (S := S256x512) k5 (Rect.unit (s := S256x512) ![0, o1] S256x128.size inb)) s (ix2 k l)
      = six k0 k1 k2 k3 k4 k5 s (ix2 k ⟨o1 + l.val, by have h : o1 + 128 ≤ 512 := inb 1; omega⟩) := by
  have e : ∀ x : Vec Ideal S256x512 .bf16, loads (F := Ideal) (S := S256x512) x (Rect.unit (s := S256x512) ![0, o1] S256x128.size inb) (ix2 k l)
      = x (ix2 k ⟨o1 + l.val, by have h : o1 + 128 ≤ 512 := inb 1; omega⟩) := by
    intro x
    refine (loads_apply2 x inb k l).trans (congrArg x ?_)
    congr 1
    exact Fin.ext (by show 0 + k.val = k.val; omega)
  rcases s with _ | _ | _ | _ | _ | s <;> exact e _

include hB in
/-- Three loads of the bias of one head at an element. -/
theorem three_loads {h : ℕ} (i0 : ∀ x : Fin 3, (![h, 0, 0] : Fin 3 → ℕ) x + (![1, 256, 256] : Fin 3 → ℕ) x ≤ (![8, 256, 768] : Fin 3 → ℕ) x)
    (i1 : ∀ x : Fin 3, (![h, 0, 256] : Fin 3 → ℕ) x + (![1, 256, 256] : Fin 3 → ℕ) x ≤ (![8, 256, 768] : Fin 3 → ℕ) x)
    (i2 : ∀ x : Fin 3, (![h, 0, 512] : Fin 3 → ℕ) x + (![1, 256, 256] : Fin 3 → ℕ) x ≤ (![8, 256, 768] : Fin 3 → ℕ) x)
    (r : Fin 256) (p : Fin 3) (k : Fin 256) :
    three (loads (F := Ideal) (S := S8x256x768) B (Rect.unit (s := S8x256x768) ![h, 0, 0] S1x256x256.size i0))
      (loads (F := Ideal) (S := S8x256x768) B (Rect.unit (s := S8x256x768) ![h, 0, 256] S1x256x256.size i1))
      (loads (F := Ideal) (S := S8x256x768) B (Rect.unit (s := S8x256x768) ![h, 0, 512] S1x256x256.size i2)) p.val (ix3 0 r k)
      = biasAt table h r.val (256 * p.val + k.val) := by
  fin_cases p
  · refine (loads_apply3 B i0 0 r k).trans ((hB _ _ _).trans ?_)
    simp
  · refine (loads_apply3 B i1 0 r k).trans ((hB _ _ _).trans ?_)
    simp
  · refine (loads_apply3 B i2 0 r k).trans ((hB _ _ _).trans ?_)
    simp

include hQ hK hT hf hg hb hj hφ hq hk hv hB in
/-- The block of results at an element: the normalised attention. -/
theorem tile_value (i : Fin 1024) (C : Fin 512) :
    tile f g (loads x0) (loads k0) (loads k1) (loads k2) (loads k3) (loads k4) (loads k5)
        (loads v0) (loads v1) (loads v2) (loads v3) (loads v4) (loads v5) (loads n) (loads B) (ix2 i C)
      = normed (attend Q K V table (8192 * b + 1024 * j + i.val)) (n (ix2 0 C)) C.val := by
  have hi := i.isLt
  obtain ⟨t, r, hir⟩ : ∃ (t : Fin 4) (r : Fin 256), i.val = 256 * t.val + r.val :=
    ⟨⟨i.val / 256, by omega⟩, ⟨i.val % 256, by omega⟩, by show i.val = 256 * (i.val / 256) + i.val % 256; omega⟩
  have ht := t.isLt
  have hr := r.isLt
  rw [show i = rowOf t r from Fin.ext hir]
  have hn : loads (F := Ideal) (S := S1x512) n (Rect.unit (s := S1x512) ![0, 0] S1x512.size inb_S1x512_S1x512_0_0) (ix2 0 C) = n (ix2 0 C) := by
    refine (loads_apply2 n inb_S1x512_S1x512_0_0 0 C).trans (congrArg n ?_)
    congr 1
    exact Fin.ext (by show 0 + C.val = C.val; omega)
  have hx : ∀ {o1 : ℕ} (inb : ∀ x : Fin 2, (![0, o1] : Fin 2 → ℕ) x + (![1024, 128] : Fin 2 → ℕ) x ≤ (![1024, 512] : Fin 2 → ℕ) x)
      (l : Fin 128), loads (F := Ideal) (S := S1024x512) x0 (Rect.unit (s := S1024x512) ![0, o1] S1024x128.size inb) (ix2 (rowOf t r) l)
        = at2 Q (8192 * b + 1024 * j + 256 * t.val + r.val) (o1 + l.val) := by
    intro o1 inb l
    refine (loads_apply2 x0 inb _ l).trans ((hq _ _).trans ?_)
    show at2 Q (8192 * b + 1024 * j + (0 + (256 * t.val + r.val))) (o1 + l.val) = _
    congr 1
    omega
  unfold tile
  rw [← hn]
  refine rms4_apply _ _ _ _ _ (attend Q K V table (8192 * b + 1024 * j + (256 * t.val + r.val))) _ ?_ ?_ ?_ ?_ C
  · intro l
    refine (pair_value Q K V table hQ hK hT f g φ hf hg b j hb hj hφ 0 (by omega) _ _ _ _ _ _ _ _ _ _ _ _ _ _ _ _ _ _ _ t r
      (hx inb_S1024x512_S1024x128_0_0)
      (fun s h h' k l => (six_loads (b := b) (j := j) (k0 := k0) (k1 := k1) (k2 := k2) (k3 := k3) (k4 := k4) (k5 := k5) (inb := inb_S256x512_S256x128_0_0) (s := s) (k := k) (l := l)).trans (hk s h h' k _))
      (fun s h h' k l => (six_loads (b := b) (j := j) (k0 := v0) (k1 := v1) (k2 := v2) (k3 := v3) (k4 := v4) (k5 := v5) (inb := inb_S256x512_S256x128_0_0) (s := s) (k := k) (l := l)).trans (hv s h h' k _))
      (three_loads table B hB inb_S8x256x768_S1x256x256_0_0_0 inb_S8x256x768_S1x256x256_0_0_256 inb_S8x256x768_S1x256x256_0_0_512 r)
      (three_loads table B hB inb_S8x256x768_S1x256x256_1_0_0 inb_S8x256x768_S1x256x256_1_0_256 inb_S8x256x768_S1x256x256_1_0_512 r) l).trans ?_
    simp only [Nat.add_assoc, Nat.mul_zero, Nat.zero_add, Nat.reduceMul]
  · intro l
    refine (pair_value Q K V table hQ hK hT f g φ hf hg b j hb hj hφ 1 (by omega) _ _ _ _ _ _ _ _ _ _ _ _ _ _ _ _ _ _ _ t r
      (hx inb_S1024x512_S1024x128_0_128)
      (fun s h h' k l => (six_loads (b := b) (j := j) (k0 := k0) (k1 := k1) (k2 := k2) (k3 := k3) (k4 := k4) (k5 := k5) (inb := inb_S256x512_S256x128_0_128) (s := s) (k := k) (l := l)).trans (hk s h h' k _))
      (fun s h h' k l => (six_loads (b := b) (j := j) (k0 := v0) (k1 := v1) (k2 := v2) (k3 := v3) (k4 := v4) (k5 := v5) (inb := inb_S256x512_S256x128_0_128) (s := s) (k := k) (l := l)).trans (hv s h h' k _))
      (three_loads table B hB inb_S8x256x768_S1x256x256_2_0_0 inb_S8x256x768_S1x256x256_2_0_256 inb_S8x256x768_S1x256x256_2_0_512 r)
      (three_loads table B hB inb_S8x256x768_S1x256x256_3_0_0 inb_S8x256x768_S1x256x256_3_0_256 inb_S8x256x768_S1x256x256_3_0_512 r) l).trans ?_
    simp only [Nat.add_assoc, Nat.mul_zero, Nat.zero_add, Nat.reduceMul]
  · intro l
    refine (pair_value Q K V table hQ hK hT f g φ hf hg b j hb hj hφ 2 (by omega) _ _ _ _ _ _ _ _ _ _ _ _ _ _ _ _ _ _ _ t r
      (hx inb_S1024x512_S1024x128_0_256)
      (fun s h h' k l => (six_loads (b := b) (j := j) (k0 := k0) (k1 := k1) (k2 := k2) (k3 := k3) (k4 := k4) (k5 := k5) (inb := inb_S256x512_S256x128_0_256) (s := s) (k := k) (l := l)).trans (hk s h h' k _))
      (fun s h h' k l => (six_loads (b := b) (j := j) (k0 := v0) (k1 := v1) (k2 := v2) (k3 := v3) (k4 := v4) (k5 := v5) (inb := inb_S256x512_S256x128_0_256) (s := s) (k := k) (l := l)).trans (hv s h h' k _))
      (three_loads table B hB inb_S8x256x768_S1x256x256_4_0_0 inb_S8x256x768_S1x256x256_4_0_256 inb_S8x256x768_S1x256x256_4_0_512 r)
      (three_loads table B hB inb_S8x256x768_S1x256x256_5_0_0 inb_S8x256x768_S1x256x256_5_0_256 inb_S8x256x768_S1x256x256_5_0_512 r) l).trans ?_
    simp only [Nat.add_assoc, Nat.mul_zero, Nat.zero_add, Nat.reduceMul]
  · intro l
    refine (pair_value Q K V table hQ hK hT f g φ hf hg b j hb hj hφ 3 (by omega) _ _ _ _ _ _ _ _ _ _ _ _ _ _ _ _ _ _ _ t r
      (hx inb_S1024x512_S1024x128_0_384)
      (fun s h h' k l => (six_loads (b := b) (j := j) (k0 := k0) (k1 := k1) (k2 := k2) (k3 := k3) (k4 := k4) (k5 := k5) (inb := inb_S256x512_S256x128_0_384) (s := s) (k := k) (l := l)).trans (hk s h h' k _))
      (fun s h h' k l => (six_loads (b := b) (j := j) (k0 := v0) (k1 := v1) (k2 := v2) (k3 := v3) (k4 := v4) (k5 := v5) (inb := inb_S256x512_S256x128_0_384) (s := s) (k := k) (l := l)).trans (hv s h h' k _))
      (three_loads table B hB inb_S8x256x768_S1x256x256_6_0_0 inb_S8x256x768_S1x256x256_6_0_256 inb_S8x256x768_S1x256x256_6_0_512 r)
      (three_loads table B hB inb_S8x256x768_S1x256x256_7_0_0 inb_S8x256x768_S1x256x256_7_0_256 inb_S8x256x768_S1x256x256_7_0_512 r) l).trans ?_
    simp only [Nat.add_assoc, Nat.mul_zero, Nat.zero_add, Nat.reduceMul]

end Tile

end Cert.Attn
-- ==== Proof.Attn.BiasCanon.lean ====
/- The bias the first grid step leaves in its scratch, at an element. -/
module

public import proofs.«01_k».proof.Proof.Attn.BiasValue
public import proofs.«01_k».proof.Proof.Attn.TileValue

@[expose] public section

set_option maxRecDepth 16384

noncomputable section

namespace Cert.Attn

open Idealize.SL Cert.KernelIdeal Cert.KernelIdeal.Facts₀ Cert.KernelIdeal.Facts Idealize.ShloMosaic Idealize.ShloMosaic.Pointwise

/-- A row of the diagonals: entry `m + 1` is the table's at the clipped distance `767 - m`. -/
def IsDiag (table : S8x257.Idx → EReal) (d : Vec Ideal S8x1024 .f32) : Prop :=
  ∀ (h : Fin 8) (m : Fin 1024), 1 ≤ m.val → d (ix2 h m) = at2 table h.val (min (896 - m.val) 256)

/-- One stored row of the bias at an element. -/
theorem biasRow_value (table : S8x257.Idx → EReal) (d : Vec Ideal S8x1024 .f32) (hd : IsDiag table d) {h : ℕ} (hh : h < 8)
    (inb : ∀ x : Fin 2, (![h, 0] : Fin 2 → ℕ) x + (![1, 1024] : Fin 2 → ℕ) x ≤ (![8, 1024] : Fin 2 → ℕ) x) (r : Fin 256) (k : Fin 768) :
    biasRow (loads (F := Ideal) (S := S8x1024) d (Rect.unit (s := S8x1024) ![h, 0] S1x1024.size inb)) (ix3 0 r k)
      = biasAt table h r.val k.val := by
  have hr := r.isLt
  have hk := k.isLt
  rw [biasRow_apply]
  unfold biasAt
  by_cases hs : r.val / 64 ≤ k.val / 64 ∧ k.val / 64 ≤ r.val / 64 + 8
  · rw [if_pos hs, if_pos (by omega)]
    have e := loads_apply2 d inb (0 : Fin 1) (⟨(256 + k.val + 1024 - r.val) % 1024, by omega⟩ : Fin 1024)
    refine congrArg (· * _) (e.trans ((hd _ _ (by show 1 ≤ 0 + (256 + k.val + 1024 - r.val) % 1024; omega)).trans ?_))
    show at2 table (h + 0) (min (896 - (0 + (256 + k.val + 1024 - r.val) % 1024)) 256) = _
    congr 2
    omega
  · rw [if_neg hs, if_neg (by omega)]

/-- What the eight stores leave, at an element. -/
theorem canon_bias (table : S8x257.Idx → EReal) (d : Vec Ideal S8x1024 .f32) (hd : IsDiag table d)
    (hcov : ∀ y : S8x256x768.Idx, ∃ p ∈ biasPieces (loads (F := Ideal) (S := S8x1024) d), y ∈ p.1.set)
    (h : Fin 8) (r : Fin 256) (k : Fin 768) :
    View.canon (biasPieces (loads (F := Ideal) (S := S8x1024) d)) (ix3 h r k) = biasAt table h.val r.val k.val := by
  refine View.canon_apply_of_pieces (fun y : S8x256x768.Idx => biasAt table (y 0).val (y 1).val (y 2).val) _ ?_ _ (hcov _)
  have row : ∀ {h : ℕ} (hh : h < 8)
      (inb : ∀ x : Fin 2, (![h, 0] : Fin 2 → ℕ) x + (![1, 1024] : Fin 2 → ℕ) x ≤ (![8, 1024] : Fin 2 → ℕ) x)
      (inb' : ∀ x : Fin 3, (![h, 0, 0] : Fin 3 → ℕ) x + (![1, 256, 768] : Fin 3 → ℕ) x ≤ (![8, 256, 768] : Fin 3 → ℕ) x)
      (x : S1x256x768.Idx),
      biasRow (loads (F := Ideal) (S := S8x1024) d (Rect.unit (s := S8x1024) ![h, 0] S1x1024.size inb)) x
        = (fun y : S8x256x768.Idx => biasAt table (y 0).val (y 1).val (y 2).val)
            ((Rect.unit (s := S8x256x768) ![h, 0, 0] S1x256x768.size inb').emb x) := by
    intro h hh inb inb' x
    have ex : x = ix3 0 (x 1) (x 2) := by
      funext a
      match a with
      | ⟨0, _⟩ => exact Fin.ext (by have : (x 0).val < 1 := (x 0).isLt; show (x 0).val = 0; omega)
      | ⟨1, _⟩ => rfl
      | ⟨2, _⟩ => rfl
    have x0 : (x 0).val < 1 := (x 0).isLt
    show _ = biasAt table (h + 1 * (x 0).val) (0 + 1 * (x 1).val) (0 + 1 * (x 2).val)
    rw [show h + 1 * (x 0).val = h by omega, show 0 + 1 * (x 1).val = (x 1).val by omega, show 0 + 1 * (x 2).val = (x 2).val by omega]
    conv_lhs => rw [ex]
    exact biasRow_value table d hd hh inb (x 1) (x 2)
  intro p hp x
  simp only [biasPieces, List.mem_cons, List.not_mem_nil, or_false] at hp
  rcases hp with rfl | rfl | rfl | rfl | rfl | rfl | rfl | rfl
  · exact row (h := 7) (by omega) _ inb_S8x256x768_S1x256x768_7_0_0 x
  · exact row (h := 6) (by omega) _ inb_S8x256x768_S1x256x768_6_0_0 x
  · exact row (h := 5) (by omega) _ inb_S8x256x768_S1x256x768_5_0_0 x
  · exact row (h := 4) (by omega) _ inb_S8x256x768_S1x256x768_4_0_0 x
  · exact row (h := 3) (by omega) _ inb_S8x256x768_S1x256x768_3_0_0 x
  · exact row (h := 2) (by omega) _ inb_S8x256x768_S1x256x768_2_0_0 x
  · exact row (h := 1) (by omega) _ inb_S8x256x768_S1x256x768_1_0_0 x
  · exact row (h := 0) (by omega) _ inb_S8x256x768_S1x256x768_0_0_0 x

end Cert.Attn
-- ==== Proof.Attn.Gather.lean ====
/- Columns of a table picked by an array of column numbers, at an element. -/
module

public import Idealize.ShloMosaic.Lib.ValueIdx
public import Idealize.ShloMosaic.Lib.Pointwise

@[expose] public section

noncomputable section

namespace Cert.Attn

open Idealize.ShloMosaic Idealize.ShloMosaic.Pointwise

/-- Columns picked by a list of column numbers. -/
abbrev colDims (A B C : ℕ) (wf : GatherDims.WF ⟨2, ![A, B]⟩ ⟨2, ![C, 1]⟩ ⟨2, ![A, C]⟩ [0] [1] [] [1] [] 1 ![A, 1]) :
    GatherDims ⟨2, ![A, B]⟩ ⟨2, ![C, 1]⟩ ⟨2, ![A, C]⟩ where
  offsetDims := [0]
  collapsedSliceDims := [1]
  operandBatchingDims := []
  startIndicesBatchingDims := []
  startIndexMap := [1]
  indexVectorDim := 1
  sliceSizes := ![A, 1]
  wf := wf

/-- Columns picked by an array of column numbers. -/
abbrev colDims2 (A B C D : ℕ) (wf : GatherDims.WF ⟨2, ![A, B]⟩ ⟨3, ![C, D, 1]⟩ ⟨3, ![A, C, D]⟩ [0] [1] [] [1] [] 2 ![A, 1]) :
    GatherDims ⟨2, ![A, B]⟩ ⟨3, ![C, D, 1]⟩ ⟨3, ![A, C, D]⟩ where
  offsetDims := [0]
  collapsedSliceDims := [1]
  operandBatchingDims := []
  startIndicesBatchingDims := []
  startIndexMap := [1]
  indexVectorDim := 2
  sliceSizes := ![A, 1]
  wf := wf

/-- The picked column at an element, the number inside the table. -/
theorem gather_col {α : Type} {A B C n : ℕ} (hB : n < B)
    (wf : GatherDims.WF ⟨2, ![A, B]⟩ ⟨2, ![C, 1]⟩ ⟨2, ![A, C]⟩ [0] [1] [] [1] [] 1 ![A, 1])
    (x : (⟨2, ![A, B]⟩ : Shape).Idx → α) (idx : IVec ⟨2, ![C, 1]⟩ 32) (a : Fin A) (c : Fin C)
    (hn : (idx (ix2 c 0)).toInt.toNat = n) :
    Host.gather (colDims A B C wf) x idx (ix2 a c) = x (ix2 a ⟨n, hB⟩) := by
  unfold Host.gather
  congr 1
  funext e
  refine Fin.ext ?_
  show (colDims A B C wf).start (ix2 a c) idx e + (colDims A B C wf).batchCoord (ix2 a c) e + (colDims A B C wf).offCoord (ix2 a c) e = _
  rw [GatherDims.batchCoord_eq_zero _ _ _ (by simp)]
  have h01 : e = 0 ∨ e = 1 := by
    match e with
    | ⟨0, _⟩ => exact Or.inl rfl
    | ⟨1, _⟩ => exact Or.inr rfl
  rcases h01 with rfl | rfl
  · unfold GatherDims.start
    rw [dif_neg (by simp)]
    show 0 + 0 + (colDims A B C wf).offCoord (ix2 a c) 0 = a.val
    rw [Nat.zero_add]
    rfl
  · rw [GatherDims.offCoord_eq_zero _ _ _ (fun h => ((GatherDims.mem_sKept _ _).mp h).1 (List.mem_singleton.mpr rfl))]
    unfold GatherDims.start
    rw [dif_pos (show (1 : Fin 2) ∈ (colDims A B C wf).startIndexMap from List.mem_singleton.mpr rfl)]
    have hsi : (colDims A B C wf).siIdx (ix2 a c) ⟨List.idxOf (1 : Fin 2) (colDims A B C wf).startIndexMap,
        List.idxOf_lt_length_iff.2 (List.mem_singleton.mpr rfl)⟩ = ix2 c 0 := by
      funext b; refine Fin.ext ?_
      match b with
      | ⟨0, _⟩ => rfl
      | ⟨1, _⟩ => rfl
    rw [hsi]
    show min (idx (ix2 c 0)).toInt.toNat (B - 1) + 0 + 0 = n
    omega

/-- The picked column at an element, the number inside the table. -/
theorem gather_col2 {α : Type} {A B C D n : ℕ} (hB : n < B)
    (wf : GatherDims.WF ⟨2, ![A, B]⟩ ⟨3, ![C, D, 1]⟩ ⟨3, ![A, C, D]⟩ [0] [1] [] [1] [] 2 ![A, 1])
    (x : (⟨2, ![A, B]⟩ : Shape).Idx → α) (idx : IVec ⟨3, ![C, D, 1]⟩ 32) (a : Fin A) (c : Fin C) (d : Fin D)
    (hn : (idx (ix3 c d 0)).toInt.toNat = n) :
    Host.gather (colDims2 A B C D wf) x idx (ix3 a c d) = x (ix2 a ⟨n, hB⟩) := by
  unfold Host.gather
  congr 1
  funext e
  refine Fin.ext ?_
  show (colDims2 A B C D wf).start (ix3 a c d) idx e + (colDims2 A B C D wf).batchCoord (ix3 a c d) e
    + (colDims2 A B C D wf).offCoord (ix3 a c d) e = _
  rw [GatherDims.batchCoord_eq_zero _ _ _ (by simp)]
  have h01 : e = 0 ∨ e = 1 := by
    match e with
    | ⟨0, _⟩ => exact Or.inl rfl
    | ⟨1, _⟩ => exact Or.inr rfl
  rcases h01 with rfl | rfl
  · unfold GatherDims.start
    rw [dif_neg (by simp)]
    show 0 + 0 + (colDims2 A B C D wf).offCoord (ix3 a c d) 0 = a.val
    rw [Nat.zero_add]
    rfl
  · rw [GatherDims.offCoord_eq_zero _ _ _ (fun h => ((GatherDims.mem_sKept _ _).mp h).1 (List.mem_singleton.mpr rfl))]
    unfold GatherDims.start
    rw [dif_pos (show (1 : Fin 2) ∈ (colDims2 A B C D wf).startIndexMap from List.mem_singleton.mpr rfl)]
    have hsi : (colDims2 A B C D wf).siIdx (ix3 a c d) ⟨List.idxOf (1 : Fin 2) (colDims2 A B C D wf).startIndexMap,
        List.idxOf_lt_length_iff.2 (List.mem_singleton.mpr rfl)⟩ = ix3 c d 0 := by
      funext b; refine Fin.ext ?_
      match b with
      | ⟨0, _⟩ => rfl
      | ⟨1, _⟩ => rfl
      | ⟨2, _⟩ => rfl
    rw [hsi]
    show min (idx (ix3 c d 0)).toInt.toNat (B - 1) + 0 + 0 = n
    omega

end Cert.Attn
-- ==== Proof.Attn.Windows.lean ====
/- What the windows of a grid step hold, in terms of the arrays as launched. -/
module

public import proofs.«01_k».proof.Proof.Attn.BiasCanon
public import proofs.«01_k».proof.Proof.Attn.Gather
public import proofs.«01_k».proof.Proof.Launch.KernelIdeal.Value
public import Idealize.ShloMosaic.Lib.StableHlo.Run
public import Idealize.ShloMosaic.Lib.KernelVsHost

@[expose] public section

set_option maxRecDepth 16384

noncomputable section

namespace Cert.Attn

open Cert.KernelIdeal.Gen (V iblk V_main_arg0 hostOps0 hostOps0_1 hostOps0_2 hostOps0_3 hostOps0_4)
open Idealize.SL Cert.KernelIdeal Cert.KernelIdeal.Facts₀ Cert.KernelIdeal.Facts Idealize.ShloMosaic
  Idealize.ShloMosaic.TcCoe Idealize.ShloMosaic.Pointwise

variable (m : (ℓ : Loc nD τ sig) → Buf (Elt Ideal) ℓ) (c : Dev nD)

/-- The queries as launched. -/
abbrev Q0 : S17408x512.Idx → EReal := m ((c : Thread nD τ).loc main_arg0)
/-- The keys as launched. -/
abbrev K0 : S17408x512.Idx → EReal := m ((c : Thread nD τ).loc main_arg1)
/-- The values as launched. -/
abbrev V0 : S17408x512.Idx → EReal := m ((c : Thread nD τ).loc main_arg2)
/-- The table of relative biases as launched. -/
abbrev T0 : S8x257.Idx → EReal := m ((c : Thread nD τ).loc main_arg3)
/-- The norm's weights as launched. -/
abbrev N0 : S512.Idx → EReal := m ((c : Thread nD τ).loc main_arg4)

/-- The region finds the keys as launched. -/
theorem V_main_v14 : V m c main_v14 = K0 m c := by
  show StableHlo.after _ _ (Proc.devRef .tc main_v14) = _
  simp only [hostOps0, hostOps0_1, hostOps0_2, hostOps0_3, hostOps0_4, List.flatten_cons, List.flatten_nil, List.append_nil,
    List.cons_append, List.nil_append]
  after_results
  rfl

/-- The region finds the values as launched. -/
theorem V_main_v15 : V m c main_v15 = V0 m c := by
  show StableHlo.after _ _ (Proc.devRef .tc main_v15) = _
  simp only [hostOps0, hostOps0_1, hostOps0_2, hostOps0_3, hostOps0_4, List.flatten_cons, List.flatten_nil, List.append_nil,
    List.cons_append, List.nil_append]
  after_results
  rfl

/-- The norm's weights as one row. -/
theorem V_main_v16 : V m c main_v16 = shapeCast S1x512 (N0 m c) shapeCasts_S512_S1x512 := by
  show StableHlo.after _ _ (Proc.devRef .tc main_v16) = _
  simp only [hostOps0, hostOps0_1, hostOps0_2, hostOps0_3, hostOps0_4, List.flatten_cons, List.flatten_nil, List.append_nil,
    List.cons_append, List.nil_append]
  after_results
  rfl

/-- The distances `767 - m` clipped to `[-128, 128]`. -/
def clipped : IVec S1023 32 :=
  minsi (broadcastInDim S1023 ![] bcast_S_S1023 (id (constantI S_ 32 128#32)))
    (maxsi (broadcastInDim S1023 ![] bcast_S_S1023 (id (constantI S_ 32 4294967168#32)))
      (subi (broadcastInDim S1023 ![] bcast_S_S1023 (constantI S_ 32 767#32)) (iotaInDim S1023 32 0)))

/-- The column numbers of the diagonals. -/
def cols : IVec S1023 32 :=
  addi clipped (broadcastInDim S1023 ![] bcast_S_S1023 (constantI S_ 32 128#32))

/-- The column numbers, a negative one counted from the end. -/
def cols1 : IVec S1023x1 32 :=
  broadcastInDim S1023x1 ![0] bcast_S1023_S1023x1_0
    (select (cmpi .slt cols (broadcastInDim S1023 ![] bcast_S_S1023 (constantI S_ 32 0#32)))
      (addi cols (broadcastInDim S1023 ![] bcast_S_S1023 (constantI S_ 32 257#32))) cols)

/-- The diagonals, with one entry before them. -/
theorem V_main_v13 : V m c main_v13 = pad S8x1024 ![0, 1] ![0, 0] ![0, 0]
      (Host.gather gather_S8x257_S1023x1_S8x1023_0_1_n_n_1_1_81 (T0 m c) cols1)
      (sitofp (F := Ideal) .f32 (constantI S_ 32 0#32)) pads_S8x1023_S8x1024_000_100 h_S_ := by
  show StableHlo.after _ _ (Proc.devRef .tc main_v13) = _
  simp only [hostOps0, hostOps0_1, hostOps0_2, hostOps0_3, hostOps0_4, List.flatten_cons, List.flatten_nil, List.append_nil,
    List.cons_append, List.nil_append]
  after_results_simp
  unfold cols1 cols clipped
  simp only [StableHlo.TRef.ofBuf, StableHlo.TRef.toBuf, cast_cast, cast_eq]

/-- A column number at an element. -/
theorem cols1_apply (i : Fin 1023) : (cols1 (ix2 i 0)).toInt.toNat = min (895 - i.val) 256 := by
  have e : cols1 (ix2 i 0) = Scalar.select (IntOp.cmpi .slt (cols (ix1 i)) 0#32) (cols (ix1 i) + 257#32) (cols (ix1 i)) := by
    unfold cols1
    pointwise []
    rfl
  have e2 : cols (ix1 i) = IntOp.addi (IntOp.minsi 128#32 (IntOp.maxsi 4294967168#32 (IntOp.subi 767#32 (BitVec.ofNat 32 i.val)))) 128#32 := by
    unfold cols clipped
    pointwise []
    rfl
  rw [e, e2]
  exact (by decide +kernel : ∀ i : Fin 1023,
    (Scalar.select (IntOp.cmpi .slt (IntOp.addi (IntOp.minsi 128#32 (IntOp.maxsi 4294967168#32 (IntOp.subi 767#32 (BitVec.ofNat 32 i.val)))) 128#32) 0#32)
      (IntOp.addi (IntOp.minsi 128#32 (IntOp.maxsi 4294967168#32 (IntOp.subi 767#32 (BitVec.ofNat 32 i.val)))) 128#32 + 257#32)
      (IntOp.addi (IntOp.minsi 128#32 (IntOp.maxsi 4294967168#32 (IntOp.subi 767#32 (BitVec.ofNat 32 i.val)))) 128#32)).toInt.toNat
      = min (895 - i.val) 256) i

/-- The diagonals the region finds are the table's. -/
theorem isDiag_V : IsDiag (T0 m c) (V m c main_v13) := by
  intro h k hk
  have hk' := k.isLt
  rw [V_main_v13]
  refine (pad_apply_of_inside _ _ _ _ _ _ _ (ix2 h k) (ix2 h (⟨k.val - 1, by omega⟩ : Fin 1023)) (fun a => ?_)).trans ?_
  · match a with
    | ⟨0, _⟩ => show h.val = 0 + h.val * (0 + 1); omega
    | ⟨1, _⟩ => show k.val = 1 + (k.val - 1) * (0 + 1); omega
  · refine (gather_col (n := min (896 - k.val) 256) (by omega) gather_S8x257_S1023x1_S8x1023_0_1_n_n_1_1_81_wf (T0 m c) cols1 h
      (⟨k.val - 1, by omega⟩ : Fin 1023) ?_).trans (at2_of _ _ _)
    rw [cols1_apply]
    show min (895 - (k.val - 1)) 256 = _
    omega

/-- An element of a block of rows. -/
theorem entry_of (X : S17408x512.Idx → EReal) {A : ℕ} (e : (⟨2, ![A, 512]⟩ : Shape).Idx → S17408x512.Idx) (p q p' : ℕ)
    (h0 : ∀ y, (e y 0).val = p * A + 1 * (y 0).val) (h1 : ∀ y, (e y 1).val = q * 512 + 1 * (y 1).val) (hp : p = p') (hq : q = 0)
    (k : Fin A) (l : Fin 512) : X (e (ix2 k l)) = at2 X (p' * A + k.val) l.val := by
  rw [at2_self X, h0, h1, hp, hq]
  show at2 X (p' * A + 1 * k.val) (0 * 512 + 1 * l.val) = _
  rw [Nat.one_mul, Nat.one_mul, Nat.zero_mul, Nat.zero_add]

/-- The row block of part `s` of the keys at a grid step. -/
abbrev part (t s : ℕ) : ℕ := 32 * (t / 8) + (4 * (t % 8) + s - 2)

/-- The block numbers of the windows of the queries. -/
theorem idx_q : ∀ t : Fin cfg0.N, win0_0.index t (0 : Fin 2) = t.val ∧ win0_0.index t (1 : Fin 2) = 0 :=
  (by decide +kernel : ∀ t : Fin grid0.N, _)

/-- The block numbers of the windows of the keys. -/
theorem idx_k : ∀ t : Fin cfg0.N,
    (win0_1.index t (0 : Fin 2) = part t.val 0 ∧ win0_1.index t (1 : Fin 2) = 0)
    ∧ (win0_2.index t (0 : Fin 2) = part t.val 1 ∧ win0_2.index t (1 : Fin 2) = 0)
    ∧ (win0_3.index t (0 : Fin 2) = part t.val 2 ∧ win0_3.index t (1 : Fin 2) = 0)
    ∧ (win0_4.index t (0 : Fin 2) = part t.val 3 ∧ win0_4.index t (1 : Fin 2) = 0)
    ∧ (win0_5.index t (0 : Fin 2) = part t.val 4 ∧ win0_5.index t (1 : Fin 2) = 0)
    ∧ (win0_6.index t (0 : Fin 2) = part t.val 5 ∧ win0_6.index t (1 : Fin 2) = 0) :=
  (by decide +kernel : ∀ t : Fin grid0.N, _)

/-- The block numbers of the windows of the values. -/
theorem idx_v : ∀ t : Fin cfg0.N,
    (win0_7.index t (0 : Fin 2) = part t.val 0 ∧ win0_7.index t (1 : Fin 2) = 0)
    ∧ (win0_8.index t (0 : Fin 2) = part t.val 1 ∧ win0_8.index t (1 : Fin 2) = 0)
    ∧ (win0_9.index t (0 : Fin 2) = part t.val 2 ∧ win0_9.index t (1 : Fin 2) = 0)
    ∧ (win0_10.index t (0 : Fin 2) = part t.val 3 ∧ win0_10.index t (1 : Fin 2) = 0)
    ∧ (win0_11.index t (0 : Fin 2) = part t.val 4 ∧ win0_11.index t (1 : Fin 2) = 0)
    ∧ (win0_12.index t (0 : Fin 2) = part t.val 5 ∧ win0_12.index t (1 : Fin 2) = 0) :=
  (by decide +kernel : ∀ t : Fin grid0.N, _)

/-- The block numbers of the diagonals' and the weights' windows. -/
theorem idx_d : ∀ t : Fin cfg0.N,
    (win0_13.index t (0 : Fin 2) = 0 ∧ win0_13.index t (1 : Fin 2) = 0)
    ∧ (win0_14.index t (0 : Fin 2) = 0 ∧ win0_14.index t (1 : Fin 2) = 0) :=
  (by decide +kernel : ∀ t : Fin grid0.N, _)

/-- The queries' block at an element. -/
theorem q_entry (t : Fin cfg0.N) (i : Fin 1024) (l : Fin 512) :
    (iblk m c 0 t : S1024x512.Idx → EReal) (ix2 i l) = at2 (Q0 m c) (t.val * 1024 + i.val) l.val :=
  (congrFun (V_main_arg0 m c) _).trans
    (entry_of (Q0 m c) ((cfg0.win 0).blk t).view.emb _ _ _ (fun _ => rfl) (fun _ => rfl) (idx_q t).1 (idx_q t).2 i l)

/-- A block of the keys at an element. -/
theorem k_entry (t : Fin cfg0.N) (s : ℕ) (hs : s < 6) (k : Fin 256) (l : Fin 512) :
    six (iblk m c 1 t : S256x512.Idx → EReal) (iblk m c 2 t) (iblk m c 3 t) (iblk m c 4 t) (iblk m c 5 t) (iblk m c 6 t) s (ix2 k l)
      = at2 (K0 m c) (part t.val s * 256 + k.val) l.val := by
  obtain ⟨h1, h2, h3, h4, h5, h6⟩ := idx_k t
  have hV := V_main_v14 m c
  rcases s with _ | _ | _ | _ | _ | _ | s
  · exact (congrFun hV _).trans (entry_of _ ((cfg0.win 1).blk t).view.emb _ _ _ (fun _ => rfl) (fun _ => rfl) h1.1 h1.2 k l)
  · exact (congrFun hV _).trans (entry_of _ ((cfg0.win 2).blk t).view.emb _ _ _ (fun _ => rfl) (fun _ => rfl) h2.1 h2.2 k l)
  · exact (congrFun hV _).trans (entry_of _ ((cfg0.win 3).blk t).view.emb _ _ _ (fun _ => rfl) (fun _ => rfl) h3.1 h3.2 k l)
  · exact (congrFun hV _).trans (entry_of _ ((cfg0.win 4).blk t).view.emb _ _ _ (fun _ => rfl) (fun _ => rfl) h4.1 h4.2 k l)
  · exact (congrFun hV _).trans (entry_of _ ((cfg0.win 5).blk t).view.emb _ _ _ (fun _ => rfl) (fun _ => rfl) h5.1 h5.2 k l)
  · exact (congrFun hV _).trans (entry_of _ ((cfg0.win 6).blk t).view.emb _ _ _ (fun _ => rfl) (fun _ => rfl) h6.1 h6.2 k l)
  · omega

/-- A block of the values at an element. -/
theorem v_entry (t : Fin cfg0.N) (s : ℕ) (hs : s < 6) (k : Fin 256) (l : Fin 512) :
    six (iblk m c 7 t : S256x512.Idx → EReal) (iblk m c 8 t) (iblk m c 9 t) (iblk m c 10 t) (iblk m c 11 t) (iblk m c 12 t) s (ix2 k l)
      = at2 (V0 m c) (part t.val s * 256 + k.val) l.val := by
  obtain ⟨h1, h2, h3, h4, h5, h6⟩ := idx_v t
  have hV := V_main_v15 m c
  rcases s with _ | _ | _ | _ | _ | _ | s
  · exact (congrFun hV _).trans (entry_of _ ((cfg0.win 7).blk t).view.emb _ _ _ (fun _ => rfl) (fun _ => rfl) h1.1 h1.2 k l)
  · exact (congrFun hV _).trans (entry_of _ ((cfg0.win 8).blk t).view.emb _ _ _ (fun _ => rfl) (fun _ => rfl) h2.1 h2.2 k l)
  · exact (congrFun hV _).trans (entry_of _ ((cfg0.win 9).blk t).view.emb _ _ _ (fun _ => rfl) (fun _ => rfl) h3.1 h3.2 k l)
  · exact (congrFun hV _).trans (entry_of _ ((cfg0.win 10).blk t).view.emb _ _ _ (fun _ => rfl) (fun _ => rfl) h4.1 h4.2 k l)
  · exact (congrFun hV _).trans (entry_of _ ((cfg0.win 11).blk t).view.emb _ _ _ (fun _ => rfl) (fun _ => rfl) h5.1 h5.2 k l)
  · exact (congrFun hV _).trans (entry_of _ ((cfg0.win 12).blk t).view.emb _ _ _ (fun _ => rfl) (fun _ => rfl) h6.1 h6.2 k l)
  · omega

/-- The diagonals' window holds the table's diagonals. -/
theorem d_entry (t : Fin cfg0.N) : IsDiag (T0 m c) (iblk m c 13 t) := by
  intro h k hk
  obtain ⟨⟨e0, e1⟩, -⟩ := idx_d t
  refine Eq.trans ?_ (isDiag_V m c h k hk)
  show V m c main_v13 (((cfg0.win 13).blk t).view.emb (ix2 h k)) = _
  congr 1
  funext a
  apply Fin.ext
  match a with
  | ⟨0, _⟩ => show win0_13.index t (0 : Fin 2) * 8 + 1 * h.val = h.val; omega
  | ⟨1, _⟩ => show win0_13.index t (1 : Fin 2) * 1024 + 1 * k.val = k.val; omega

/-- The weights' window at an element. -/
theorem n_entry (t : Fin cfg0.N) (C : Fin 512) : (iblk m c 14 t : S1x512.Idx → EReal) (ix2 0 C) = N0 m c (ix1 C) := by
  obtain ⟨-, e0, e1⟩ := idx_d t
  have e : V m c main_v16 (ix2 0 C) = N0 m c (ix1 C) := by
    rw [V_main_v16]
    refine shapeCast_apply _ _ _ _ ?_
    rw [Shape.rowMajor_val_one, Shape.rowMajor_val_two]
    show C.val = 0 * 512 + C.val
    omega
  refine Eq.trans ?_ e
  show V m c main_v16 (((cfg0.win 14).blk t).view.emb (ix2 0 C)) = _
  congr 1
  funext a
  apply Fin.ext
  match a with
  | ⟨0, _⟩ => show win0_14.index t (0 : Fin 2) * 1 + 1 * 0 = 0; omega
  | ⟨1, _⟩ => show win0_14.index t (1 : Fin 2) * 512 + 1 * C.val = C.val; omega

end Cert.Attn
-- ==== Proof.Attn.Outs.lean ====
/- What the grid leaves in the output: the normalised attention at each element. -/
module

public import proofs.«01_k».proof.Proof.Attn.Left
public import proofs.«01_k».proof.Proof.Attn.Windows

@[expose] public section

set_option maxRecDepth 16384

noncomputable section

namespace Cert.Attn

open Cert.KernelIdeal.Gen (V iblk outsAt0 outsAt0_A outsAt0_B outsAt0_C out0_A_15 out0_B_15 out0_C_15 sout0_A_0 scover0_A_0 cover0_A_15
  cover0_B_15 cover0_C_15)
open Cert.KernelIdeal.Value (G15 point place)
open Idealize.SL Cert.KernelIdeal Cert.KernelIdeal.Facts₀ Cert.KernelIdeal.Facts Idealize.ShloMosaic
  Idealize.ShloMosaic.TcCoe Idealize.ShloMosaic.Pointwise

variable (m : (ℓ : Loc nD τ sig) → Buf (Elt Ideal) ℓ) (c : Dev nD)

attribute [local irreducible] outsAt0

/-- The number of grid steps. -/
theorem step_lt {n : ℕ} (hn : n < cfg0.N) : n < 16 := lt_of_lt_of_eq hn (show cfg0.N = 16 from Cert.KernelIdeal.Gen.N_0)

/-- The bias the scratch holds after every step. -/
theorem scratch_value (n : ℕ) (hn : n < cfg0.N) (h : Fin 8) (r : Fin 256) (k : Fin 768) :
    (outsAt0 m c n hn).2 (ix3 h r k) = biasAt (T0 m c) h.val r.val k.val := by
  induction n using Nat.strong_induction_on with
  | _ n ih =>
    have hN := step_lt hn
    by_cases h2 : n % 8 = 0
    · by_cases h0 : n % 16 = 0
      · have e := outsAt0_A m c ⟨n, hn⟩ h0 (by show ¬1 ≤ n % 8; omega) h2
        rw [scratch_A] at e
        have e2 := congrFun (congrArg Prod.snd e) (ix3 h r k)
        dsimp only at e2
        rw [e2]
        exact canon_bias (T0 m c) _ (d_entry m c ⟨n, hn⟩) (bias_cover _) h r k
      · have e := outsAt0_C m c ⟨n, hn⟩ h0 (by show ¬1 ≤ n % 8; omega) h2
        rw [scratch_C] at e
        have e2 := congrFun (congrArg Prod.snd e) (ix3 h r k)
        dsimp only at e2
        rw [e2]
        exact ih (n - 1) (by omega) _
    · have e := outsAt0_B m c ⟨n, hn⟩ (by show ¬n % 16 = 0; omega) (by show 1 ≤ n % 8; omega) h2
      rw [scratch_B] at e
      have e2 := congrFun (congrArg Prod.snd e) (ix3 h r k)
      dsimp only at e2
      rw [e2]
      exact ih (n - 1) (by omega) _

/-- A first step of a sequence is no later step. -/
theorem later_first : ∀ t : Fin cfg0.N, t.val % 8 = 0 → later (grid0.coords t) = 0#1 :=
  (by decide +kernel : ∀ t : Fin grid0.N, _)

/-- The scores of the parts a first step drops. -/
theorem dropped_apply {S : Shape} (s : FVec Ideal S .f32) (x : S.Idx) : dropped (F := Ideal) (0#1) s x = ⊥ := rfl

variable (hQ : ∀ i j, i < 16384 → ∃ x : ℝ, at2 (Q0 m c) i j = x) (hK : ∀ i j, i < 16384 → ∃ x : ℝ, at2 (K0 m c) i j = x)
  (hT : ∀ i j, ∃ x : ℝ, at2 (T0 m c) i j = x)

include hQ hK hT in
/-- A tile over the blocks of a grid step, at an element. -/
theorem step_value (t : Fin cfg0.N) (f : FVec Ideal S256x256 .f32 → FVec Ideal S256x256 .f32)
    (g : FVec Ideal S512x256 .f32 → FVec Ideal S512x256 .f32) (φ : EReal → EReal)
    (hf : ∀ s r k, f s (ix2 r k) = φ (s (ix2 r k))) (hg : ∀ s r k, g s (ix2 r k) = φ (s (ix2 r k)))
    (hφ : (t.val % 8 = 0 ∧ φ = fun _ => ⊥) ∨ (1 ≤ t.val % 8 ∧ φ = id)) (B : Vec Ideal S8x256x768 .f32)
    (hB : ∀ (h : Fin 8) (r : Fin 256) (k : Fin 768), B (ix3 h r k) = biasAt (T0 m c) h.val r.val k.val)
    (i : Fin 1024) (C : Fin 512) :
    tile f g (loads (F := Ideal) (S := S1024x512) (e := .f32) (iblk m c 0 t)) (loads (F := Ideal) (S := S256x512) (e := .bf16) (iblk m c 1 t))
        (loads (F := Ideal) (S := S256x512) (e := .bf16) (iblk m c 2 t)) (loads (F := Ideal) (S := S256x512) (e := .bf16) (iblk m c 3 t))
        (loads (F := Ideal) (S := S256x512) (e := .bf16) (iblk m c 4 t)) (loads (F := Ideal) (S := S256x512) (e := .bf16) (iblk m c 5 t))
        (loads (F := Ideal) (S := S256x512) (e := .bf16) (iblk m c 6 t)) (loads (F := Ideal) (S := S256x512) (e := .bf16) (iblk m c 7 t))
        (loads (F := Ideal) (S := S256x512) (e := .bf16) (iblk m c 8 t)) (loads (F := Ideal) (S := S256x512) (e := .bf16) (iblk m c 9 t))
        (loads (F := Ideal) (S := S256x512) (e := .bf16) (iblk m c 10 t)) (loads (F := Ideal) (S := S256x512) (e := .bf16) (iblk m c 11 t))
        (loads (F := Ideal) (S := S256x512) (e := .bf16) (iblk m c 12 t)) (loads (F := Ideal) (S := S1x512) (e := .f32) (iblk m c 14 t))
        (loads (F := Ideal) (S := S8x256x768) (e := .f32) B) (ix2 i C)
      = normed (attend (Q0 m c) (K0 m c) (V0 m c) (T0 m c) (t.val * 1024 + i.val)) (N0 m c (ix1 C)) C.val := by
  have hN : t.val < 16 := step_lt t.isLt
  have e := tile_value (Q0 m c) (K0 m c) (V0 m c) (T0 m c) hQ hK hT f g φ hf hg (t.val / 8) (t.val % 8) (by omega) (by omega) hφ
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 14 t) B
    (fun i l => (q_entry m c t i l).trans (by congr 1; omega))
    (fun s hs h2 k l => (k_entry m c t s hs k l).trans (by congr 1; unfold part; omega))
    (fun s hs h2 k l => (v_entry m c t s hs k l).trans (by congr 1; unfold part; omega)) hB i C
  rw [n_entry] at e
  rw [e]
  congr 2
  omega

include hQ hK hT in
/-- The output block of a grid step at an element. -/
theorem out_value (t : Fin cfg0.N) (i : Fin 1024) (C : Fin 512) :
    (outsAt0 m c t.val t.isLt).1 (ix2 i C)
      = normed (attend (Q0 m c) (K0 m c) (V0 m c) (T0 m c) (t.val * 1024 + i.val)) (N0 m c (ix1 C)) C.val := by
  have hN : t.val < 16 := step_lt t.isLt
  by_cases h2 : t.val % 8 = 0
  · have drop1 : ∀ (s : FVec Ideal S256x256 .f32) (r k : Fin 256), dropped (later (grid0.coords t)) s (ix2 r k) = ⊥ := by
      intro s r k; rw [later_first t h2]; rfl
    have drop2 : ∀ (s : FVec Ideal S512x256 .f32) (r : Fin 512) (k : Fin 256), dropped (later (grid0.coords t)) s (ix2 r k) = ⊥ := by
      intro s r k; rw [later_first t h2]; rfl
    by_cases h0 : t.val % 16 = 0
    · have e := outsAt0_A m c t h0 (by omega) h2
      rw [out_A] at e
      have e2 := congrFun (congrArg Prod.fst e) (ix2 i C)
      dsimp only at e2
      rw [e2]
      exact step_value m c hQ hK hT t _ _ (fun _ => ⊥) drop1 drop2 (Or.inl ⟨h2, rfl⟩) _
        (canon_bias (T0 m c) _ (d_entry m c t) (bias_cover _)) i C
    · have e := outsAt0_C m c t h0 (by omega) h2
      rw [out_C] at e
      have e2 := congrFun (congrArg Prod.fst e) (ix2 i C)
      dsimp only at e2
      rw [e2]
      exact step_value m c hQ hK hT t _ _ (fun _ => ⊥) drop1 drop2 (Or.inl ⟨h2, rfl⟩) _ (scratch_value m c _ _) i C
  · have e := outsAt0_B m c t (by omega) (by omega) h2
    rw [out_B] at e
    have e2 := congrFun (congrArg Prod.fst e) (ix2 i C)
    dsimp only at e2
    rw [e2]
    exact step_value m c hQ hK hT t _ _ id (fun _ _ _ => rfl) (fun _ _ _ => rfl) (Or.inr ⟨by omega, rfl⟩) _ (scratch_value m c _ _) i C

include hQ hK hT in
/-- The output at an element. -/
theorem G15_value (R : Fin 16384) (C : Fin 512) :
    G15 m c (ix2 R C) = normed (attend (Q0 m c) (K0 m c) (V0 m c) (T0 m c) R.val) (N0 m c (ix1 C)) C.val := by
  have hC := C.isLt
  have hR := R.isLt
  have e := out_value m c hQ hK hT (point (ix2 R C)) (⟨R.val % 1024, by omega⟩ : Fin 1024) C
  have ep : place (ix2 R C) = ix2 (⟨R.val % 1024, by omega⟩ : Fin 1024) C := by
    funext a
    apply Fin.ext
    match a with
    | ⟨0, _⟩ => rfl
    | ⟨1, _⟩ => show C.val % 512 = C.val; omega
  show (outsAt0 m c (point (ix2 R C)).val (point (ix2 R C)).isLt).1 (place (ix2 R C)) = _
  rw [ep, e]
  congr 2
  show R.val / 1024 * 1024 + R.val % 1024 = R.val
  omega

end Cert.Attn
-- ==== Proof.Attn.RefBand.lean ====
/- The reference's queries and its bands of keys and values, at an element. -/
module

public import proofs.«01_k».proof.Proof.Gen.ReferenceIdeal.Read
public import proofs.«01_k».proof.Proof.Attn.Spec

@[expose] public section

set_option maxRecDepth 16384

noncomputable section

namespace Cert.Attn

open Cert.ReferenceIdeal Cert.ReferenceIdeal.Read Idealize.ShloMosaic Idealize.ShloMosaic.Pointwise

/-- An entry at an index whose coordinates are known. -/
theorem entry2 {a b : ℕ} (X : Shape.Idx ⟨2, ![a, b]⟩ → EReal) (y : Shape.Idx ⟨2, ![a, b]⟩) (i j : ℕ) (h0 : (y 0).val = i)
    (h1 : (y 1).val = j) : X y = at2 X i j := by
  subst h0 h1
  rw [← at2_of X (y 0) (y 1)]
  congr 1
  funext e
  match e with
  | ⟨0, _⟩ => rfl
  | ⟨1, _⟩ => rfl

/-- The entry of a band: chunk `n` of sequence `b` at place `kk` of its window, zero before the sequence. -/
def bandAt (X : S17408x512.Idx → EReal) (b n kk C : ℕ) : EReal :=
  if 512 ≤ n * 64 + kk then at2 X (b * 8192 + n * 64 + kk - 512) C else 0

variable (x : S17408x512.Idx → EReal) (b : Fin 2) (n : Fin 128) (h : Fin 8) (d : Fin 64)

/-- The keys by head. -/
theorem key_apply (s : Fin 8192) : val_main_v3 (F := Ideal) x (ix4 b s h d) = at2 x (b.val * 8192 + s.val) (64 * h.val + d.val) := by
  have hb := b.isLt; have hh := h.isLt; have hd := d.isLt; have hs := s.isLt
  rw [val_main_v3_apply, val_main_v2_apply]
  refine entry2 x _ _ _ ?_ ?_
  · show (((b.val * 8192 + s.val) * 8 + h.val) * 64 + d.val) / 512 = _
    omega
  · show (((b.val * 8192 + s.val) * 8 + h.val) * 64 + d.val) % 512 = _
    omega

/-- The queries by chunk. -/
theorem query_apply (i : Fin 64) : val_main_v6 (F := Ideal) x (ix5 b n i h d)
    = at2 x (b.val * 8192 + n.val * 64 + i.val) (64 * h.val + d.val) := by
  have hb := b.isLt; have hn := n.isLt; have hh := h.isLt; have hd := d.isLt; have hi := i.isLt
  rw [val_main_v6_apply]
  have e : idx_main_v6 (ix5 b n i h d) = ix4 b ⟨n.val * 64 + i.val, by omega⟩ h d := by
    funext a
    apply Fin.ext
    match a with
    | ⟨0, _⟩ => show ((((b.val * 128 + n.val) * 64 + i.val) * 8 + h.val) * 64 + d.val) / 4194304 = b.val; omega
    | ⟨1, _⟩ => show ((((b.val * 128 + n.val) * 64 + i.val) * 8 + h.val) * 64 + d.val) / 512 % 8192 = n.val * 64 + i.val; omega
    | ⟨2, _⟩ => show ((((b.val * 128 + n.val) * 64 + i.val) * 8 + h.val) * 64 + d.val) / 64 % 8 = h.val; omega
    | ⟨3, _⟩ => show ((((b.val * 128 + n.val) * 64 + i.val) * 8 + h.val) * 64 + d.val) % 64 = d.val; omega
  rw [e]
  refine (key_apply x b h d _).trans ?_
  rw [← Nat.add_assoc]

/-- The keys after 512 rows of zeros. -/
theorem padded_apply (s : Fin 8704) : val_main_v8 (F := Ideal) x (ix4 b s h d)
    = if 512 ≤ s.val then at2 x (b.val * 8192 + s.val - 512) (64 * h.val + d.val) else 0 := by
  have hs := s.isLt
  have e0 : ∀ j, val_main_v7 (F := Ideal) j = 0 := by
    intro j
    rw [val_main_v7_apply, val_main_cst_apply]
    simp [Ideal.ofBits, Ideal.ieee]
  have e1 := key_apply x b h d
  unfold val_main_v8
  generalize val_main_v7 (F := Ideal) = z at e0 ⊢
  generalize val_main_v3 (F := Ideal) x = y at e1 ⊢
  by_cases h1 : 512 ≤ s.val
  · rw [if_pos h1]
    pointwise []
    rw [dif_neg (by omega)]
    exact (e1 ⟨s.val - 512, by omega⟩).trans (by rw [← Nat.add_sub_assoc h1])
  · rw [if_neg h1]
    pointwise []
    rw [dif_pos (by omega)]
    exact e0 _

/-- The keys after the zeros, by chunk. -/
theorem chunks_apply (p : Fin 136) (i : Fin 64) : val_main_v9 (F := Ideal) x (ix5 b p i h d)
    = if 512 ≤ p.val * 64 + i.val then at2 x (b.val * 8192 + p.val * 64 + i.val - 512) (64 * h.val + d.val) else 0 := by
  have hb := b.isLt; have hp := p.isLt; have hh := h.isLt; have hd := d.isLt; have hi := i.isLt
  rw [val_main_v9_apply]
  have e : idx_main_v9 (ix5 b p i h d) = ix4 b ⟨p.val * 64 + i.val, by omega⟩ h d := by
    funext a
    apply Fin.ext
    match a with
    | ⟨0, _⟩ => show ((((b.val * 136 + p.val) * 64 + i.val) * 8 + h.val) * 64 + d.val) / 4456448 = b.val; omega
    | ⟨1, _⟩ => show ((((b.val * 136 + p.val) * 64 + i.val) * 8 + h.val) * 64 + d.val) / 512 % 8704 = p.val * 64 + i.val; omega
    | ⟨2, _⟩ => show ((((b.val * 136 + p.val) * 64 + i.val) * 8 + h.val) * 64 + d.val) / 64 % 8 = h.val; omega
    | ⟨3, _⟩ => show ((((b.val * 136 + p.val) * 64 + i.val) * 8 + h.val) * 64 + d.val) % 64 = d.val; omega
  rw [e, padded_apply]
  simp only [Nat.add_assoc]

/-- A part of the band: the chunks moved by `o`. -/
theorem part_of (i : Fin 64) (o : ℕ) (ho : o < 9) (y : S2x136x64x8x64.Idx) (h0 : (y 0).val = b.val) (h1 : (y 1).val = o + n.val)
    (h2 : (y 2).val = i.val) (h3 : (y 3).val = h.val) (h4 : (y 4).val = d.val) (kk : ℕ) (hk : kk = 64 * o + i.val) :
    val_main_v9 (F := Ideal) x y = bandAt x b.val n.val kk (64 * h.val + d.val) := by
  have hn := n.isLt
  have e : y = ix5 b ⟨o + n.val, by omega⟩ i h d := by
    funext a
    apply Fin.ext
    match a with
    | ⟨0, _⟩ => exact h0
    | ⟨1, _⟩ => exact h1
    | ⟨2, _⟩ => exact h2
    | ⟨3, _⟩ => exact h3
    | ⟨4, _⟩ => exact h4
  rw [e, chunks_apply]
  unfold bandAt
  have e1 : (o + n.val) * 64 + i.val = n.val * 64 + kk := by omega
  have e2 : b.val * 8192 + (o + n.val) * 64 + i.val - 512 = b.val * 8192 + n.val * 64 + kk - 512 := by omega
  rw [e1, e2]

/-- The part moved by 0. -/
theorem part0 (i : Fin 64) (kk : ℕ) (hk : kk = 0 + i.val) :
    val_main_v12 (F := Ideal) x (ix5 b n i h d) = bandAt x b.val n.val kk (64 * h.val + d.val) := by
  rw [val_main_v12_apply]
  exact part_of x b n h d i 0 (by omega) _ rfl (by show n.val = 0 + n.val; omega) rfl rfl rfl kk hk

/-- The part moved by 1. -/
theorem part1 (i : Fin 64) (kk : ℕ) (hk : kk = 64 + i.val) :
    val_main_v13 (F := Ideal) x (ix5 b n i h d) = bandAt x b.val n.val kk (64 * h.val + d.val) := by
  rw [val_main_v13_apply]
  exact part_of x b n h d i 1 (by omega) _ rfl rfl rfl rfl rfl kk hk

/-- The part moved by 2. -/
theorem part2 (i : Fin 64) (kk : ℕ) (hk : kk = 128 + i.val) :
    val_main_v14 (F := Ideal) x (ix5 b n i h d) = bandAt x b.val n.val kk (64 * h.val + d.val) := by
  rw [val_main_v14_apply]
  exact part_of x b n h d i 2 (by omega) _ rfl rfl rfl rfl rfl kk hk

/-- The part moved by 3. -/
theorem part3 (i : Fin 64) (kk : ℕ) (hk : kk = 192 + i.val) :
    val_main_v15 (F := Ideal) x (ix5 b n i h d) = bandAt x b.val n.val kk (64 * h.val + d.val) := by
  rw [val_main_v15_apply]
  exact part_of x b n h d i 3 (by omega) _ rfl rfl rfl rfl rfl kk hk

/-- The part moved by 4. -/
theorem part4 (i : Fin 64) (kk : ℕ) (hk : kk = 256 + i.val) :
    val_main_v16 (F := Ideal) x (ix5 b n i h d) = bandAt x b.val n.val kk (64 * h.val + d.val) := by
  rw [val_main_v16_apply]
  exact part_of x b n h d i 4 (by omega) _ rfl rfl rfl rfl rfl kk hk

/-- The part moved by 5. -/
theorem part5 (i : Fin 64) (kk : ℕ) (hk : kk = 320 + i.val) :
    val_main_v17 (F := Ideal) x (ix5 b n i h d) = bandAt x b.val n.val kk (64 * h.val + d.val) := by
  rw [val_main_v17_apply]
  exact part_of x b n h d i 5 (by omega) _ rfl rfl rfl rfl rfl kk hk

/-- The part moved by 6. -/
theorem part6 (i : Fin 64) (kk : ℕ) (hk : kk = 384 + i.val) :
    val_main_v18 (F := Ideal) x (ix5 b n i h d) = bandAt x b.val n.val kk (64 * h.val + d.val) := by
  rw [val_main_v18_apply]
  exact part_of x b n h d i 6 (by omega) _ rfl rfl rfl rfl rfl kk hk

/-- The part moved by 7. -/
theorem part7 (i : Fin 64) (kk : ℕ) (hk : kk = 448 + i.val) :
    val_main_v19 (F := Ideal) x (ix5 b n i h d) = bandAt x b.val n.val kk (64 * h.val + d.val) := by
  rw [val_main_v19_apply]
  exact part_of x b n h d i 7 (by omega) _ rfl rfl rfl rfl rfl kk hk

/-- The part moved by 8. -/
theorem part8 (i : Fin 64) (kk : ℕ) (hk : kk = 512 + i.val) :
    val_main_v20 (F := Ideal) x (ix5 b n i h d) = bandAt x b.val n.val kk (64 * h.val + d.val) := by
  rw [val_main_v20_apply]
  exact part_of x b n h d i 8 (by omega) _ rfl rfl rfl rfl rfl kk hk

/-- The band of keys. -/
theorem keys_apply (kk : Fin 576) : val_main_v21 (F := Ideal) x (ix5 b n kk h d) = bandAt x b.val n.val kk.val (64 * h.val + d.val) := by
  have hk := kk.isLt
  have e0 := part0 x b n h d
  have e1 := part1 x b n h d
  have e2 := part2 x b n h d
  have e3 := part3 x b n h d
  have e4 := part4 x b n h d
  have e5 := part5 x b n h d
  have e6 := part6 x b n h d
  have e7 := part7 x b n h d
  have e8 := part8 x b n h d
  unfold val_main_v21
  generalize val_main_v12 (F := Ideal) x = y0 at e0 ⊢
  generalize val_main_v13 (F := Ideal) x = y1 at e1 ⊢
  generalize val_main_v14 (F := Ideal) x = y2 at e2 ⊢
  generalize val_main_v15 (F := Ideal) x = y3 at e3 ⊢
  generalize val_main_v16 (F := Ideal) x = y4 at e4 ⊢
  generalize val_main_v17 (F := Ideal) x = y5 at e5 ⊢
  generalize val_main_v18 (F := Ideal) x = y6 at e6 ⊢
  generalize val_main_v19 (F := Ideal) x = y7 at e7 ⊢
  generalize val_main_v20 (F := Ideal) x = y8 at e8 ⊢
  pointwise []
  split_ifs
  all_goals first
    | exact e0 ⟨kk.val, by omega⟩ kk.val (by show kk.val = 0 + (kk.val); omega)
    | exact e1 ⟨kk.val - 64, by omega⟩ kk.val (by show kk.val = 64 + (kk.val - 64); omega)
    | exact e2 ⟨kk.val - 64 - 64, by omega⟩ kk.val (by show kk.val = 128 + (kk.val - 64 - 64); omega)
    | exact e3 ⟨kk.val - 64 - 64 - 64, by omega⟩ kk.val (by show kk.val = 192 + (kk.val - 64 - 64 - 64); omega)
    | exact e4 ⟨kk.val - 64 - 64 - 64 - 64, by omega⟩ kk.val (by show kk.val = 256 + (kk.val - 64 - 64 - 64 - 64); omega)
    | exact e5 ⟨kk.val - 64 - 64 - 64 - 64 - 64, by omega⟩ kk.val (by show kk.val = 320 + (kk.val - 64 - 64 - 64 - 64 - 64); omega)
    | exact e6 ⟨kk.val - 64 - 64 - 64 - 64 - 64 - 64, by omega⟩ kk.val (by show kk.val = 384 + (kk.val - 64 - 64 - 64 - 64 - 64 - 64); omega)
    | exact e7 ⟨kk.val - 64 - 64 - 64 - 64 - 64 - 64 - 64, by omega⟩ kk.val (by show kk.val = 448 + (kk.val - 64 - 64 - 64 - 64 - 64 - 64 - 64); omega)
    | exact e8 ⟨kk.val - 64 - 64 - 64 - 64 - 64 - 64 - 64 - 64, by omega⟩ kk.val (by show kk.val = 512 + (kk.val - 64 - 64 - 64 - 64 - 64 - 64 - 64 - 64); omega)

/-- The band of values is built alike. -/
theorem values_apply (kk : Fin 576) : val_main_v31 (F := Ideal) x (ix5 b n kk h d) = bandAt x b.val n.val kk.val (64 * h.val + d.val) :=
  keys_apply x b n h d kk

end Cert.Attn
-- ==== Proof.Attn.RefInts.lean ====
/- The reference's distances and its test of a place, at an element. -/
module

public import proofs.«01_k».proof.Proof.Gen.ReferenceIdeal.Read
public import proofs.«01_k».proof.Proof.Attn.Spec

@[expose] public section

set_option maxRecDepth 16384

noncomputable section

namespace Cert.Attn

open Cert.ReferenceIdeal Cert.ReferenceIdeal.Read Idealize.ShloMosaic Idealize.ShloMosaic.Pointwise

/-- The column of the table a distance names. -/
theorem column_word : ∀ z : Fin 639,
    (Scalar.select (IntOp.cmpi .slt (IntOp.addi (IntOp.minsi 128#32 (IntOp.maxsi 4294967168#32 (IntOp.subi (BitVec.ofNat 32 z.val) 63#32))) 128#32) 0#32)
      (IntOp.addi (IntOp.addi (IntOp.minsi 128#32 (IntOp.maxsi 4294967168#32 (IntOp.subi (BitVec.ofNat 32 z.val) 63#32))) 128#32) 257#32)
      (IntOp.addi (IntOp.minsi 128#32 (IntOp.maxsi 4294967168#32 (IntOp.subi (BitVec.ofNat 32 z.val) 63#32))) 128#32)).toInt.toNat
      = min (z.val + 65) 256 := by decide +kernel

/-- The distance of place `kk` from row `i` of a chunk. -/
theorem distance_word (i : Fin 64) (kk : Fin 576) : IntOp.subi (IntOp.addi 512#32 (BitVec.ofNat 32 i.val)) (BitVec.ofNat 32 kk.val)
    = IntOp.subi (BitVec.ofNat 32 (575 + i.val - kk.val)) 63#32 := by
  have hi := i.isLt
  have hk := kk.isLt
  apply BitVec.eq_of_toNat_eq
  simp only [IntOp.subi, IntOp.addi, BitVec.toNat_sub, BitVec.toNat_add, BitVec.toNat_ofNat]
  omega

/-- The column of the table used at row `i` of a chunk and place `kk`. -/
theorem column_apply (i : Fin 64) (kk : Fin 576) :
    (val_main_v49 (F := Ideal) (ix3 i kk 0)).toInt.toNat = min (640 + i.val - kk.val) 256 := by
  have hi := i.isLt
  have hk := kk.isLt
  have e : val_main_v40 (F := Ideal) (ix2 i kk) = IntOp.subi (IntOp.addi 512#32 (BitVec.ofNat 32 i.val)) (BitVec.ofNat 32 kk.val) := rfl
  rw [distance_word] at e
  have e2 := column_word ⟨575 + i.val - kk.val, by omega⟩
  dsimp only at e2
  rw [← e] at e2
  refine Eq.trans ?_ (e2.trans (by omega))
  rfl

/-- The chunk of a place. -/
theorem place_chunk : ∀ kk : Fin 576, val_main_v57 (F := Ideal) (ix2 0 kk) = BitVec.ofNat 32 (kk.val / 64) := by decide +kernel

/-- The test of a chunk against the first of the sequence. -/
theorem first_word : ∀ (n : Fin 128) (o : Fin 9), IntOp.cmpi .sge (IntOp.addi (IntOp.subi (BitVec.ofNat 32 n.val) 8#32) (BitVec.ofNat 32 o.val)) 0#32
    = if 8 ≤ n.val + o.val then 1#1 else 0#1 := by decide +kernel

/-- Whether place `kk` of the window of chunk `n` is in the sequence. -/
theorem valid_apply (n : Fin 128) (kk : Fin 576) : val_main_v62 (F := Ideal) (ix2 n kk)
    = if 512 ≤ n.val * 64 + kk.val then 1#1 else 0#1 := by
  have hk := kk.isLt
  have e : val_main_v62 (F := Ideal) (ix2 n kk)
      = IntOp.cmpi .sge (IntOp.addi (IntOp.subi (BitVec.ofNat 32 n.val) 8#32) (val_main_v57 (F := Ideal) (ix2 0 kk))) 0#32 := rfl
  rw [e, place_chunk]
  have e2 := first_word n ⟨kk.val / 64, by omega⟩
  dsimp only at e2
  rw [e2]
  exact if_congr (by omega) rfl rfl

end Cert.Attn
-- ==== Proof.Attn.RefValue.lean ====
/- The reference's attention, at an element. -/
module

public import proofs.«01_k».proof.Proof.Attn.RefBand
public import proofs.«01_k».proof.Proof.Attn.RefInts
public import proofs.«01_k».proof.Proof.Attn.Gather

@[expose] public section

set_option maxRecDepth 16384

noncomputable section

namespace Cert.Attn

open Cert.ReferenceIdeal Cert.ReferenceIdeal.Read Idealize.ShloMosaic Idealize.ShloMosaic.Pointwise

/-- An index of five axes with known coordinates. -/
theorem index5 {p q r s t : ℕ} (y : Shape.Idx ⟨5, ![p, q, r, s, t]⟩) (a : Fin p) (b : Fin q) (c : Fin r) (d : Fin s) (e : Fin t)
    (ha : (y 0).val = a.val) (hb : (y 1).val = b.val) (hc : (y 2).val = c.val) (hd : (y 3).val = d.val) (he : (y 4).val = e.val) :
    y = ix5 a b c d e := by
  funext z
  apply Fin.ext
  match z with
  | ⟨0, _⟩ => exact ha
  | ⟨1, _⟩ => exact hb
  | ⟨2, _⟩ => exact hc
  | ⟨3, _⟩ => exact hd
  | ⟨4, _⟩ => exact he

/-- An index of four axes with known coordinates. -/
theorem index4 {p q r s : ℕ} (y : Shape.Idx ⟨4, ![p, q, r, s]⟩) (a : Fin p) (b : Fin q) (c : Fin r) (d : Fin s)
    (ha : (y 0).val = a.val) (hb : (y 1).val = b.val) (hc : (y 2).val = c.val) (hd : (y 3).val = d.val) :
    y = ix4 a b c d := by
  funext z
  apply Fin.ext
  match z with
  | ⟨0, _⟩ => exact ha
  | ⟨1, _⟩ => exact hb
  | ⟨2, _⟩ => exact hc
  | ⟨3, _⟩ => exact hd

/-- The word of minus infinity. -/
theorem bits_bot : Ideal.ofBits FTy.f32 0xFF800000#32 = ⊥ := by simp [Ideal.ofBits, Ideal.ieee]

/-- The word of an eighth. -/
theorem bits_eighth : Ideal.ofBits FTy.f32 0x3E000000#32 = ((1 / 8 : ℝ) : EReal) := by
  simp [Ideal.ofBits, Ideal.ieee]
  rw [← EReal.coe_mul]
  congr 1
  norm_num

/-- The word of zero. -/
theorem bits_zero : Ideal.ofBits FTy.f32 0x00000000#32 = 0 := by simp [Ideal.ofBits, Ideal.ieee]

/-- The row of the queries that row `i` of a chunk is. -/
def rowAt (b : Fin 2) (n : Fin 128) (i : Fin 64) : ℕ := b.val * 8192 + n.val * 64 + i.val

theorem isKey_row (b : Fin 2) (n : Fin 128) (i : Fin 64) (kk : ℕ) : IsKey (rowAt b n i) kk ↔ 512 ≤ n.val * 64 + kk := by
  have hb := b.isLt; have hn := n.isLt; have hi := i.isLt
  unfold IsKey rowAt
  have e : (b.val * 8192 + n.val * 64 + i.val) % 8192 / 64 = n.val := by omega
  rw [e]

theorem keyRow_row (b : Fin 2) (n : Fin 128) (i : Fin 64) (kk : ℕ) : keyRow (rowAt b n i) kk = b.val * 8192 + n.val * 64 + kk - 512 := by
  have hb := b.isLt; have hn := n.isLt; have hi := i.isLt
  unfold keyRow rowAt
  have e : (b.val * 8192 + n.val * 64 + i.val) % 8192 / 64 = n.val := by omega
  have e2 : (b.val * 8192 + n.val * 64 + i.val) / 8192 = b.val := by omega
  rw [e, e2]

variable (q k v : S17408x512.Idx → EReal) (table : S8x257.Idx → EReal)
variable (b : Fin 2) (n : Fin 128) (h : Fin 8) (i : Fin 64) (kk : Fin 576)

/-- The products of the queries with the keys. -/
theorem product_apply (hk : IsKey (rowAt b n i) kk.val) : val_main_v63 (F := Ideal) q k (ix5 b n h i kk)
    = ∑ x : Fin 64, at2 q (rowAt b n i) (64 * h.val + x.val) * at2 k (keyRow (rowAt b n i) kk.val) (64 * h.val + x.val) := by
  rw [val_main_v63_apply]
  refine Finset.sum_congr rfl fun x _ => ?_
  rw [index5 (lidx_main_v63 (ix5 b n h i kk) x) b n i h x rfl rfl rfl rfl rfl,
    index5 (ridx_main_v63 (ix5 b n h i kk) x) b n kk h x rfl rfl rfl rfl rfl, query_apply, keys_apply]
  unfold bandAt
  rw [if_pos ((isKey_row b n i kk.val).1 hk), keyRow_row]
  rfl

/-- The bias of a distance. -/
theorem bias_apply : val_main_v67 (F := Ideal) table (ix5 b n h i kk) = at2 table h.val (min (640 + i.val - kk.val) 256) := by
  rw [val_main_v67_apply, val_main_v66_apply]
  have e : idx_main_v66 (idx_main_v67 (ix5 b n h i kk)) = ix3 h i kk := by
    funext z
    match z with
    | ⟨0, _⟩ => rfl
    | ⟨1, _⟩ => rfl
    | ⟨2, _⟩ => rfl
  rw [e]
  unfold val_main_v50
  exact (gather_col2 (n := min (640 + i.val - kk.val) 256) (by omega) _ table _ h i kk (column_apply i kk)).trans (at2_of _ _ _)

/-- The test of a place. -/
theorem test_apply : val_main_call2_v1 (F := Ideal) (ix5 b n h i kk) = if IsKey (rowAt b n i) kk.val then 1#1 else 0#1 := by
  rw [val_main_call2_v1_apply, val_main_v69_apply]
  have e : idx_main_v69 (idx_main_call2_v1 (ix5 b n h i kk)) = ix2 n kk := by
    funext z
    match z with
    | ⟨0, _⟩ => rfl
    | ⟨1, _⟩ => rfl
  rw [e, valid_apply]
  exact if_congr (isKey_row b n i kk.val).symm rfl rfl

/-- The scores. -/
theorem score_apply : val_main_v70 (F := Ideal) q k table (ix5 b n h i kk) = score q k table (rowAt b n i) h.val kk.val := by
  rw [val_main_v70_apply, test_apply]
  unfold score
  by_cases hk : IsKey (rowAt b n i) kk.val
  · rw [if_pos hk, if_pos hk]
    show val_main_v68 (F := Ideal) q k table (ix5 b n h i kk) = _
    rw [val_main_v68_apply, val_main_v65_apply, val_main_v64_apply, val_main_cst_8_apply, product_apply q k b n h i kk hk, bias_apply]
    have hi : rowAt b n i % 64 = i.val := by have := i.isLt; unfold rowAt; omega
    show _ * Ideal.ofBits FTy.f32 0x3E000000#32 + _ = _
    rw [bits_eighth, hi]
  · rw [if_neg hk, if_neg hk]
    show val_main_call2_v2 (F := Ideal) (ix5 b n h i kk) = ⊥
    rw [val_main_call2_v2_apply, val_main_call2_v0_apply, val_main_cst_9_apply]
    exact bits_bot

/-- Rows of five axes reduced over the last. -/
theorem reduces_last : S2x128x8x64x576.Reduces [4] S2x128x8x64 := by decide

/-- The greatest scores. -/
theorem top_apply : val_main_v73 (F := Ideal) q k table (ix4 b n h i) = top q k table (rowAt b n i) h.val := by
  rw [val_main_v73_apply, val_main_v72_apply, val_main_cst_11_apply]
  have e : val_main_v71 (F := Ideal) q k table (ix4 b n h i) = top q k table (rowAt b n i) h.val := by
    unfold val_main_v71
    refine (Host.reduce_eq_fold_single (fun x y : EReal => max x y) _ _ _ reduces_last _ _).trans ?_
    unfold top
    rw [val_main_cst_10_apply]
    show Finset.fold max (Ideal.ofBits FTy.f32 0xFF800000#32) _ _ = _
    rw [bits_bot]
    show Finset.fold max ⊥ _ _ = Finset.fold max ⊥ _ _
    refine Finset.fold_congr fun x _ => ?_
    show val_main_v70 (F := Ideal) q k table (reduces_last.lift (ix4 b n h i) x) = _
    rw [index5 (reduces_last.lift (ix4 b n h i) x) b n h i x rfl rfl rfl rfl rfl]
    exact score_apply q k table b n h i x
  rw [e]
  show max (Ideal.ofBits FTy.f32 0xFF800000#32) _ = _
  rw [bits_bot]
  exact max_bot_left _

/-- The exponentials. -/
theorem exp_apply : val_main_v77 (F := Ideal) q k table (ix5 b n h i kk)
    = Ideal.exp (score q k table (rowAt b n i) h.val kk.val - top q k table (rowAt b n i) h.val) := by
  rw [val_main_v77_apply, val_main_v76_apply, score_apply, val_main_v75_apply, val_main_v74_apply]
  rw [index4 (idx_main_v74 (idx_main_v75 (ix5 b n h i kk))) b n h i rfl rfl rfl rfl, top_apply]
  rfl

/-- The weights. -/
theorem weight_apply : val_main_v81 (F := Ideal) q k table (ix5 b n h i kk)
    = Ideal.div (Ideal.exp (score q k table (rowAt b n i) h.val kk.val - top q k table (rowAt b n i) h.val))
      (∑ j : Fin 576, Ideal.exp (score q k table (rowAt b n i) h.val j.val - top q k table (rowAt b n i) h.val)) := by
  rw [val_main_v81_apply, exp_apply, val_main_v80_apply, val_main_v79_apply]
  rw [index4 (idx_main_v79 (idx_main_v80 (ix5 b n h i kk))) b n h i rfl rfl rfl rfl, val_main_v78_apply, val_main_cst_12_apply]
  have e : ∀ j : Fin 576, val_main_v77 (F := Ideal) q k table (idx_main_v78 (ix4 b n h i) j)
      = Ideal.exp (score q k table (rowAt b n i) h.val j.val - top q k table (rowAt b n i) h.val) := by
    intro j
    rw [index5 (idx_main_v78 (ix4 b n h i) j) b n h i j rfl rfl rfl rfl rfl, exp_apply]
  rw [Finset.sum_congr rfl fun j _ => e j]
  show Ideal.div _ (Ideal.ofBits FTy.f32 0x00000000#32 + _) = _
  rw [bits_zero, zero_add]

/-- The attention by chunk and head. -/
theorem attend_chunk (d : Fin 64) : val_main_v82 (F := Ideal) q k v table (ix5 b n h d i)
    = attend q k v table (rowAt b n i) (64 * h.val + d.val) := by
  have hd := d.isLt
  rw [val_main_v82_apply]
  unfold attend
  have eh : (64 * h.val + d.val) / 64 = h.val := by omega
  rw [eh]
  refine Finset.sum_congr rfl fun x _ => ?_
  rw [index5 (lidx_main_v82 (ix5 b n h d i) x) b n x h d rfl rfl rfl rfl rfl,
    index5 (ridx_main_v82 (ix5 b n h d i) x) b n h i x rfl rfl rfl rfl rfl, values_apply, weight_apply, mul_comm]
  congr 1
  unfold bandAt valueAt
  rw [keyRow_row]
  exact if_congr (isKey_row b n i x.val).symm rfl rfl

/-- The attention. -/
theorem attend_apply (R : Fin 16384) (C : Fin 512) : val_main_v84 (F := Ideal) q k v table (ix2 R C) = attend q k v table R.val C.val := by
  have hR := R.isLt
  have hC := C.isLt
  rw [val_main_v84_apply, val_main_v83_apply]
  rw [index5 (idx_main_v83 (idx_main_v84 (ix2 R C))) (⟨R.val / 8192, by omega⟩ : Fin 2) (⟨R.val / 64 % 128, by omega⟩ : Fin 128)
    (⟨C.val / 64, by omega⟩ : Fin 8) (⟨C.val % 64, by omega⟩ : Fin 64) (⟨R.val % 64, by omega⟩ : Fin 64)
    (by show (R.val * 512 + C.val) / 4194304 = R.val / 8192; omega) (by show (R.val * 512 + C.val) / 32768 % 128 = R.val / 64 % 128; omega)
    (by show (R.val * 512 + C.val) / 64 % 8 = C.val / 64; omega) (by show (R.val * 512 + C.val) % 64 = C.val % 64; omega)
    (by show (R.val * 512 + C.val) / 512 % 64 = R.val % 64; omega), attend_chunk]
  have e1 : rowAt (⟨R.val / 8192, by omega⟩ : Fin 2) (⟨R.val / 64 % 128, by omega⟩ : Fin 128) (⟨R.val % 64, by omega⟩ : Fin 64) = R.val := by
    show R.val / 8192 * 8192 + R.val / 64 % 128 * 64 + R.val % 64 = R.val
    omega
  have e2 : 64 * (⟨C.val / 64, by omega⟩ : Fin 8).val + (⟨C.val % 64, by omega⟩ : Fin 64).val = C.val := by
    show 64 * (C.val / 64) + C.val % 64 = C.val
    omega
  rw [e1, e2]

/-- The reference's result. -/
theorem reference_value (w : S512.Idx → EReal) (R : Fin 16384) (C : Fin 512) :
    val_main_v98 (F := Ideal) q k v table w (ix2 R C) = normed (attend q k v table R.val) (w (ix1 C)) C.val := by
  have e1 : val_main_v93 (F := Ideal) q k v table (ix2 R C) = Ideal.rsqrt
      (Ideal.div (val_main_v86 (F := Ideal) q k v table (ix1 R)) (Ideal.ofBits FTy.f32 1140850688#32) + Ideal.ofBits FTy.f32 925353388#32) := by
    rw [val_main_v93_apply, val_main_v92_apply, val_main_v91_apply, val_main_v90_apply, val_main_cst_15_apply, val_main_v89_apply,
      val_main_v88_apply, val_main_cst_14_apply, val_main_v87_apply]
    have e : idx_main_v87 (idx_main_v93 (ix2 R C)) = ix1 R := by
      funext z
      match z with
      | ⟨0, _⟩ => rfl
    rw [e]
    rfl
  have e2 : val_main_v86 (F := Ideal) q k v table (ix1 R) = ∑ x : Fin 512, attend q k v table R.val x.val * attend q k v table R.val x.val := by
    rw [val_main_v86_apply, val_main_cst_13_apply]
    show Ideal.ofBits FTy.f32 0x00000000#32 + _ = _
    rw [bits_zero, zero_add]
    refine Finset.sum_congr rfl fun x _ => ?_
    have e : idx_main_v86 (ix1 R) x = ix2 R x := by
      funext z
      match z with
      | ⟨0, _⟩ => rfl
      | ⟨1, _⟩ => rfl
    rw [e, val_main_v85_apply, attend_apply]
    rfl
  have e3 : val_main_v96 (F := Ideal) w (ix2 R C) = w (ix1 C) := by
    rw [val_main_v96_apply, val_main_v95_apply]
    have e : idx_main_v95 (idx_main_v96 (ix2 R C)) = ix1 C := by
      funext z
      match z with
      | ⟨0, _⟩ => rfl
    rw [e]
  rw [val_main_v98_apply, val_main_v97_apply, val_main_v94_apply, attend_apply, e3, e1, e2]
  rfl

end Cert.Attn
-- ==== Proof.Attn.Finite.lean ====
/- What the precondition says of an element. -/
module

public import proofs.«01_k».proof.Proof.Gen.Pre_finite
public import proofs.«01_k».proof.Proof.Attn.Spec
public import Idealize.ShloMosaic.PureOps.Ideal.Laws

@[expose] public section

noncomputable section

namespace Cert.Attn

open Cert.Pre_finite Idealize.ShloMosaic Idealize.ShloMosaic.Pointwise

/-- An extended real whose absolute value the machine finds below infinity is a real. -/
theorem real_of_below (x : EReal) (h : Ideal.cmp .olt (max x (-x)) (Ideal.ofBits FTy.f32 0x7F800000#32) = 1#1) : ∃ r : ℝ, x = r := by
  have e : Ideal.ofBits FTy.f32 0x7F800000#32 = ⊤ := by simp [Ideal.ofBits, Ideal.ieee]
  rw [e] at h
  induction x with
  | bot => simp [Ideal.cmp] at h
  | top => simp [Ideal.cmp] at h
  | coe r => exact ⟨r, rfl⟩

variable (q k v : S17408x512.Idx → EReal) (table : S8x257.Idx → EReal) (w : S512.Idx → EReal)

/-- The first 16384 rows of the queries are real. -/
theorem real_q (h : (fn (F := Ideal) q k v table w).1 = fun _ => 1#1) (i j : ℕ) (hi : i < 16384) : ∃ r : ℝ, at2 q i j = r := by
  by_cases hj : j < 512
  · have e := congrFun h (ix2 ⟨i, hi⟩ ⟨j, hj⟩)
    obtain ⟨r, hr⟩ := real_of_below _ e
    refine ⟨r, hr ▸ ?_⟩
    rw [← at2_of q ⟨i, by omega⟩ ⟨j, hj⟩]
    show _ = q _
    congr 1
    funext z
    apply Fin.ext
    match z with
    | ⟨0, _⟩ => show i = 0 + i; omega
    | ⟨1, _⟩ => show j = 0 + j; omega
  · exact ⟨0, by unfold at2; rw [dif_neg (by omega)]; rfl⟩

/-- The first 16384 rows of the keys are real. -/
theorem real_k (h : (fn (F := Ideal) q k v table w).2.1 = fun _ => 1#1) (i j : ℕ) (hi : i < 16384) : ∃ r : ℝ, at2 k i j = r :=
  real_q k q v table w h i j hi

/-- The table is real. -/
theorem real_t (h : (fn (F := Ideal) q k v table w).2.2 = fun _ => 1#1) (i j : ℕ) : ∃ r : ℝ, at2 table i j = r := by
  by_cases hj : i < 8 ∧ j < 257
  · have e := congrFun h (ix2 ⟨i, hj.1⟩ ⟨j, hj.2⟩)
    obtain ⟨r, hr⟩ := real_of_below _ e
    exact ⟨r, hr ▸ (at2_of table ⟨i, hj.1⟩ ⟨j, hj.2⟩).symm⟩
  · exact ⟨0, by unfold at2; rw [dif_neg hj]; rfl⟩

end Cert.Attn
-- ==== Proof.lean ====
module

public import proofs.«01_k».proof.Defs
public import proofs.«01_k».proof.Proof.Launch.Kernel.Frame
public import proofs.«01_k».proof.Proof.Launch.KernelIdeal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Pre_experts
public import proofs.«01_k».proof.Proof.Gen.Pre_routed
public import proofs.«01_k».proof.Proof.Ffn.Kernel2.Frame
public import proofs.«01_k».proof.Proof.Ffn.Kernel2.Ok
public import proofs.«01_k».proof.Proof.Ffn.Routed
public import proofs.«01_k».proof.Proof.Ffn.Outs
public import proofs.«01_k».proof.Proof.Ffn.RefValue
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_dispatched
public import proofs.«01_k».proof.Proof.Ffn.RefPlain
public import proofs.«01_k».proof.Proof.Ffn.Dispatched
public import proofs.«01_k».proof.Proof.Attn.Outs
public import proofs.«01_k».proof.Proof.Attn.RefValue
public import proofs.«01_k».proof.Proof.Attn.Finite
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem Idealize.ShloMosaic.Pointwise

/-- The reference ends with its arguments as launched and no signal left. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both programs end with the attention's value at every element. -/
theorem algebraic_KernelIdeal_ReferenceIdeal_pre_finite : algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨hq, hk, ht⟩ := hpre c
  obtain ⟨a0, a1, a2, a3, a4⟩ := hagree c
  refine (h c).1.trans ?_
  refine (Cert.ReferenceIdeal.Read.val_main_v98_eq (F := Ideal) (StableHlo.launchContents m' c)).trans ?_
  rw [StableHlo.launchContents_devRef, StableHlo.launchContents_devRef, StableHlo.launchContents_devRef,
    StableHlo.launchContents_devRef, StableHlo.launchContents_devRef, a0, a1, a2, a3, a4]
  funext j
  have ej : j = ix2 (j 0) (j 1) := by
    funext z
    match z with
    | ⟨0, _⟩ => rfl
    | ⟨1, _⟩ => rfl
  rw [ej]
  refine (Cert.Attn.reference_value _ _ _ _ _ (j 0) (j 1)).trans ?_
  exact (Cert.Attn.G15_value m c (fun i j hi => Cert.Attn.real_q _ _ _ _ _ hq i j hi) (fun i j hi => Cert.Attn.real_k _ _ _ _ _ hk i j hi)
    (fun i j => Cert.Attn.real_t _ _ _ _ _ ht i j) (j 0) (j 1)).symm

/-- Routed tables keep the grouped SwiGLU's windows inside their arrays. -/
theorem ok_Kernel2Ideal (m : (ℓ : Loc Cert.Kernel2Ideal.nD Cert.Kernel2Ideal.τ Cert.Kernel2Ideal.sig) → Buf (Elt Ideal) ℓ)
    (hpre : Pre_Kernel2Ideal_routed m) : Cert.Kernel2Ideal.Gen.Ok m :=
  Cert.Kernel2Ideal.Gen.ok_of m fun t => Cert.Ffn.expert_lt _ _ _ _ _ _ (hpre 0).1 t

/-- The grouped SwiGLU as printed ends with its arguments as launched and no signal left. -/
theorem quiescent_Kernel2 : quiescent_Kernel2 := fun m ρ hpre =>
  Cert.Kernel2.Gen.frame m ρ (Cert.Kernel2.Gen.ok_of m fun t => Cert.Ffn.expert_in _ _ _ _ _ _ (hpre 0) t)

/-- So does the grouped SwiGLU over extended reals. -/
theorem quiescent_Kernel2Ideal : quiescent_Kernel2Ideal := fun m ρ hpre =>
  Cert.Kernel2Ideal.Gen.frame m ρ (Cert.Kernel2Ideal.Gen.ok_of m fun t => Cert.Ffn.expert_in _ _ _ _ _ _ (hpre 0) t)

/-- So does its reference. -/
theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Both programs end with the routed SwiGLU's value at every element. -/
theorem algebraic_Kernel2Ideal_Reference2Ideal : algebraic_Kernel2Ideal_Reference2Ideal_pre_routed := by
  intro m ρ m' ρ' hpre hagree
  refine ⟨_, Cert.Kernel2Ideal.Value.run (F := Ideal) m ρ (ok_Kernel2Ideal m hpre), ?_⟩
  refine (θ_run Cert.Reference2Ideal.defs _ _).mono (fun _ h c => ⟨?_, (h c).2⟩) (Cert.Reference2Ideal.Value.run (F := Ideal) m' ρ')
  obtain rfl : c = 0 := Subsingleton.elim _ _
  have hte := Cert.Ffn.expert_lt _ _ _ _ _ _ (hpre 0).1
  have htv := Cert.Ffn.tokens_le _ _ _ _ _ _ (hpre 0).2
  obtain ⟨a0, a1, a2, a3, a4, a5⟩ := hagree 0
  refine (h 0).1.trans ?_
  refine (Cert.Reference2Ideal.Read.val_main_v46_eq (F := Ideal) m' 0).trans ?_
  rw [a0, a1, a2, a3, a4, a5]
  funext j
  have ej : j = ix2 (j 0) (j 1) := by
    funext z
    match z with
    | ⟨0, _⟩ => rfl
    | ⟨1, _⟩ => rfl
  have hj : (j 0).val < 51200 := (j 0).isLt
  rw [ej]
  refine (Cert.Ffn.reference_value _ _ _ _ _ _ hte htv (j 0) (j 1) ⟨(j 0).val / 2048, by omega⟩ rfl).trans ?_
  exact (Cert.Ffn.result_value m (ok_Kernel2Ideal m hpre) 0 htv (j 0) (j 1) ⟨(j 0).val / 2048, by omega⟩ rfl).symm

/-- Dispatched rows have tables that keep the windows inside their arrays too. -/
theorem ok_dispatched (m : (ℓ : Loc Cert.Kernel2Ideal.nD Cert.Kernel2Ideal.τ Cert.Kernel2Ideal.sig) → Buf (Elt Ideal) ℓ)
    (hpre : Pre_Kernel2Ideal_dispatched m) : Cert.Kernel2Ideal.Gen.Ok m :=
  Cert.Kernel2Ideal.Gen.ok_of m fun t => Cert.Ffn.dispatched_expert _ _ _ _ _ _ (hpre 0).1 t

/-- The plain reference ends with its arguments as launched and no signal left. -/
theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- With zeros in the rows not in use, the call is every row's SwiGLU under its tile's expert. -/
theorem algebraic_Kernel2Ideal_Reference3Ideal : algebraic_Kernel2Ideal_Reference3Ideal_pre_dispatched := by
  intro m ρ m' ρ' hpre hagree
  refine ⟨_, Cert.Kernel2Ideal.Value.run (F := Ideal) m ρ (ok_dispatched m hpre), ?_⟩
  refine (θ_run Cert.Reference3Ideal.defs _ _).mono (fun _ h c => ⟨?_, (h c).2⟩) (Cert.Reference3Ideal.Value.run (F := Ideal) m' ρ')
  obtain rfl : c = 0 := Subsingleton.elim _ _
  have hte := Cert.Ffn.dispatched_expert _ _ _ _ _ _ (hpre 0).1
  have htv := Cert.Ffn.dispatched_tokens _ _ _ _ _ _ (hpre 0).2.1
  obtain ⟨a0, a1, a2, a3, a4, a5⟩ := hagree 0
  refine (h 0).1.trans ?_
  refine (Cert.Reference3Ideal.Read.val_main_v33_eq (F := Ideal) _ _ _ _ _).trans ?_
  rw [a0, a2, a3, a4, a5]
  funext j
  have ej : j = ix2 (j 0) (j 1) := by
    funext z
    match z with
    | ⟨0, _⟩ => rfl
    | ⟨1, _⟩ => rfl
  have hj : (j 0).val < 51200 := (j 0).isLt
  rw [ej]
  refine (Cert.Ffn.plain_value _ _ _ _ _ hte (j 0) (j 1) ⟨(j 0).val / 2048, by omega⟩ rfl).trans ?_
  refine Eq.trans ?_ (Cert.Ffn.result_value m (ok_dispatched m hpre) 0 htv (j 0) (j 1) ⟨(j 0).val / 2048, by omega⟩ rfl).symm
  split_ifs with hw
  · rfl
  · refine Cert.Ffn.expert_zero _ _ _ _ _ _ _ fun d => ?_
    have hle : (Cert.Kernel2Ideal.Gen.tokensW m ⟨(j 0).val / 2048, by omega⟩).toInt ≤ ((j 0).val % 2048 : ℕ) := by
      unfold Cert.Ffn.subs at hw
      omega
    have hz := Cert.Ffn.dispatched_zero _ _ _ _ _ _ (hpre 0).2.2 ⟨(j 0).val / 2048, by omega⟩
      ⟨(j 0).val % 2048, Nat.mod_lt _ (by decide)⟩ hle d
    rw [show 2048 * ((j 0).val / 2048) + (j 0).val % 2048 = (j 0).val by omega] at hz
    exact hz

/-- All that is claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Reference3Ideal.Gen.facts,
  Cert.Pre_finite.Gen.facts, Cert.Pre_experts.Gen.facts, Cert.Pre_routed.Gen.facts, Cert.Pre_dispatched.Gen.facts,
  fun m ρ _ => Cert.Kernel.Gen.frame m ρ, fun m ρ _ => Cert.KernelIdeal.Gen.frame m ρ,
  fun m ρ _ => Cert.KernelIdeal.Gen.frame m ρ, quiescent_ReferenceIdeal,
  fun m ρ _ => quiescent_ReferenceIdeal m ρ trivial,
  quiescent_Kernel2, quiescent_Kernel2Ideal, fun m ρ hpre => Cert.Kernel2Ideal.Gen.frame m ρ (ok_Kernel2Ideal m hpre),
  fun m ρ hpre => Cert.Kernel2Ideal.Gen.frame m ρ (ok_dispatched m hpre),
  quiescent_Reference2Ideal, fun m ρ _ => quiescent_Reference2Ideal m ρ trivial,
  quiescent_Reference3Ideal, fun m ρ _ => quiescent_Reference3Ideal m ρ trivial,
  ⟨IdealRules.named_const.statement Cert.KernelIdeal.κ "log2e" .f32 0x3FB8AA3B#32 _ rfl,
    IdealRules.named_const.statement Cert.KernelIdeal.κ "mask" .f32 0xF149F2CA#32 ⊥ rfl,
    IdealRules.named_const.statement Cert.KernelIdeal.κ "scale_log2e" .f32 0x3E38AA3B#32 _ rfl⟩,
  algebraic_KernelIdeal_ReferenceIdeal_pre_finite, trivial, algebraic_Kernel2Ideal_Reference2Ideal,
  algebraic_Kernel2Ideal_Reference3Ideal⟩

end Cert.Proof

end
